-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v387)) (v1 : (c : Dev Cert.KernelIdeal.nD) → Buf (Elt Ideal) ((c.tc : Thread Cert.KernelIdeal.nD Cert.KernelIdeal.τ).loc Cert.KernelIdeal.main_values_62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v387) = v0 c
          ∧ r.2.mem ((c.tc : Thread Cert.KernelIdeal.nD Cert.KernelIdeal.τ).loc Cert.KernelIdeal.main_values_62) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v665) = v0 c
          ∧ r.2.mem ((c.tc : Thread Cert.ReferenceIdeal.nD Cert.ReferenceIdeal.τ).loc Cert.ReferenceIdeal.main_values_166) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6x256x256 : Shape := ⟨4, ![1, 6, 256, 256]⟩
abbrev S1x6x128x128 : Shape := ⟨4, ![1, 6, 128, 128]⟩
abbrev S1x6x64x64 : Shape := ⟨4, ![1, 6, 64, 64]⟩
abbrev S1x6x32x32 : Shape := ⟨4, ![1, 6, 32, 32]⟩
abbrev S1x6x16x16 : Shape := ⟨4, ![1, 6, 16, 16]⟩
abbrev S1x12x256x256 : Shape := ⟨4, ![1, 12, 256, 256]⟩
abbrev S1x12x128x128 : Shape := ⟨4, ![1, 12, 128, 128]⟩
abbrev S1x12x64x64 : Shape := ⟨4, ![1, 12, 64, 64]⟩
abbrev S1x12x32x32 : Shape := ⟨4, ![1, 12, 32, 32]⟩
abbrev S1x12x16x16 : Shape := ⟨4, ![1, 12, 16, 16]⟩
abbrev S1x3 : Shape := ⟨2, ![1, 3]⟩
abbrev S3x4 : Shape := ⟨2, ![3, 4]⟩
abbrev S5 : Shape := ⟨1, ![5]⟩
abbrev S6 : Shape := ⟨1, ![6]⟩
abbrev S3072x128 : Shape := ⟨2, ![3072, 128]⟩
abbrev S768x128 : Shape := ⟨2, ![768, 128]⟩
abbrev S192x128 : Shape := ⟨2, ![192, 128]⟩
abbrev S48x128 : Shape := ⟨2, ![48, 128]⟩
abbrev S12x128 : Shape := ⟨2, ![12, 128]⟩
abbrev S6144x128 : Shape := ⟨2, ![6144, 128]⟩
abbrev S1536x128 : Shape := ⟨2, ![1536, 128]⟩
abbrev S384x128 : Shape := ⟨2, ![384, 128]⟩
abbrev S96x128 : Shape := ⟨2, ![96, 128]⟩
abbrev S24x128 : Shape := ⟨2, ![24, 128]⟩
abbrev S256 : Shape := ⟨1, ![256]⟩
abbrev S_ : Shape := ⟨0, ![]⟩
abbrev S3x1 : Shape := ⟨2, ![3, 1]⟩
abbrev S1x256 : Shape := ⟨2, ![1, 256]⟩
abbrev S3x256 : Shape := ⟨2, ![3, 256]⟩
abbrev S3x256x256 : Shape := ⟨3, ![3, 256, 256]⟩
abbrev S196608 : Shape := ⟨1, ![196608]⟩
abbrev S128 : Shape := ⟨1, ![128]⟩
abbrev S1x128 : Shape := ⟨2, ![1, 128]⟩
abbrev S3x128 : Shape := ⟨2, ![3, 128]⟩
abbrev S3x128x128 : Shape := ⟨3, ![3, 128, 128]⟩
abbrev S49152 : Shape := ⟨1, ![49152]⟩
abbrev S64 : Shape := ⟨1, ![64]⟩
abbrev S1x64 : Shape := ⟨2, ![1, 64]⟩
abbrev S3x64 : Shape := ⟨2, ![3, 64]⟩
abbrev S3x64x64 : Shape := ⟨3, ![3, 64, 64]⟩
abbrev S12288 : Shape := ⟨1, ![12288]⟩
abbrev S32 : Shape := ⟨1, ![32]⟩
abbrev S1x32 : Shape := ⟨2, ![1, 32]⟩
abbrev S3x32 : Shape := ⟨2, ![3, 32]⟩
abbrev S3x32x32 : Shape := ⟨3, ![3, 32, 32]⟩
abbrev S3072 : Shape := ⟨1, ![3072]⟩
abbrev S16 : Shape := ⟨1, ![16]⟩
abbrev S1x16 : Shape := ⟨2, ![1, 16]⟩
abbrev S3x16 : Shape := ⟨2, ![3, 16]⟩
abbrev S3x16x16 : Shape := ⟨3, ![3, 16, 16]⟩
abbrev S768 : Shape := ⟨1, ![768]⟩
abbrev S261888 : Shape := ⟨1, ![261888]⟩
abbrev S2046x128 : Shape := ⟨2, ![2046, 128]⟩
abbrev S1x1 : Shape := ⟨2, ![1, 1]⟩
abbrev S512x128 : Shape := ⟨2, ![512, 128]⟩
abbrev S128x128 : Shape := ⟨2, ![128, 128]⟩
abbrev S32x128 : Shape := ⟨2, ![32, 128]⟩
abbrev S8x128 : Shape := ⟨2, ![8, 128]⟩
abbrev S2x128 : Shape := ⟨2, ![2, 128]⟩
abbrev S3x65536 : Shape := ⟨2, ![3, 65536]⟩
abbrev S65536x3 : Shape := ⟨2, ![65536, 3]⟩
abbrev S3x16384 : Shape := ⟨2, ![3, 16384]⟩
abbrev S16384x3 : Shape := ⟨2, ![16384, 3]⟩
abbrev S3x4096 : Shape := ⟨2, ![3, 4096]⟩
abbrev S4096x3 : Shape := ⟨2, ![4096, 3]⟩
abbrev S3x1024 : Shape := ⟨2, ![3, 1024]⟩
abbrev S1024x3 : Shape := ⟨2, ![1024, 3]⟩
abbrev S6x128 : Shape := ⟨2, ![6, 128]⟩
abbrev S256x3 : Shape := ⟨2, ![256, 3]⟩
abbrev S2000 : Shape := ⟨1, ![2000]⟩
abbrev S2000x1 : Shape := ⟨2, ![2000, 1]⟩
abbrev S1x5 : Shape := ⟨2, ![1, 5]⟩
abbrev S2000x5 : Shape := ⟨2, ![2000, 5]⟩
abbrev S2048 : Shape := ⟨1, ![2048]⟩
abbrev S16x128 : Shape := ⟨2, ![16, 128]⟩
abbrev S1 : Shape := ⟨1, ![1]⟩
abbrev S1x16x128 : Shape := ⟨3, ![1, 16, 128]⟩
abbrev S1x1x1 : Shape := ⟨3, ![1, 1, 1]⟩
abbrev S1000 : Shape := ⟨1, ![1000]⟩
abbrev S1000x1 : Shape := ⟨2, ![1000, 1]⟩
abbrev S1000x5 : Shape := ⟨2, ![1000, 5]⟩

abbrev nBuf : Space → Nat
  | .hbm => 522
  | .vmem => 24
  | .smem => 5
  | _ => 0

abbrev hbmTy0_0 (i : Nat) : BufTy := match i % 128 with
  | 0 => ⟨S1x6x256x256, .f32⟩
  | 1 => ⟨S1x6x128x128, .f32⟩
  | 2 => ⟨S1x6x64x64, .f32⟩
  | 3 => ⟨S1x6x32x32, .f32⟩
  | 4 => ⟨S1x6x16x16, .f32⟩
  | 5 => ⟨S1x12x256x256, .f32⟩
  | 6 => ⟨S1x12x128x128, .f32⟩
  | 7 => ⟨S1x12x64x64, .f32⟩
  | 8 => ⟨S1x12x32x32, .f32⟩
  | 9 => ⟨S1x12x16x16, .f32⟩
  | 10 => ⟨S1x3, .f32⟩
  | 11 => ⟨S3x4, .f32⟩
  | 12 => ⟨S3x4, .f32⟩
  | 13 => ⟨S3x4, .f32⟩
  | 14 => ⟨S3x4, .f32⟩
  | 15 => ⟨S3x4, .f32⟩
  | 16 => ⟨S5, .i32⟩
  | 17 => ⟨S6, .i32⟩
  | 18 => ⟨S5, .i32⟩
  | 19 => ⟨S3072x128, .f32⟩
  | 20 => ⟨S768x128, .f32⟩
  | 21 => ⟨S192x128, .f32⟩
  | 22 => ⟨S48x128, .f32⟩
  | 23 => ⟨S12x128, .f32⟩
  | 24 => ⟨S6144x128, .f32⟩
  | 25 => ⟨S1536x128, .f32⟩
  | 26 => ⟨S384x128, .f32⟩
  | 27 => ⟨S96x128, .f32⟩
  | 28 => ⟨S24x128, .f32⟩
  | 29 => ⟨S256, .i32⟩
  | 30 => ⟨S256, .f32⟩
  | 31 => ⟨S_, .f32⟩
  | 32 => ⟨S256, .f32⟩
  | 33 => ⟨S256, .f32⟩
  | 34 => ⟨S3x1, .f32⟩
  | 35 => ⟨S1x256, .f32⟩
  | 36 => ⟨S3x256, .f32⟩
  | 37 => ⟨S3x256, .f32⟩
  | 38 => ⟨S3x256, .f32⟩
  | 39 => ⟨S3x1, .f32⟩
  | 40 => ⟨S1x256, .f32⟩
  | 41 => ⟨S3x256, .f32⟩
  | 42 => ⟨S3x256, .f32⟩
  | 43 => ⟨S3x256, .f32⟩
  | 44 => ⟨S3x1, .f32⟩
  | 45 => ⟨S1x256, .f32⟩
  | 46 => ⟨S3x256, .f32⟩
  | 47 => ⟨S3x256, .f32⟩
  | 48 => ⟨S3x256, .f32⟩
  | 49 => ⟨S3x1, .f32⟩
  | 50 => ⟨S1x256, .f32⟩
  | 51 => ⟨S3x256, .f32⟩
  | 52 => ⟨S3x256, .f32⟩
  | 53 => ⟨S3x256, .f32⟩
  | 54 => ⟨S3x256, .f32⟩
  | 55 => ⟨S_, .f32⟩
  | 56 => ⟨S3x256, .f32⟩
  | 57 => ⟨S3x256, .f32⟩
  | 58 => ⟨S3x256, .f32⟩
  | 59 => ⟨S_, .f32⟩
  | 60 => ⟨S3x256, .f32⟩
  | 61 => ⟨S3x256, .f32⟩
  | 62 => ⟨S_, .f32⟩
  | 63 => ⟨S3x256, .f32⟩
  | 64 => ⟨S3x256, .f32⟩
  | 65 => ⟨S_, .f32⟩
  | 66 => ⟨S3x256, .f32⟩
  | 67 => ⟨S3x256, .f32⟩
  | 68 => ⟨S3x256, .f32⟩
  | 69 => ⟨S_, .f32⟩
  | 70 => ⟨S3x256, .f32⟩
  | 71 => ⟨S3x256, .f32⟩
  | 72 => ⟨S_, .f32⟩
  | 73 => ⟨S3x256, .f32⟩
  | 74 => ⟨S3x256, .f32⟩
  | 75 => ⟨S3x256, .f32⟩
  | 76 => ⟨S3x256x256, .f32⟩
  | 77 => ⟨S196608, .f32⟩
  | 78 => ⟨S3x256x256, .f32⟩
  | 79 => ⟨S196608, .f32⟩
  | 80 => ⟨S3x256x256, .f32⟩
  | 81 => ⟨S196608, .f32⟩
  | 82 => ⟨S3x256x256, .f32⟩
  | 83 => ⟨S196608, .f32⟩
  | 84 => ⟨S128, .i32⟩
  | 85 => ⟨S128, .f32⟩
  | 86 => ⟨S_, .f32⟩
  | 87 => ⟨S128, .f32⟩
  | 88 => ⟨S128, .f32⟩
  | 89 => ⟨S3x1, .f32⟩
  | 90 => ⟨S1x128, .f32⟩
  | 91 => ⟨S3x128, .f32⟩
  | 92 => ⟨S3x128, .f32⟩
  | 93 => ⟨S3x128, .f32⟩
  | 94 => ⟨S3x1, .f32⟩
  | 95 => ⟨S1x128, .f32⟩
  | 96 => ⟨S3x128, .f32⟩
  | 97 => ⟨S3x128, .f32⟩
  | 98 => ⟨S3x128, .f32⟩
  | 99 => ⟨S3x1, .f32⟩
  | 100 => ⟨S1x128, .f32⟩
  | 101 => ⟨S3x128, .f32⟩
  | 102 => ⟨S3x128, .f32⟩
  | 103 => ⟨S3x128, .f32⟩
  | 104 => ⟨S3x1, .f32⟩
  | 105 => ⟨S1x128, .f32⟩
  | 106 => ⟨S3x128, .f32⟩
  | 107 => ⟨S3x128, .f32⟩
  | 108 => ⟨S3x128, .f32⟩
  | 109 => ⟨S3x128, .f32⟩
  | 110 => ⟨S_, .f32⟩
  | 111 => ⟨S3x128, .f32⟩
  | 112 => ⟨S3x128, .f32⟩
  | 113 => ⟨S3x128, .f32⟩
  | 114 => ⟨S_, .f32⟩
  | 115 => ⟨S3x128, .f32⟩
  | 116 => ⟨S3x128, .f32⟩
  | 117 => ⟨S_, .f32⟩
  | 118 => ⟨S3x128, .f32⟩
  | 119 => ⟨S3x128, .f32⟩
  | 120 => ⟨S_, .f32⟩
  | 121 => ⟨S3x128, .f32⟩
  | 122 => ⟨S3x128, .f32⟩
  | 123 => ⟨S3x128, .f32⟩
  | 124 => ⟨S_, .f32⟩
  | 125 => ⟨S3x128, .f32⟩
  | 126 => ⟨S3x128, .f32⟩
  | 127 => ⟨S_, .f32⟩
  | _ => ⟨S1x6x256x256, .f32⟩

abbrev hbmTy0_1 (i : Nat) : BufTy := match i % 128 with
  | 0 => ⟨S3x128, .f32⟩
  | 1 => ⟨S3x128, .f32⟩
  | 2 => ⟨S3x128, .f32⟩
  | 3 => ⟨S3x128x128, .f32⟩
  | 4 => ⟨S49152, .f32⟩
  | 5 => ⟨S3x128x128, .f32⟩
  | 6 => ⟨S49152, .f32⟩
  | 7 => ⟨S3x128x128, .f32⟩
  | 8 => ⟨S49152, .f32⟩
  | 9 => ⟨S3x128x128, .f32⟩
  | 10 => ⟨S49152, .f32⟩
  | 11 => ⟨S64, .i32⟩
  | 12 => ⟨S64, .f32⟩
  | 13 => ⟨S_, .f32⟩
  | 14 => ⟨S64, .f32⟩
  | 15 => ⟨S64, .f32⟩
  | 16 => ⟨S3x1, .f32⟩
  | 17 => ⟨S1x64, .f32⟩
  | 18 => ⟨S3x64, .f32⟩
  | 19 => ⟨S3x64, .f32⟩
  | 20 => ⟨S3x64, .f32⟩
  | 21 => ⟨S3x1, .f32⟩
  | 22 => ⟨S1x64, .f32⟩
  | 23 => ⟨S3x64, .f32⟩
  | 24 => ⟨S3x64, .f32⟩
  | 25 => ⟨S3x64, .f32⟩
  | 26 => ⟨S3x1, .f32⟩
  | 27 => ⟨S1x64, .f32⟩
  | 28 => ⟨S3x64, .f32⟩
  | 29 => ⟨S3x64, .f32⟩
  | 30 => ⟨S3x64, .f32⟩
  | 31 => ⟨S3x1, .f32⟩
  | 32 => ⟨S1x64, .f32⟩
  | 33 => ⟨S3x64, .f32⟩
  | 34 => ⟨S3x64, .f32⟩
  | 35 => ⟨S3x64, .f32⟩
  | 36 => ⟨S3x64, .f32⟩
  | 37 => ⟨S_, .f32⟩
  | 38 => ⟨S3x64, .f32⟩
  | 39 => ⟨S3x64, .f32⟩
  | 40 => ⟨S3x64, .f32⟩
  | 41 => ⟨S_, .f32⟩
  | 42 => ⟨S3x64, .f32⟩
  | 43 => ⟨S3x64, .f32⟩
  | 44 => ⟨S_, .f32⟩
  | 45 => ⟨S3x64, .f32⟩
  | 46 => ⟨S3x64, .f32⟩
  | 47 => ⟨S_, .f32⟩
  | 48 => ⟨S3x64, .f32⟩
  | 49 => ⟨S3x64, .f32⟩
  | 50 => ⟨S3x64, .f32⟩
  | 51 => ⟨S_, .f32⟩
  | 52 => ⟨S3x64, .f32⟩
  | 53 => ⟨S3x64, .f32⟩
  | 54 => ⟨S_, .f32⟩
  | 55 => ⟨S3x64, .f32⟩
  | 56 => ⟨S3x64, .f32⟩
  | 57 => ⟨S3x64, .f32⟩
  | 58 => ⟨S3x64x64, .f32⟩
  | 59 => ⟨S12288, .f32⟩
  | 60 => ⟨S3x64x64, .f32⟩
  | 61 => ⟨S12288, .f32⟩
  | 62 => ⟨S3x64x64, .f32⟩
  | 63 => ⟨S12288, .f32⟩
  | 64 => ⟨S3x64x64, .f32⟩
  | 65 => ⟨S12288, .f32⟩
  | 66 => ⟨S32, .i32⟩
  | 67 => ⟨S32, .f32⟩
  | 68 => ⟨S_, .f32⟩
  | 69 => ⟨S32, .f32⟩
  | 70 => ⟨S32, .f32⟩
  | 71 => ⟨S3x1, .f32⟩
  | 72 => ⟨S1x32, .f32⟩
  | 73 => ⟨S3x32, .f32⟩
  | 74 => ⟨S3x32, .f32⟩
  | 75 => ⟨S3x32, .f32⟩
  | 76 => ⟨S3x1, .f32⟩
  | 77 => ⟨S1x32, .f32⟩
  | 78 => ⟨S3x32, .f32⟩
  | 79 => ⟨S3x32, .f32⟩
  | 80 => ⟨S3x32, .f32⟩
  | 81 => ⟨S3x1, .f32⟩
  | 82 => ⟨S1x32, .f32⟩
  | 83 => ⟨S3x32, .f32⟩
  | 84 => ⟨S3x32, .f32⟩
  | 85 => ⟨S3x32, .f32⟩
  | 86 => ⟨S3x1, .f32⟩
  | 87 => ⟨S1x32, .f32⟩
  | 88 => ⟨S3x32, .f32⟩
  | 89 => ⟨S3x32, .f32⟩
  | 90 => ⟨S3x32, .f32⟩
  | 91 => ⟨S3x32, .f32⟩
  | 92 => ⟨S_, .f32⟩
  | 93 => ⟨S3x32, .f32⟩
  | 94 => ⟨S3x32, .f32⟩
  | 95 => ⟨S3x32, .f32⟩
  | 96 => ⟨S_, .f32⟩
  | 97 => ⟨S3x32, .f32⟩
  | 98 => ⟨S3x32, .f32⟩
  | 99 => ⟨S_, .f32⟩
  | 100 => ⟨S3x32, .f32⟩
  | 101 => ⟨S3x32, .f32⟩
  | 102 => ⟨S_, .f32⟩
  | 103 => ⟨S3x32, .f32⟩
  | 104 => ⟨S3x32, .f32⟩
  | 105 => ⟨S3x32, .f32⟩
  | 106 => ⟨S_, .f32⟩
  | 107 => ⟨S3x32, .f32⟩
  | 108 => ⟨S3x32, .f32⟩
  | 109 => ⟨S_, .f32⟩
  | 110 => ⟨S3x32, .f32⟩
  | 111 => ⟨S3x32, .f32⟩
  | 112 => ⟨S3x32, .f32⟩
  | 113 => ⟨S3x32x32, .f32⟩
  | 114 => ⟨S3072, .f32⟩
  | 115 => ⟨S3x32x32, .f32⟩
  | 116 => ⟨S3072, .f32⟩
  | 117 => ⟨S3x32x32, .f32⟩
  | 118 => ⟨S3072, .f32⟩
  | 119 => ⟨S3x32x32, .f32⟩
  | 120 => ⟨S3072, .f32⟩
  | 121 => ⟨S16, .i32⟩
  | 122 => ⟨S16, .f32⟩
  | 123 => ⟨S_, .f32⟩
  | 124 => ⟨S16, .f32⟩
  | 125 => ⟨S16, .f32⟩
  | 126 => ⟨S3x1, .f32⟩
  | 127 => ⟨S1x16, .f32⟩
  | _ => ⟨S1x6x256x256, .f32⟩

abbrev hbmTy0_2 (i : Nat) : BufTy := match i % 128 with
  | 0 => ⟨S3x16, .f32⟩
  | 1 => ⟨S3x16, .f32⟩
  | 2 => ⟨S3x16, .f32⟩
  | 3 => ⟨S3x1, .f32⟩
  | 4 => ⟨S1x16, .f32⟩
  | 5 => ⟨S3x16, .f32⟩
  | 6 => ⟨S3x16, .f32⟩
  | 7 => ⟨S3x16, .f32⟩
  | 8 => ⟨S3x1, .f32⟩
  | 9 => ⟨S1x16, .f32⟩
  | 10 => ⟨S3x16, .f32⟩
  | 11 => ⟨S3x16, .f32⟩
  | 12 => ⟨S3x16, .f32⟩
  | 13 => ⟨S3x1, .f32⟩
  | 14 => ⟨S1x16, .f32⟩
  | 15 => ⟨S3x16, .f32⟩
  | 16 => ⟨S3x16, .f32⟩
  | 17 => ⟨S3x16, .f32⟩
  | 18 => ⟨S3x16, .f32⟩
  | 19 => ⟨S_, .f32⟩
  | 20 => ⟨S3x16, .f32⟩
  | 21 => ⟨S3x16, .f32⟩
  | 22 => ⟨S3x16, .f32⟩
  | 23 => ⟨S_, .f32⟩
  | 24 => ⟨S3x16, .f32⟩
  | 25 => ⟨S3x16, .f32⟩
  | 26 => ⟨S_, .f32⟩
  | 27 => ⟨S3x16, .f32⟩
  | 28 => ⟨S3x16, .f32⟩
  | 29 => ⟨S_, .f32⟩
  | 30 => ⟨S3x16, .f32⟩
  | 31 => ⟨S3x16, .f32⟩
  | 32 => ⟨S3x16, .f32⟩
  | 33 => ⟨S_, .f32⟩
  | 34 => ⟨S3x16, .f32⟩
  | 35 => ⟨S3x16, .f32⟩
  | 36 => ⟨S_, .f32⟩
  | 37 => ⟨S3x16, .f32⟩
  | 38 => ⟨S3x16, .f32⟩
  | 39 => ⟨S3x16, .f32⟩
  | 40 => ⟨S3x16x16, .f32⟩
  | 41 => ⟨S768, .f32⟩
  | 42 => ⟨S3x16x16, .f32⟩
  | 43 => ⟨S768, .f32⟩
  | 44 => ⟨S3x16x16, .f32⟩
  | 45 => ⟨S768, .f32⟩
  | 46 => ⟨S3x16x16, .f32⟩
  | 47 => ⟨S768, .f32⟩
  | 48 => ⟨S261888, .f32⟩
  | 49 => ⟨S2046x128, .f32⟩
  | 50 => ⟨S261888, .f32⟩
  | 51 => ⟨S2046x128, .f32⟩
  | 52 => ⟨S261888, .f32⟩
  | 53 => ⟨S2046x128, .f32⟩
  | 54 => ⟨S261888, .f32⟩
  | 55 => ⟨S2046x128, .f32⟩
  | 56 => ⟨S2046x128, .f32⟩
  | 57 => ⟨S2046x128, .f32⟩
  | 58 => ⟨S2046x128, .f32⟩
  | 59 => ⟨S2046x128, .f32⟩
  | 60 => ⟨S2046x128, .f32⟩
  | 61 => ⟨S1536x128, .f32⟩
  | 62 => ⟨S3x65536, .f32⟩
  | 63 => ⟨S65536x3, .f32⟩
  | 64 => ⟨S196608, .f32⟩
  | 65 => ⟨S384x128, .f32⟩
  | 66 => ⟨S3x16384, .f32⟩
  | 67 => ⟨S16384x3, .f32⟩
  | 68 => ⟨S49152, .f32⟩
  | 69 => ⟨S96x128, .f32⟩
  | 70 => ⟨S3x4096, .f32⟩
  | 71 => ⟨S4096x3, .f32⟩
  | 72 => ⟨S12288, .f32⟩
  | 73 => ⟨S24x128, .f32⟩
  | 74 => ⟨S3x1024, .f32⟩
  | 75 => ⟨S1024x3, .f32⟩
  | 76 => ⟨S3072, .f32⟩
  | 77 => ⟨S6x128, .f32⟩
  | 78 => ⟨S3x256, .f32⟩
  | 79 => ⟨S256x3, .f32⟩
  | 80 => ⟨S768, .f32⟩
  | 81 => ⟨S261888, .f32⟩
  | 82 => ⟨S2000, .f32⟩
  | 83 => ⟨S2000, .i32⟩
  | 84 => ⟨S2000x1, .i32⟩
  | 85 => ⟨S1x5, .i32⟩
  | 86 => ⟨S2000x5, .i32⟩
  | 87 => ⟨S2000x5, .i32⟩
  | 88 => ⟨S2000x5, .i1⟩
  | 89 => ⟨S2000x5, .i32⟩
  | 90 => ⟨S_, .i32⟩
  | 91 => ⟨S2000, .i32⟩
  | 92 => ⟨S_, .i32⟩
  | 93 => ⟨S2000, .i32⟩
  | 94 => ⟨S2000, .i1⟩
  | 95 => ⟨S_, .i32⟩
  | 96 => ⟨S2000, .i32⟩
  | 97 => ⟨S2000, .i32⟩
  | 98 => ⟨S2000, .i32⟩
  | 99 => ⟨S2000x1, .i32⟩
  | 100 => ⟨S2000, .i32⟩
  | 101 => ⟨S_, .i32⟩
  | 102 => ⟨S2000, .i32⟩
  | 103 => ⟨S2000, .i1⟩
  | 104 => ⟨S_, .i32⟩
  | 105 => ⟨S2000, .i32⟩
  | 106 => ⟨S2000, .i32⟩
  | 107 => ⟨S2000, .i32⟩
  | 108 => ⟨S2000x1, .i32⟩
  | 109 => ⟨S2000, .i32⟩
  | 110 => ⟨S2000, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S2000, .i32⟩
  | 118 => ⟨S2000, .i32⟩
  | 119 => ⟨S_, .i32⟩
  | 120 => ⟨S2000, .i32⟩
  | 121 => ⟨S2000, .i1⟩
  | 122 => ⟨S_, .i32⟩
  | 123 => ⟨S2000, .i32⟩
  | 124 => ⟨S2000, .i1⟩
  | 125 => ⟨S_, .i32⟩
  | 126 => ⟨S_, .i1⟩
  | 127 => ⟨S2000, .i1⟩
  | _ => ⟨S1x6x256x256, .f32⟩

abbrev hbmTy0_3 (i : Nat) : BufTy := match i % 128 with
  | 0 => ⟨S2000, .i1⟩
  | 1 => ⟨S2000, .i1⟩
  | 2 => ⟨S2000, .i32⟩
  | 3 => ⟨S2000, .i32⟩
  | 4 => ⟨S2000, .i32⟩
  | 5 => ⟨S2000, .i32⟩
  | 6 => ⟨S2000, .i32⟩
  | 7 => ⟨S_, .i32⟩
  | 8 => ⟨S_, .i32⟩
  | 9 => ⟨S2000, .i32⟩
  | 10 => ⟨S2000, .i32⟩
  | 11 => ⟨S2000, .i32⟩
  | 12 => ⟨S_, .i32⟩
  | 13 => ⟨S2000, .i32⟩
  | 14 => ⟨S2000, .i1⟩
  | 15 => ⟨S2000, .i32⟩
  | 16 => ⟨S2000, .i32⟩
  | 17 => ⟨S_, .i32⟩
  | 18 => ⟨S2000, .i32⟩
  | 19 => ⟨S2000, .i1⟩
  | 20 => ⟨S2000, .i1⟩
  | 21 => ⟨S_, .i32⟩
  | 22 => ⟨S2000, .i32⟩
  | 23 => ⟨S2000, .i32⟩
  | 24 => ⟨S2000, .i32⟩
  | 25 => ⟨S2000, .i32⟩
  | 26 => ⟨S261888, .f32⟩
  | 27 => ⟨S_, .i32⟩
  | 28 => ⟨S2000, .i32⟩
  | 29 => ⟨S2000, .i1⟩
  | 30 => ⟨S_, .i32⟩
  | 31 => ⟨S2000, .i32⟩
  | 32 => ⟨S2000, .i32⟩
  | 33 => ⟨S2000, .i32⟩
  | 34 => ⟨S2000x1, .i32⟩
  | 35 => ⟨S2000, .f32⟩
  | 36 => ⟨S261888, .f32⟩
  | 37 => ⟨S_, .i32⟩
  | 38 => ⟨S2000, .i32⟩
  | 39 => ⟨S2000, .i1⟩
  | 40 => ⟨S_, .i32⟩
  | 41 => ⟨S2000, .i32⟩
  | 42 => ⟨S2000, .i32⟩
  | 43 => ⟨S2000, .i32⟩
  | 44 => ⟨S2000x1, .i32⟩
  | 45 => ⟨S2000, .f32⟩
  | 46 => ⟨S261888, .f32⟩
  | 47 => ⟨S_, .i32⟩
  | 48 => ⟨S2000, .i32⟩
  | 49 => ⟨S2000, .i1⟩
  | 50 => ⟨S_, .i32⟩
  | 51 => ⟨S2000, .i32⟩
  | 52 => ⟨S2000, .i32⟩
  | 53 => ⟨S2000, .i32⟩
  | 54 => ⟨S2000x1, .i32⟩
  | 55 => ⟨S2000, .f32⟩
  | 56 => ⟨S261888, .f32⟩
  | 57 => ⟨S_, .i32⟩
  | 58 => ⟨S2000, .i32⟩
  | 59 => ⟨S2000, .i1⟩
  | 60 => ⟨S_, .i32⟩
  | 61 => ⟨S2000, .i32⟩
  | 62 => ⟨S2000, .i32⟩
  | 63 => ⟨S2000, .i32⟩
  | 64 => ⟨S2000x1, .i32⟩
  | 65 => ⟨S2000, .f32⟩
  | 66 => ⟨S_, .i32⟩
  | 67 => ⟨S_, .f32⟩
  | 68 => ⟨S2048, .f32⟩
  | 69 => ⟨S_, .i32⟩
  | 70 => ⟨S_, .f32⟩
  | 71 => ⟨S2048, .f32⟩
  | 72 => ⟨S_, .i32⟩
  | 73 => ⟨S_, .f32⟩
  | 74 => ⟨S2048, .f32⟩
  | 75 => ⟨S_, .i32⟩
  | 76 => ⟨S_, .f32⟩
  | 77 => ⟨S2048, .f32⟩
  | 78 => ⟨S16x128, .f32⟩
  | 79 => ⟨S16x128, .f32⟩
  | 80 => ⟨S16x128, .f32⟩
  | 81 => ⟨S16x128, .f32⟩
  | 82 => ⟨S16x128, .f32⟩
  | 83 => ⟨S2048, .f32⟩
  | 84 => ⟨S2000, .f32⟩
  | 85 => ⟨S_, .f32⟩
  | 86 => ⟨S2000, .f32⟩
  | 87 => ⟨S2000, .i1⟩
  | 88 => ⟨S_, .f32⟩
  | 89 => ⟨S_, .f32⟩
  | 90 => ⟨S2000, .f32⟩
  | 91 => ⟨S2000, .f32⟩
  | 92 => ⟨S1000, .f32⟩
  | 93 => ⟨S1000, .i32⟩
  | 94 => ⟨S_, .f32⟩
  | 95 => ⟨S1000, .f32⟩
  | 96 => ⟨S_, .i32⟩
  | 97 => ⟨S1000, .i32⟩
  | 98 => ⟨S1000, .i1⟩
  | 99 => ⟨S_, .i32⟩
  | 100 => ⟨S1000, .i32⟩
  | 101 => ⟨S1000, .i32⟩
  | 102 => ⟨S1000, .i32⟩
  | 103 => ⟨S1000x1, .i32⟩
  | 104 => ⟨S1000, .f32⟩
  | 105 => ⟨S_, .i32⟩
  | 106 => ⟨S1000, .i32⟩
  | 107 => ⟨S1000, .i1⟩
  | 108 => ⟨S_, .i32⟩
  | 109 => ⟨S1000, .i32⟩
  | 110 => ⟨S1000, .i32⟩
  | 111 => ⟨S1000, .i32⟩
  | 112 => ⟨S1000x1, .i32⟩
  | 113 => ⟨S1000, .f32⟩
  | 114 => ⟨S_, .i32⟩
  | 115 => ⟨S1000, .i32⟩
  | 116 => ⟨S1000, .i1⟩
  | 117 => ⟨S_, .i32⟩
  | 118 => ⟨S1000, .i32⟩
  | 119 => ⟨S1000, .i32⟩
  | 120 => ⟨S1000, .i32⟩
  | 121 => ⟨S1000x1, .i32⟩
  | 122 => ⟨S1000, .f32⟩
  | 123 => ⟨S_, .i32⟩
  | 124 => ⟨S1000, .i32⟩
  | 125 => ⟨S1000, .i1⟩
  | 126 => ⟨S_, .i32⟩
  | 127 => ⟨S1000, .i32⟩
  | _ => ⟨S1x6x256x256, .f32⟩

abbrev hbmTy0_4 (i : Nat) : BufTy := match i % 128 with
  | 0 => ⟨S1000, .i32⟩
  | 1 => ⟨S1000, .i32⟩
  | 2 => ⟨S1000x1, .i32⟩
  | 3 => ⟨S1000, .f32⟩
  | 4 => ⟨S1000x1, .f32⟩
  | 5 => ⟨S1000x1, .f32⟩
  | 6 => ⟨S1000x1, .f32⟩
  | 7 => ⟨S1000x1, .f32⟩
  | 8 => ⟨S1000x1, .f32⟩
  | 9 => ⟨S1000x5, .f32⟩
  | _ => ⟨S1x6x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1x6x256x256, .f32⟩

abbrev bufTy : (tb : Table) → Fin (tcTables nBuf tb) → BufTy
  | .hbm, ⟨i, _⟩ => hbmTy i
  | .local _ .vmem, ⟨0, _⟩ => ⟨S3072x128, .f32⟩
  | .local _ .vmem, ⟨1, _⟩ => ⟨S768x128, .f32⟩
  | .local _ .vmem, ⟨2, _⟩ => ⟨S192x128, .f32⟩
  | .local _ .vmem, ⟨3, _⟩ => ⟨S48x128, .f32⟩
  | .local _ .vmem, ⟨4, _⟩ => ⟨S12x128, .f32⟩
  | .local _ .vmem, ⟨5, _⟩ => ⟨S6144x128, .f32⟩
  | .local _ .vmem, ⟨6, _⟩ => ⟨S1536x128, .f32⟩
  | .local _ .vmem, ⟨7, _⟩ => ⟨S384x128, .f32⟩
  | .local _ .vmem, ⟨8, _⟩ => ⟨S96x128, .f32⟩
  | .local _ .vmem, ⟨9, _⟩ => ⟨S24x128, .f32⟩
  | .local _ .vmem, ⟨10, _⟩ => ⟨S2046x128, .f32⟩
  | .local _ .vmem, ⟨11, _⟩ => ⟨S2046x128, .f32⟩
  | .local _ .vmem, ⟨12, _⟩ => ⟨S2046x128, .f32⟩
  | .local _ .vmem, ⟨13, _⟩ => ⟨S2046x128, .f32⟩
  | .local _ .vmem, ⟨14, _⟩ => ⟨S2046x128, .f32⟩
  | .local _ .vmem, ⟨15, _⟩ => ⟨S2046x128, .f32⟩
  | .local _ .vmem, ⟨16, _⟩ => ⟨S2046x128, .f32⟩
  | .local _ .vmem, ⟨17, _⟩ => ⟨S2046x128, .f32⟩
  | .local _ .vmem, ⟨18, _⟩ => ⟨S2046x128, .f32⟩
  | .local _ .vmem, ⟨19, _⟩ => ⟨S16x128, .f32⟩
  | .local _ .vmem, ⟨20, _⟩ => ⟨S16x128, .f32⟩
  | .local _ .vmem, ⟨21, _⟩ => ⟨S16x128, .f32⟩
  | .local _ .vmem, ⟨22, _⟩ => ⟨S16x128, .f32⟩
  | .local _ .vmem, ⟨23, _⟩ => ⟨S16x128, .f32⟩
  | .local _ .smem, ⟨0, _⟩ => ⟨S1x3, .f32⟩
  | .local _ .smem, ⟨1, _⟩ => ⟨S2048, .f32⟩
  | .local _ .smem, ⟨2, _⟩ => ⟨S2048, .f32⟩
  | .local _ .smem, ⟨3, _⟩ => ⟨S2048, .f32⟩
  | .local _ .smem, ⟨4, _⟩ => ⟨S2048, .f32⟩
  | _, _ => ⟨S1x6x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_cst_2 : Ref sig .tc := ⟨.hbm, 14, rfl⟩
abbrev main_cst_3 : Ref sig .tc := ⟨.hbm, 15, rfl⟩
abbrev main_c : Ref sig .tc := ⟨.hbm, 16, rfl⟩
abbrev main_c_4 : Ref sig .tc := ⟨.hbm, 17, rfl⟩
abbrev main_c_5 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_6 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_cst_10 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_11 : Ref sig .tc := ⟨.hbm, 69, rfl⟩
abbrev main_v45 : Ref sig .tc := ⟨.hbm, 70, rfl⟩
abbrev main_v46 : Ref sig .tc := ⟨.hbm, 71, rfl⟩
abbrev main_cst_12 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_14 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_cst_15 : Ref sig .tc := ⟨.hbm, 114, rfl⟩
abbrev main_v86 : Ref sig .tc := ⟨.hbm, 115, rfl⟩
abbrev main_v87 : Ref sig .tc := ⟨.hbm, 116, rfl⟩
abbrev main_cst_16 : Ref sig .tc := ⟨.hbm, 117, rfl⟩
abbrev main_v88 : Ref sig .tc := ⟨.hbm, 118, rfl⟩
abbrev main_v89 : Ref sig .tc := ⟨.hbm, 119, rfl⟩
abbrev main_cst_17 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_cst_18 : Ref sig .tc := ⟨.hbm, 124, rfl⟩
abbrev main_v93 : Ref sig .tc := ⟨.hbm, 125, rfl⟩
abbrev main_v94 : Ref sig .tc := ⟨.hbm, 126, rfl⟩
abbrev main_cst_19 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_cst_20 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_cst_21 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_22 : Ref sig .tc := ⟨.hbm, 169, rfl⟩
abbrev main_v134 : Ref sig .tc := ⟨.hbm, 170, rfl⟩
abbrev main_v135 : Ref sig .tc := ⟨.hbm, 171, rfl⟩
abbrev main_cst_23 : Ref sig .tc := ⟨.hbm, 172, rfl⟩
abbrev main_v136 : Ref sig .tc := ⟨.hbm, 173, rfl⟩
abbrev main_v137 : Ref sig .tc := ⟨.hbm, 174, rfl⟩
abbrev main_cst_24 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_cst_25 : Ref sig .tc := ⟨.hbm, 179, rfl⟩
abbrev main_v141 : Ref sig .tc := ⟨.hbm, 180, rfl⟩
abbrev main_v142 : Ref sig .tc := ⟨.hbm, 181, rfl⟩
abbrev main_cst_26 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_cst_27 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_v178 : Ref sig .tc := ⟨.hbm, 219, rfl⟩
abbrev main_cst_28 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_cst_29 : Ref sig .tc := ⟨.hbm, 224, rfl⟩
abbrev main_v182 : Ref sig .tc := ⟨.hbm, 225, rfl⟩
abbrev main_v183 : Ref sig .tc := ⟨.hbm, 226, rfl⟩
abbrev main_cst_30 : Ref sig .tc := ⟨.hbm, 227, rfl⟩
abbrev main_v184 : Ref sig .tc := ⟨.hbm, 228, rfl⟩
abbrev main_v185 : Ref sig .tc := ⟨.hbm, 229, rfl⟩
abbrev main_cst_31 : Ref sig .tc := ⟨.hbm, 230, rfl⟩
abbrev main_v186 : Ref sig .tc := ⟨.hbm, 231, rfl⟩
abbrev main_v187 : Ref sig .tc := ⟨.hbm, 232, rfl⟩
abbrev main_v188 : Ref sig .tc := ⟨.hbm, 233, rfl⟩
abbrev main_cst_32 : Ref sig .tc := ⟨.hbm, 234, rfl⟩
abbrev main_v189 : Ref sig .tc := ⟨.hbm, 235, rfl⟩
abbrev main_v190 : Ref sig .tc := ⟨.hbm, 236, rfl⟩
abbrev main_cst_33 : Ref sig .tc := ⟨.hbm, 237, rfl⟩
abbrev main_v191 : Ref sig .tc := ⟨.hbm, 238, rfl⟩
abbrev main_v192 : Ref sig .tc := ⟨.hbm, 239, rfl⟩
abbrev main_v193 : Ref sig .tc := ⟨.hbm, 240, rfl⟩
abbrev main_v194 : Ref sig .tc := ⟨.hbm, 241, rfl⟩
abbrev main_v195 : Ref sig .tc := ⟨.hbm, 242, rfl⟩
abbrev main_v196 : Ref sig .tc := ⟨.hbm, 243, rfl⟩
abbrev main_v197 : Ref sig .tc := ⟨.hbm, 244, rfl⟩
abbrev main_v198 : Ref sig .tc := ⟨.hbm, 245, rfl⟩
abbrev main_v199 : Ref sig .tc := ⟨.hbm, 246, rfl⟩
abbrev main_v200 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_cst_34 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_v213 : Ref sig .tc := ⟨.hbm, 261, rfl⟩
abbrev main_v214 : Ref sig .tc := ⟨.hbm, 262, rfl⟩
abbrev main_v215 : Ref sig .tc := ⟨.hbm, 263, rfl⟩
abbrev main_v216 : Ref sig .tc := ⟨.hbm, 264, rfl⟩
abbrev main_v217 : Ref sig .tc := ⟨.hbm, 265, rfl⟩
abbrev main_v218 : Ref sig .tc := ⟨.hbm, 266, rfl⟩
abbrev main_v219 : Ref sig .tc := ⟨.hbm, 267, rfl⟩
abbrev main_v220 : Ref sig .tc := ⟨.hbm, 268, rfl⟩
abbrev main_v221 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_cst_35 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_cst_36 : Ref sig .tc := ⟨.hbm, 279, rfl⟩
abbrev main_v230 : Ref sig .tc := ⟨.hbm, 280, rfl⟩
abbrev main_v231 : Ref sig .tc := ⟨.hbm, 281, rfl⟩
abbrev main_cst_37 : Ref sig .tc := ⟨.hbm, 282, rfl⟩
abbrev main_v232 : Ref sig .tc := ⟨.hbm, 283, rfl⟩
abbrev main_v233 : Ref sig .tc := ⟨.hbm, 284, rfl⟩
abbrev main_cst_38 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_cst_39 : Ref sig .tc := ⟨.hbm, 289, rfl⟩
abbrev main_v237 : Ref sig .tc := ⟨.hbm, 290, rfl⟩
abbrev main_v238 : Ref sig .tc := ⟨.hbm, 291, rfl⟩
abbrev main_cst_40 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258_0 : Ref sig .tc := ⟨.hbm, 312, rfl⟩
abbrev main_v258_1 : Ref sig .tc := ⟨.hbm, 313, rfl⟩
abbrev main_v258_2 : Ref sig .tc := ⟨.hbm, 314, rfl⟩
abbrev main_v258_3 : Ref sig .tc := ⟨.hbm, 315, rfl⟩
abbrev main_v258_4 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_values : Ref sig .tc := ⟨.hbm, 338, rfl⟩
abbrev main_indices : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_c_41 : Ref sig .tc := ⟨.hbm, 346, rfl⟩
abbrev main_v286 : Ref sig .tc := ⟨.hbm, 347, rfl⟩
abbrev main_c_42 : Ref sig .tc := ⟨.hbm, 348, rfl⟩
abbrev main_v287 : Ref sig .tc := ⟨.hbm, 349, rfl⟩
abbrev main_v288 : Ref sig .tc := ⟨.hbm, 350, rfl⟩
abbrev main_c_43 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_c_44 : Ref sig .tc := ⟨.hbm, 357, rfl⟩
abbrev main_v294 : Ref sig .tc := ⟨.hbm, 358, rfl⟩
abbrev main_v295 : Ref sig .tc := ⟨.hbm, 359, rfl⟩
abbrev main_c_45 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_v300 : Ref sig .tc := ⟨.hbm, 365, rfl⟩
abbrev main_v301 : Ref sig .tc := ⟨.hbm, 366, rfl⟩
abbrev main_c_46 : Ref sig .tc := ⟨.hbm, 367, rfl⟩
abbrev main_call0_v0 : Ref sig .tc := ⟨.hbm, 368, rfl⟩
abbrev main_call0_c : Ref sig .tc := ⟨.hbm, 369, rfl⟩
abbrev main_call0_v1 : Ref sig .tc := ⟨.hbm, 370, rfl⟩
abbrev main_call0_c_0 : Ref sig .tc := ⟨.hbm, 371, rfl⟩
abbrev main_call0_v2 : Ref sig .tc := ⟨.hbm, 372, rfl⟩
abbrev main_call0_v3 : Ref sig .tc := ⟨.hbm, 373, rfl⟩
abbrev main_call0_v4 : Ref sig .tc := ⟨.hbm, 374, rfl⟩
abbrev main_call0_c_1 : Ref sig .tc := ⟨.hbm, 375, rfl⟩
abbrev main_call0_v5 : Ref sig .tc := ⟨.hbm, 376, rfl⟩
abbrev main_call0_v6 : Ref sig .tc := ⟨.hbm, 377, rfl⟩
abbrev main_call0_c_2 : Ref sig .tc := ⟨.hbm, 378, rfl⟩
abbrev main_call0_v7 : Ref sig .tc := ⟨.hbm, 379, rfl⟩
abbrev main_call0_v8 : Ref sig .tc := ⟨.hbm, 380, rfl⟩
abbrev main_call0_c_3 : Ref sig .tc := ⟨.hbm, 381, rfl⟩
abbrev main_call0_v9 : Ref sig .tc := ⟨.hbm, 382, rfl⟩
abbrev main_call0_v10 : Ref sig .tc := ⟨.hbm, 383, rfl⟩
abbrev main_call0_v11 : Ref sig .tc := ⟨.hbm, 384, rfl⟩
abbrev main_call0_v12 : Ref sig .tc := ⟨.hbm, 385, rfl⟩
abbrev main_call0_v13 : Ref sig .tc := ⟨.hbm, 386, rfl⟩
abbrev main_call0_v14 : Ref sig .tc := ⟨.hbm, 387, rfl⟩
abbrev main_v302 : Ref sig .tc := ⟨.hbm, 388, rfl⟩
abbrev main_v303 : Ref sig .tc := ⟨.hbm, 389, rfl⟩
abbrev main_v304 : Ref sig .tc := ⟨.hbm, 390, rfl⟩
abbrev main_c_47 : Ref sig .tc := ⟨.hbm, 391, rfl⟩
abbrev main_call1_v0 : Ref sig .tc := ⟨.hbm, 392, rfl⟩
abbrev main_call1_v1 : Ref sig .tc := ⟨.hbm, 393, rfl⟩
abbrev main_call1_v2 : Ref sig .tc := ⟨.hbm, 394, rfl⟩
abbrev main_call1_v3 : Ref sig .tc := ⟨.hbm, 395, rfl⟩
abbrev main_call1_v4 : Ref sig .tc := ⟨.hbm, 396, rfl⟩
abbrev main_call1_v5 : Ref sig .tc := ⟨.hbm, 397, rfl⟩
abbrev main_call1_v6 : Ref sig .tc := ⟨.hbm, 398, rfl⟩
abbrev main_call1_v7 : Ref sig .tc := ⟨.hbm, 399, rfl⟩
abbrev main_call1_v8 : Ref sig .tc := ⟨.hbm, 400, rfl⟩
abbrev main_call1_c : Ref sig .tc := ⟨.hbm, 401, rfl⟩
abbrev main_call1_v9 : Ref sig .tc := ⟨.hbm, 402, rfl⟩
abbrev main_call1_v10 : Ref sig .tc := ⟨.hbm, 403, rfl⟩
abbrev main_call1_v11 : Ref sig .tc := ⟨.hbm, 404, rfl⟩
abbrev main_call1_c_0 : Ref sig .tc := ⟨.hbm, 405, rfl⟩
abbrev main_call1_v12 : Ref sig .tc := ⟨.hbm, 406, rfl⟩
abbrev main_call1_v13 : Ref sig .tc := ⟨.hbm, 407, rfl⟩
abbrev main_v305 : Ref sig .tc := ⟨.hbm, 408, rfl⟩
abbrev main_v306 : Ref sig .tc := ⟨.hbm, 409, rfl⟩
abbrev main_v307 : Ref sig .tc := ⟨.hbm, 410, rfl⟩
abbrev main_c_48 : Ref sig .tc := ⟨.hbm, 411, rfl⟩
abbrev main_v308 : Ref sig .tc := ⟨.hbm, 412, rfl⟩
abbrev main_v309 : Ref sig .tc := ⟨.hbm, 413, rfl⟩
abbrev main_c_49 : Ref sig .tc := ⟨.hbm, 414, rfl⟩
abbrev main_v310 : Ref sig .tc := ⟨.hbm, 415, rfl⟩
abbrev main_v311 : Ref sig .tc := ⟨.hbm, 416, rfl⟩
abbrev main_v312 : Ref sig .tc := ⟨.hbm, 417, rfl⟩
abbrev main_v313 : Ref sig .tc := ⟨.hbm, 418, rfl⟩
abbrev main_v314 : Ref sig .tc := ⟨.hbm, 419, rfl⟩
abbrev main_v315 : Ref sig .tc := ⟨.hbm, 420, rfl⟩
abbrev main_c_50 : Ref sig .tc := ⟨.hbm, 421, rfl⟩
abbrev main_v316 : Ref sig .tc := ⟨.hbm, 422, rfl⟩
abbrev main_v317 : Ref sig .tc := ⟨.hbm, 423, rfl⟩
abbrev main_c_51 : Ref sig .tc := ⟨.hbm, 424, rfl⟩
abbrev main_v318 : Ref sig .tc := ⟨.hbm, 425, rfl⟩
abbrev main_v319 : Ref sig .tc := ⟨.hbm, 426, rfl⟩
abbrev main_v320 : Ref sig .tc := ⟨.hbm, 427, rfl⟩
abbrev main_v321 : Ref sig .tc := ⟨.hbm, 428, rfl⟩
abbrev main_v322 : Ref sig .tc := ⟨.hbm, 429, rfl⟩
abbrev main_v323 : Ref sig .tc := ⟨.hbm, 430, rfl⟩
abbrev main_c_52 : Ref sig .tc := ⟨.hbm, 431, rfl⟩
abbrev main_v324 : Ref sig .tc := ⟨.hbm, 432, rfl⟩
abbrev main_v325 : Ref sig .tc := ⟨.hbm, 433, rfl⟩
abbrev main_c_53 : Ref sig .tc := ⟨.hbm, 434, rfl⟩
abbrev main_v326 : Ref sig .tc := ⟨.hbm, 435, rfl⟩
abbrev main_v327 : Ref sig .tc := ⟨.hbm, 436, rfl⟩
abbrev main_v328 : Ref sig .tc := ⟨.hbm, 437, rfl⟩
abbrev main_v329 : Ref sig .tc := ⟨.hbm, 438, rfl⟩
abbrev main_v330 : Ref sig .tc := ⟨.hbm, 439, rfl⟩
abbrev main_v331 : Ref sig .tc := ⟨.hbm, 440, rfl⟩
abbrev main_c_54 : Ref sig .tc := ⟨.hbm, 441, rfl⟩
abbrev main_v332 : Ref sig .tc := ⟨.hbm, 442, rfl⟩
abbrev main_v333 : Ref sig .tc := ⟨.hbm, 443, rfl⟩
abbrev main_c_55 : Ref sig .tc := ⟨.hbm, 444, rfl⟩
abbrev main_v334 : Ref sig .tc := ⟨.hbm, 445, rfl⟩
abbrev main_v335 : Ref sig .tc := ⟨.hbm, 446, rfl⟩
abbrev main_v336 : Ref sig .tc := ⟨.hbm, 447, rfl⟩
abbrev main_v337 : Ref sig .tc := ⟨.hbm, 448, rfl⟩
abbrev main_v338 : Ref sig .tc := ⟨.hbm, 449, rfl⟩
abbrev main_c_56 : Ref sig .tc := ⟨.hbm, 450, rfl⟩
abbrev main_call2_v0 : Ref sig .tc := ⟨.hbm, 451, rfl⟩
abbrev main_v339 : Ref sig .tc := ⟨.hbm, 452, rfl⟩
abbrev main_c_57 : Ref sig .tc := ⟨.hbm, 453, rfl⟩
abbrev main_call3_v0 : Ref sig .tc := ⟨.hbm, 454, rfl⟩
abbrev main_v340 : Ref sig .tc := ⟨.hbm, 455, rfl⟩
abbrev main_c_58 : Ref sig .tc := ⟨.hbm, 456, rfl⟩
abbrev main_call4_v0 : Ref sig .tc := ⟨.hbm, 457, rfl⟩
abbrev main_v341 : Ref sig .tc := ⟨.hbm, 458, rfl⟩
abbrev main_c_59 : Ref sig .tc := ⟨.hbm, 459, rfl⟩
abbrev main_call5_v0 : Ref sig .tc := ⟨.hbm, 460, rfl⟩
abbrev main_v342 : Ref sig .tc := ⟨.hbm, 461, rfl⟩
abbrev main_v343 : Ref sig .tc := ⟨.hbm, 462, rfl⟩
abbrev main_v344 : Ref sig .tc := ⟨.hbm, 463, rfl⟩
abbrev main_v345 : Ref sig .tc := ⟨.hbm, 464, rfl⟩
abbrev main_v346 : Ref sig .tc := ⟨.hbm, 465, rfl⟩
abbrev main_v347 : Ref sig .tc := ⟨.hbm, 466, rfl⟩
abbrev main_v348 : Ref sig .tc := ⟨.hbm, 467, rfl⟩
abbrev main_v349 : Ref sig .tc := ⟨.hbm, 468, rfl⟩
abbrev main_cst_60 : Ref sig .tc := ⟨.hbm, 469, rfl⟩
abbrev main_v350 : Ref sig .tc := ⟨.hbm, 470, rfl⟩
abbrev main_v351 : Ref sig .tc := ⟨.hbm, 471, rfl⟩
abbrev main_cst_61 : Ref sig .tc := ⟨.hbm, 472, rfl⟩
abbrev main_call6_v0 : Ref sig .tc := ⟨.hbm, 473, rfl⟩
abbrev main_call6_v1 : Ref sig .tc := ⟨.hbm, 474, rfl⟩
abbrev main_v352 : Ref sig .tc := ⟨.hbm, 475, rfl⟩
abbrev main_values_62 : Ref sig .tc := ⟨.hbm, 476, rfl⟩
abbrev main_indices_63 : Ref sig .tc := ⟨.hbm, 477, rfl⟩
abbrev main_cst_64 : Ref sig .tc := ⟨.hbm, 478, rfl⟩
abbrev main_v353 : Ref sig .tc := ⟨.hbm, 479, rfl⟩
abbrev main_c_65 : Ref sig .tc := ⟨.hbm, 480, rfl⟩
abbrev main_v354 : Ref sig .tc := ⟨.hbm, 481, rfl⟩
abbrev main_v355 : Ref sig .tc := ⟨.hbm, 482, rfl⟩
abbrev main_c_66 : Ref sig .tc := ⟨.hbm, 483, rfl⟩
abbrev main_v356 : Ref sig .tc := ⟨.hbm, 484, rfl⟩
abbrev main_v357 : Ref sig .tc := ⟨.hbm, 485, rfl⟩
abbrev main_v358 : Ref sig .tc := ⟨.hbm, 486, rfl⟩
abbrev main_v359 : Ref sig .tc := ⟨.hbm, 487, rfl⟩
abbrev main_v360 : Ref sig .tc := ⟨.hbm, 488, rfl⟩
abbrev main_c_67 : Ref sig .tc := ⟨.hbm, 489, rfl⟩
abbrev main_v361 : Ref sig .tc := ⟨.hbm, 490, rfl⟩
abbrev main_v362 : Ref sig .tc := ⟨.hbm, 491, rfl⟩
abbrev main_c_68 : Ref sig .tc := ⟨.hbm, 492, rfl⟩
abbrev main_v363 : Ref sig .tc := ⟨.hbm, 493, rfl⟩
abbrev main_v364 : Ref sig .tc := ⟨.hbm, 494, rfl⟩
abbrev main_v365 : Ref sig .tc := ⟨.hbm, 495, rfl⟩
abbrev main_v366 : Ref sig .tc := ⟨.hbm, 496, rfl⟩
abbrev main_v367 : Ref sig .tc := ⟨.hbm, 497, rfl⟩
abbrev main_c_69 : Ref sig .tc := ⟨.hbm, 498, rfl⟩
abbrev main_v368 : Ref sig .tc := ⟨.hbm, 499, rfl⟩
abbrev main_v369 : Ref sig .tc := ⟨.hbm, 500, rfl⟩
abbrev main_c_70 : Ref sig .tc := ⟨.hbm, 501, rfl⟩
abbrev main_v370 : Ref sig .tc := ⟨.hbm, 502, rfl⟩
abbrev main_v371 : Ref sig .tc := ⟨.hbm, 503, rfl⟩
abbrev main_v372 : Ref sig .tc := ⟨.hbm, 504, rfl⟩
abbrev main_v373 : Ref sig .tc := ⟨.hbm, 505, rfl⟩
abbrev main_v374 : Ref sig .tc := ⟨.hbm, 506, rfl⟩
abbrev main_c_71 : Ref sig .tc := ⟨.hbm, 507, rfl⟩
abbrev main_v375 : Ref sig .tc := ⟨.hbm, 508, rfl⟩
abbrev main_v376 : Ref sig .tc := ⟨.hbm, 509, rfl⟩
abbrev main_c_72 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_v380 : Ref sig .tc := ⟨.hbm, 514, rfl⟩
abbrev main_v381 : Ref sig .tc := ⟨.hbm, 515, rfl⟩
abbrev main_v382 : Ref sig .tc := ⟨.hbm, 516, rfl⟩
abbrev main_v383 : Ref sig .tc := ⟨.hbm, 517, rfl⟩
abbrev main_v384 : Ref sig .tc := ⟨.hbm, 518, rfl⟩
abbrev main_v385 : Ref sig .tc := ⟨.hbm, 519, rfl⟩
abbrev main_v386 : Ref sig .tc := ⟨.hbm, 520, rfl⟩
abbrev main_v387 : Ref sig .tc := ⟨.hbm, 521, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg12_0 : Ref sig .tc := ⟨.vmem, 11, rfl⟩
abbrev cc0_stg13_0 : Ref sig .tc := ⟨.vmem, 12, rfl⟩
abbrev cc0_stg14_0 : Ref sig .tc := ⟨.vmem, 13, rfl⟩
abbrev cc0_stg15_0 : Ref sig .tc := ⟨.vmem, 14, rfl⟩
abbrev cc0_stg16_0 : Ref sig .tc := ⟨.vmem, 15, rfl⟩
abbrev cc0_stg17_0 : Ref sig .tc := ⟨.vmem, 16, rfl⟩
abbrev cc0_stg18_0 : Ref sig .tc := ⟨.vmem, 17, rfl⟩
abbrev cc0_stg19_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc0_stg0_0 : Ref sig .tc := ⟨.smem, 0, rfl⟩
abbrev cc1_stg0_0 : Ref sig .tc := ⟨.smem, 1, rfl⟩
abbrev cc1_stg1_0 : Ref sig .tc := ⟨.smem, 2, rfl⟩
abbrev cc1_stg2_0 : Ref sig .tc := ⟨.smem, 3, rfl⟩
abbrev cc1_stg3_0 : Ref sig .tc := ⟨.smem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc1_sem0_0 : DmaSem sig := 20
abbrev cc1_sem1_0 : DmaSem sig := 21
abbrev cc1_sem2_0 : DmaSem sig := 22
abbrev cc1_sem3_0 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem8_0 : DmaSem sig := 28

abbrev nD : Nat := 1
abbrev τ : Topo := Topo.v7x

variable {F : FTy → Type} [FloatOps F]

abbrev grid0 : Pipeline.Grid := .none

abbrev stage0_0 : Fin 1 → Memref sig .tc .smem S1x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S384x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S24x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2046x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2046x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2046x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2046x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2046x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2046x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2046x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2046x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2046x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev grid1 : Pipeline.Grid := .none

@[reducible] def k1_t1_loop : Scf.Loop 32 :=
  let c0_i32 : BitVec 32 := 0#32
  let c2000_i32_10 : BitVec 32 := 2000#32
  let v25 : BitVec 32 := Scalar.addi c0_i32 c2000_i32_10
  let c1_i32 : BitVec 32 := 1#32
  ⟨c0_i32, v25, c1_i32⟩
def k1_off1 (k1_t1 : Fin k1_t1_loop.trips) : Fin 1 → Nat :=
  let c0_i32 : BitVec 32 := 0#32
  let c1_i32 : BitVec 32 := 1#32
  let arg9 : BitVec 32 := Scf.iv c0_i32 c1_i32 k1_t1
  let v28 : Index := Scalar.indexCast arg9
  ![v28.toNat]
abbrev stage1_0 : Fin 1 → Memref sig .tc .smem S2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .smem S2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .smem S2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S16x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S16x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S16x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
-- ==== ReferenceIdeal.lean ====
abbrev S1x6x256x256 : Shape := ⟨4, ![1, 6, 256, 256]⟩
abbrev S1x6x128x128 : Shape := ⟨4, ![1, 6, 128, 128]⟩
abbrev S1x6x64x64 : Shape := ⟨4, ![1, 6, 64, 64]⟩
abbrev S1x6x32x32 : Shape := ⟨4, ![1, 6, 32, 32]⟩
abbrev S1x6x16x16 : Shape := ⟨4, ![1, 6, 16, 16]⟩
abbrev S1x12x256x256 : Shape := ⟨4, ![1, 12, 256, 256]⟩
abbrev S1x12x128x128 : Shape := ⟨4, ![1, 12, 128, 128]⟩
abbrev S1x12x64x64 : Shape := ⟨4, ![1, 12, 64, 64]⟩
abbrev S1x12x32x32 : Shape := ⟨4, ![1, 12, 32, 32]⟩
abbrev S1x12x16x16 : Shape := ⟨4, ![1, 12, 16, 16]⟩
abbrev S1x3 : Shape := ⟨2, ![1, 3]⟩
abbrev S3x4 : Shape := ⟨2, ![3, 4]⟩
abbrev S1x3x4 : Shape := ⟨3, ![1, 3, 4]⟩
abbrev S1x1 : Shape := ⟨2, ![1, 1]⟩
abbrev S_ : Shape := ⟨0, ![]⟩
abbrev S1x3x256x256 : Shape := ⟨4, ![1, 3, 256, 256]⟩
abbrev S3x256x256 : Shape := ⟨3, ![3, 256, 256]⟩
abbrev S256x256x3 : Shape := ⟨3, ![256, 256, 3]⟩
abbrev S196608 : Shape := ⟨1, ![196608]⟩
abbrev S12x256x256 : Shape := ⟨3, ![12, 256, 256]⟩
abbrev S256x256x12 : Shape := ⟨3, ![256, 256, 12]⟩
abbrev S196608x4 : Shape := ⟨2, ![196608, 4]⟩
abbrev S256 : Shape := ⟨1, ![256]⟩
abbrev S1x256 : Shape := ⟨2, ![1, 256]⟩
abbrev S256x256 : Shape := ⟨2, ![256, 256]⟩
abbrev S65536 : Shape := ⟨1, ![65536]⟩
abbrev S256x1 : Shape := ⟨2, ![256, 1]⟩
abbrev S65536x1 : Shape := ⟨2, ![65536, 1]⟩
abbrev S65536x4 : Shape := ⟨2, ![65536, 4]⟩
abbrev S65536x1x4 : Shape := ⟨3, ![65536, 1, 4]⟩
abbrev S65536x3x4 : Shape := ⟨3, ![65536, 3, 4]⟩
abbrev S196608x1 : Shape := ⟨2, ![196608, 1]⟩
abbrev S1x3x128x128 : Shape := ⟨4, ![1, 3, 128, 128]⟩
abbrev S3x128x128 : Shape := ⟨3, ![3, 128, 128]⟩
abbrev S128x128x3 : Shape := ⟨3, ![128, 128, 3]⟩
abbrev S49152 : Shape := ⟨1, ![49152]⟩
abbrev S12x128x128 : Shape := ⟨3, ![12, 128, 128]⟩
abbrev S128x128x12 : Shape := ⟨3, ![128, 128, 12]⟩
abbrev S49152x4 : Shape := ⟨2, ![49152, 4]⟩
abbrev S128 : Shape := ⟨1, ![128]⟩
abbrev S1x128 : Shape := ⟨2, ![1, 128]⟩
abbrev S128x128 : Shape := ⟨2, ![128, 128]⟩
abbrev S16384 : Shape := ⟨1, ![16384]⟩
abbrev S128x1 : Shape := ⟨2, ![128, 1]⟩
abbrev S16384x1 : Shape := ⟨2, ![16384, 1]⟩
abbrev S16384x4 : Shape := ⟨2, ![16384, 4]⟩
abbrev S16384x1x4 : Shape := ⟨3, ![16384, 1, 4]⟩
abbrev S16384x3x4 : Shape := ⟨3, ![16384, 3, 4]⟩
abbrev S49152x1 : Shape := ⟨2, ![49152, 1]⟩
abbrev S1x3x64x64 : Shape := ⟨4, ![1, 3, 64, 64]⟩
abbrev S3x64x64 : Shape := ⟨3, ![3, 64, 64]⟩
abbrev S64x64x3 : Shape := ⟨3, ![64, 64, 3]⟩
abbrev S12288 : Shape := ⟨1, ![12288]⟩
abbrev S12x64x64 : Shape := ⟨3, ![12, 64, 64]⟩
abbrev S64x64x12 : Shape := ⟨3, ![64, 64, 12]⟩
abbrev S12288x4 : Shape := ⟨2, ![12288, 4]⟩
abbrev S64 : Shape := ⟨1, ![64]⟩
abbrev S1x64 : Shape := ⟨2, ![1, 64]⟩
abbrev S64x64 : Shape := ⟨2, ![64, 64]⟩
abbrev S4096 : Shape := ⟨1, ![4096]⟩
abbrev S64x1 : Shape := ⟨2, ![64, 1]⟩
abbrev S4096x1 : Shape := ⟨2, ![4096, 1]⟩
abbrev S4096x4 : Shape := ⟨2, ![4096, 4]⟩
abbrev S4096x1x4 : Shape := ⟨3, ![4096, 1, 4]⟩
abbrev S4096x3x4 : Shape := ⟨3, ![4096, 3, 4]⟩
abbrev S12288x1 : Shape := ⟨2, ![12288, 1]⟩
abbrev S1x3x32x32 : Shape := ⟨4, ![1, 3, 32, 32]⟩
abbrev S3x32x32 : Shape := ⟨3, ![3, 32, 32]⟩
abbrev S32x32x3 : Shape := ⟨3, ![32, 32, 3]⟩
abbrev S3072 : Shape := ⟨1, ![3072]⟩
abbrev S12x32x32 : Shape := ⟨3, ![12, 32, 32]⟩
abbrev S32x32x12 : Shape := ⟨3, ![32, 32, 12]⟩
abbrev S3072x4 : Shape := ⟨2, ![3072, 4]⟩
abbrev S32 : Shape := ⟨1, ![32]⟩
abbrev S1x32 : Shape := ⟨2, ![1, 32]⟩
abbrev S32x32 : Shape := ⟨2, ![32, 32]⟩
abbrev S1024 : Shape := ⟨1, ![1024]⟩
abbrev S32x1 : Shape := ⟨2, ![32, 1]⟩
abbrev S1024x1 : Shape := ⟨2, ![1024, 1]⟩
abbrev S1024x4 : Shape := ⟨2, ![1024, 4]⟩
abbrev S1024x1x4 : Shape := ⟨3, ![1024, 1, 4]⟩
abbrev S1024x3x4 : Shape := ⟨3, ![1024, 3, 4]⟩
abbrev S3072x1 : Shape := ⟨2, ![3072, 1]⟩
abbrev S1x3x16x16 : Shape := ⟨4, ![1, 3, 16, 16]⟩
abbrev S3x16x16 : Shape := ⟨3, ![3, 16, 16]⟩
abbrev S16x16x3 : Shape := ⟨3, ![16, 16, 3]⟩
abbrev S768 : Shape := ⟨1, ![768]⟩
abbrev S12x16x16 : Shape := ⟨3, ![12, 16, 16]⟩
abbrev S16x16x12 : Shape := ⟨3, ![16, 16, 12]⟩
abbrev S768x4 : Shape := ⟨2, ![768, 4]⟩
abbrev S16 : Shape := ⟨1, ![16]⟩
abbrev S1x16 : Shape := ⟨2, ![1, 16]⟩
abbrev S16x16 : Shape := ⟨2, ![16, 16]⟩
abbrev S16x1 : Shape := ⟨2, ![16, 1]⟩
abbrev S256x4 : Shape := ⟨2, ![256, 4]⟩
abbrev S256x1x4 : Shape := ⟨3, ![256, 1, 4]⟩
abbrev S256x3x4 : Shape := ⟨3, ![256, 3, 4]⟩
abbrev S768x1 : Shape := ⟨2, ![768, 1]⟩
abbrev S261888x4 : Shape := ⟨2, ![261888, 4]⟩
abbrev S261888 : Shape := ⟨1, ![261888]⟩
abbrev S2000 : Shape := ⟨1, ![2000]⟩
abbrev S2000x1 : Shape := ⟨2, ![2000, 1]⟩
abbrev S2000x4 : Shape := ⟨2, ![2000, 4]⟩
abbrev S1 : Shape := ⟨1, ![1]⟩
abbrev S1000 : Shape := ⟨1, ![1000]⟩
abbrev S1000x1 : Shape := ⟨2, ![1000, 1]⟩
abbrev S1000x4 : Shape := ⟨2, ![1000, 4]⟩
abbrev S1000x5 : Shape := ⟨2, ![1000, 5]⟩

abbrev nBuf : Space → Nat
  | .hbm => 1044
  | .vmem => 0
  | .smem => 0
  | _ => 0

abbrev hbmTy0_0 (i : Nat) : BufTy := match i % 128 with
  | 0 => ⟨S1x6x256x256, .f32⟩
  | 1 => ⟨S1x6x128x128, .f32⟩
  | 2 => ⟨S1x6x64x64, .f32⟩
  | 3 => ⟨S1x6x32x32, .f32⟩
  | 4 => ⟨S1x6x16x16, .f32⟩
  | 5 => ⟨S1x12x256x256, .f32⟩
  | 6 => ⟨S1x12x128x128, .f32⟩
  | 7 => ⟨S1x12x64x64, .f32⟩
  | 8 => ⟨S1x12x32x32, .f32⟩
  | 9 => ⟨S1x12x16x16, .f32⟩
  | 10 => ⟨S1x3, .f32⟩
  | 11 => ⟨S3x4, .f32⟩
  | 12 => ⟨S1x3x4, .f32⟩
  | 13 => ⟨S3x4, .f32⟩
  | 14 => ⟨S1x3x4, .f32⟩
  | 15 => ⟨S3x4, .f32⟩
  | 16 => ⟨S1x3x4, .f32⟩
  | 17 => ⟨S3x4, .f32⟩
  | 18 => ⟨S1x3x4, .f32⟩
  | 19 => ⟨S3x4, .f32⟩
  | 20 => ⟨S1x3x4, .f32⟩
  | 21 => ⟨S1x1, .f32⟩
  | 22 => ⟨S_, .f32⟩
  | 23 => ⟨S1x1, .f32⟩
  | 24 => ⟨S_, .f32⟩
  | 25 => ⟨S1x3x256x256, .f32⟩
  | 26 => ⟨S3x256x256, .f32⟩
  | 27 => ⟨S256x256x3, .f32⟩
  | 28 => ⟨S196608, .f32⟩
  | 29 => ⟨S12x256x256, .f32⟩
  | 30 => ⟨S256x256x12, .f32⟩
  | 31 => ⟨S196608x4, .f32⟩
  | 32 => ⟨S256, .i32⟩
  | 33 => ⟨S256, .f32⟩
  | 34 => ⟨S_, .f32⟩
  | 35 => ⟨S256, .f32⟩
  | 36 => ⟨S256, .f32⟩
  | 37 => ⟨S256, .i32⟩
  | 38 => ⟨S256, .f32⟩
  | 39 => ⟨S_, .f32⟩
  | 40 => ⟨S256, .f32⟩
  | 41 => ⟨S256, .f32⟩
  | 42 => ⟨S1x256, .f32⟩
  | 43 => ⟨S256x256, .f32⟩
  | 44 => ⟨S65536, .f32⟩
  | 45 => ⟨S256x1, .f32⟩
  | 46 => ⟨S256x256, .f32⟩
  | 47 => ⟨S65536, .f32⟩
  | 48 => ⟨S65536x1, .f32⟩
  | 49 => ⟨S65536x1, .f32⟩
  | 50 => ⟨S65536x1, .f32⟩
  | 51 => ⟨S65536x1, .f32⟩
  | 52 => ⟨S65536x4, .f32⟩
  | 53 => ⟨S65536x1x4, .f32⟩
  | 54 => ⟨S65536x3x4, .f32⟩
  | 55 => ⟨S65536x3x4, .f32⟩
  | 56 => ⟨S65536x3x4, .f32⟩
  | 57 => ⟨S196608x4, .f32⟩
  | 58 => ⟨S196608x1, .f32⟩
  | 59 => ⟨S196608, .f32⟩
  | 60 => ⟨S196608x1, .f32⟩
  | 61 => ⟨S196608, .f32⟩
  | 62 => ⟨S196608, .f32⟩
  | 63 => ⟨S_, .f32⟩
  | 64 => ⟨S196608, .f32⟩
  | 65 => ⟨S196608, .f32⟩
  | 66 => ⟨S196608x1, .f32⟩
  | 67 => ⟨S196608, .f32⟩
  | 68 => ⟨S196608x1, .f32⟩
  | 69 => ⟨S196608, .f32⟩
  | 70 => ⟨S196608, .f32⟩
  | 71 => ⟨S_, .f32⟩
  | 72 => ⟨S196608, .f32⟩
  | 73 => ⟨S196608, .f32⟩
  | 74 => ⟨S196608x1, .f32⟩
  | 75 => ⟨S196608, .f32⟩
  | 76 => ⟨S_, .f32⟩
  | 77 => ⟨S196608, .f32⟩
  | 78 => ⟨S196608, .f32⟩
  | 79 => ⟨S_, .f32⟩
  | 80 => ⟨S196608, .f32⟩
  | 81 => ⟨S196608, .f32⟩
  | 82 => ⟨S196608, .f32⟩
  | 83 => ⟨S196608x1, .f32⟩
  | 84 => ⟨S196608, .f32⟩
  | 85 => ⟨S_, .f32⟩
  | 86 => ⟨S196608, .f32⟩
  | 87 => ⟨S196608, .f32⟩
  | 88 => ⟨S_, .f32⟩
  | 89 => ⟨S196608, .f32⟩
  | 90 => ⟨S196608, .f32⟩
  | 91 => ⟨S196608, .f32⟩
  | 92 => ⟨S196608x1, .f32⟩
  | 93 => ⟨S196608, .f32⟩
  | 94 => ⟨S196608x1, .f32⟩
  | 95 => ⟨S196608, .f32⟩
  | 96 => ⟨S196608x1, .f32⟩
  | 97 => ⟨S196608, .f32⟩
  | 98 => ⟨S196608x1, .f32⟩
  | 99 => ⟨S196608, .f32⟩
  | 100 => ⟨S196608, .f32⟩
  | 101 => ⟨S196608, .f32⟩
  | 102 => ⟨S196608, .f32⟩
  | 103 => ⟨S196608, .f32⟩
  | 104 => ⟨S_, .f32⟩
  | 105 => ⟨S196608, .f32⟩
  | 106 => ⟨S196608, .f32⟩
  | 107 => ⟨S196608, .f32⟩
  | 108 => ⟨S196608, .f32⟩
  | 109 => ⟨S_, .f32⟩
  | 110 => ⟨S196608, .f32⟩
  | 111 => ⟨S196608, .f32⟩
  | 112 => ⟨S196608, .f32⟩
  | 113 => ⟨S196608, .f32⟩
  | 114 => ⟨S_, .f32⟩
  | 115 => ⟨S196608, .f32⟩
  | 116 => ⟨S196608, .f32⟩
  | 117 => ⟨S_, .f32⟩
  | 118 => ⟨S196608, .f32⟩
  | 119 => ⟨S196608, .f32⟩
  | 120 => ⟨S196608, .f32⟩
  | 121 => ⟨S_, .f32⟩
  | 122 => ⟨S_, .f32⟩
  | 123 => ⟨S_, .f32⟩
  | 124 => ⟨S_, .f32⟩
  | 125 => ⟨S196608, .f32⟩
  | 126 => ⟨S196608, .f32⟩
  | 127 => ⟨S196608, .f32⟩
  | _ => ⟨S1x6x256x256, .f32⟩

abbrev hbmTy0_1 (i : Nat) : BufTy := match i % 128 with
  | 0 => ⟨S196608, .f32⟩
  | 1 => ⟨S_, .f32⟩
  | 2 => ⟨S196608, .f32⟩
  | 3 => ⟨S196608, .f32⟩
  | 4 => ⟨S_, .f32⟩
  | 5 => ⟨S196608, .f32⟩
  | 6 => ⟨S196608, .f32⟩
  | 7 => ⟨S196608, .f32⟩
  | 8 => ⟨S_, .f32⟩
  | 9 => ⟨S_, .f32⟩
  | 10 => ⟨S_, .f32⟩
  | 11 => ⟨S_, .f32⟩
  | 12 => ⟨S196608, .f32⟩
  | 13 => ⟨S196608, .f32⟩
  | 14 => ⟨S196608, .f32⟩
  | 15 => ⟨S196608, .f32⟩
  | 16 => ⟨S_, .f32⟩
  | 17 => ⟨S196608, .f32⟩
  | 18 => ⟨S196608, .f32⟩
  | 19 => ⟨S_, .f32⟩
  | 20 => ⟨S196608, .f32⟩
  | 21 => ⟨S196608, .f32⟩
  | 22 => ⟨S196608, .f32⟩
  | 23 => ⟨S_, .f32⟩
  | 24 => ⟨S_, .f32⟩
  | 25 => ⟨S_, .f32⟩
  | 26 => ⟨S_, .f32⟩
  | 27 => ⟨S196608, .f32⟩
  | 28 => ⟨S196608, .f32⟩
  | 29 => ⟨S196608, .f32⟩
  | 30 => ⟨S196608, .f32⟩
  | 31 => ⟨S_, .f32⟩
  | 32 => ⟨S196608, .f32⟩
  | 33 => ⟨S196608, .f32⟩
  | 34 => ⟨S_, .f32⟩
  | 35 => ⟨S196608, .f32⟩
  | 36 => ⟨S196608, .f32⟩
  | 37 => ⟨S196608, .f32⟩
  | 38 => ⟨S_, .f32⟩
  | 39 => ⟨S_, .f32⟩
  | 40 => ⟨S_, .f32⟩
  | 41 => ⟨S_, .f32⟩
  | 42 => ⟨S196608, .f32⟩
  | 43 => ⟨S196608, .f32⟩
  | 44 => ⟨S196608, .f32⟩
  | 45 => ⟨S196608, .f32⟩
  | 46 => ⟨S196608x1, .f32⟩
  | 47 => ⟨S196608x1, .f32⟩
  | 48 => ⟨S196608x1, .f32⟩
  | 49 => ⟨S196608x1, .f32⟩
  | 50 => ⟨S196608x4, .f32⟩
  | 51 => ⟨S196608, .f32⟩
  | 52 => ⟨S_, .f32⟩
  | 53 => ⟨S196608, .f32⟩
  | 54 => ⟨S196608, .f32⟩
  | 55 => ⟨S196608, .f32⟩
  | 56 => ⟨S_, .f32⟩
  | 57 => ⟨S196608, .f32⟩
  | 58 => ⟨S196608, .f32⟩
  | 59 => ⟨S_, .f32⟩
  | 60 => ⟨S196608, .f32⟩
  | 61 => ⟨S196608, .i1⟩
  | 62 => ⟨S_, .f32⟩
  | 63 => ⟨S196608, .f32⟩
  | 64 => ⟨S196608, .i1⟩
  | 65 => ⟨S196608, .i1⟩
  | 66 => ⟨S_, .f32⟩
  | 67 => ⟨S_, .f32⟩
  | 68 => ⟨S196608, .f32⟩
  | 69 => ⟨S196608, .f32⟩
  | 70 => ⟨S1x3x128x128, .f32⟩
  | 71 => ⟨S3x128x128, .f32⟩
  | 72 => ⟨S128x128x3, .f32⟩
  | 73 => ⟨S49152, .f32⟩
  | 74 => ⟨S12x128x128, .f32⟩
  | 75 => ⟨S128x128x12, .f32⟩
  | 76 => ⟨S49152x4, .f32⟩
  | 77 => ⟨S128, .i32⟩
  | 78 => ⟨S128, .f32⟩
  | 79 => ⟨S_, .f32⟩
  | 80 => ⟨S128, .f32⟩
  | 81 => ⟨S128, .f32⟩
  | 82 => ⟨S128, .i32⟩
  | 83 => ⟨S128, .f32⟩
  | 84 => ⟨S_, .f32⟩
  | 85 => ⟨S128, .f32⟩
  | 86 => ⟨S128, .f32⟩
  | 87 => ⟨S1x128, .f32⟩
  | 88 => ⟨S128x128, .f32⟩
  | 89 => ⟨S16384, .f32⟩
  | 90 => ⟨S128x1, .f32⟩
  | 91 => ⟨S128x128, .f32⟩
  | 92 => ⟨S16384, .f32⟩
  | 93 => ⟨S16384x1, .f32⟩
  | 94 => ⟨S16384x1, .f32⟩
  | 95 => ⟨S16384x1, .f32⟩
  | 96 => ⟨S16384x1, .f32⟩
  | 97 => ⟨S16384x4, .f32⟩
  | 98 => ⟨S16384x1x4, .f32⟩
  | 99 => ⟨S16384x3x4, .f32⟩
  | 100 => ⟨S16384x3x4, .f32⟩
  | 101 => ⟨S16384x3x4, .f32⟩
  | 102 => ⟨S49152x4, .f32⟩
  | 103 => ⟨S49152x1, .f32⟩
  | 104 => ⟨S49152, .f32⟩
  | 105 => ⟨S49152x1, .f32⟩
  | 106 => ⟨S49152, .f32⟩
  | 107 => ⟨S49152, .f32⟩
  | 108 => ⟨S_, .f32⟩
  | 109 => ⟨S49152, .f32⟩
  | 110 => ⟨S49152, .f32⟩
  | 111 => ⟨S49152x1, .f32⟩
  | 112 => ⟨S49152, .f32⟩
  | 113 => ⟨S49152x1, .f32⟩
  | 114 => ⟨S49152, .f32⟩
  | 115 => ⟨S49152, .f32⟩
  | 116 => ⟨S_, .f32⟩
  | 117 => ⟨S49152, .f32⟩
  | 118 => ⟨S49152, .f32⟩
  | 119 => ⟨S49152x1, .f32⟩
  | 120 => ⟨S49152, .f32⟩
  | 121 => ⟨S_, .f32⟩
  | 122 => ⟨S49152, .f32⟩
  | 123 => ⟨S49152, .f32⟩
  | 124 => ⟨S_, .f32⟩
  | 125 => ⟨S49152, .f32⟩
  | 126 => ⟨S49152, .f32⟩
  | 127 => ⟨S49152, .f32⟩
  | _ => ⟨S1x6x256x256, .f32⟩

abbrev hbmTy0_2 (i : Nat) : BufTy := match i % 128 with
  | 0 => ⟨S49152x1, .f32⟩
  | 1 => ⟨S49152, .f32⟩
  | 2 => ⟨S_, .f32⟩
  | 3 => ⟨S49152, .f32⟩
  | 4 => ⟨S49152, .f32⟩
  | 5 => ⟨S_, .f32⟩
  | 6 => ⟨S49152, .f32⟩
  | 7 => ⟨S49152, .f32⟩
  | 8 => ⟨S49152, .f32⟩
  | 9 => ⟨S49152x1, .f32⟩
  | 10 => ⟨S49152, .f32⟩
  | 11 => ⟨S49152x1, .f32⟩
  | 12 => ⟨S49152, .f32⟩
  | 13 => ⟨S49152x1, .f32⟩
  | 14 => ⟨S49152, .f32⟩
  | 15 => ⟨S49152x1, .f32⟩
  | 16 => ⟨S49152, .f32⟩
  | 17 => ⟨S49152, .f32⟩
  | 18 => ⟨S49152, .f32⟩
  | 19 => ⟨S49152, .f32⟩
  | 20 => ⟨S49152, .f32⟩
  | 21 => ⟨S_, .f32⟩
  | 22 => ⟨S49152, .f32⟩
  | 23 => ⟨S49152, .f32⟩
  | 24 => ⟨S49152, .f32⟩
  | 25 => ⟨S49152, .f32⟩
  | 26 => ⟨S_, .f32⟩
  | 27 => ⟨S49152, .f32⟩
  | 28 => ⟨S49152, .f32⟩
  | 29 => ⟨S49152, .f32⟩
  | 30 => ⟨S49152, .f32⟩
  | 31 => ⟨S_, .f32⟩
  | 32 => ⟨S49152, .f32⟩
  | 33 => ⟨S49152, .f32⟩
  | 34 => ⟨S_, .f32⟩
  | 35 => ⟨S49152, .f32⟩
  | 36 => ⟨S49152, .f32⟩
  | 37 => ⟨S49152, .f32⟩
  | 38 => ⟨S_, .f32⟩
  | 39 => ⟨S_, .f32⟩
  | 40 => ⟨S_, .f32⟩
  | 41 => ⟨S_, .f32⟩
  | 42 => ⟨S49152, .f32⟩
  | 43 => ⟨S49152, .f32⟩
  | 44 => ⟨S49152, .f32⟩
  | 45 => ⟨S49152, .f32⟩
  | 46 => ⟨S_, .f32⟩
  | 47 => ⟨S49152, .f32⟩
  | 48 => ⟨S49152, .f32⟩
  | 49 => ⟨S_, .f32⟩
  | 50 => ⟨S49152, .f32⟩
  | 51 => ⟨S49152, .f32⟩
  | 52 => ⟨S49152, .f32⟩
  | 53 => ⟨S_, .f32⟩
  | 54 => ⟨S_, .f32⟩
  | 55 => ⟨S_, .f32⟩
  | 56 => ⟨S_, .f32⟩
  | 57 => ⟨S49152, .f32⟩
  | 58 => ⟨S49152, .f32⟩
  | 59 => ⟨S49152, .f32⟩
  | 60 => ⟨S49152, .f32⟩
  | 61 => ⟨S_, .f32⟩
  | 62 => ⟨S49152, .f32⟩
  | 63 => ⟨S49152, .f32⟩
  | 64 => ⟨S_, .f32⟩
  | 65 => ⟨S49152, .f32⟩
  | 66 => ⟨S49152, .f32⟩
  | 67 => ⟨S49152, .f32⟩
  | 68 => ⟨S_, .f32⟩
  | 69 => ⟨S_, .f32⟩
  | 70 => ⟨S_, .f32⟩
  | 71 => ⟨S_, .f32⟩
  | 72 => ⟨S49152, .f32⟩
  | 73 => ⟨S49152, .f32⟩
  | 74 => ⟨S49152, .f32⟩
  | 75 => ⟨S49152, .f32⟩
  | 76 => ⟨S_, .f32⟩
  | 77 => ⟨S49152, .f32⟩
  | 78 => ⟨S49152, .f32⟩
  | 79 => ⟨S_, .f32⟩
  | 80 => ⟨S49152, .f32⟩
  | 81 => ⟨S49152, .f32⟩
  | 82 => ⟨S49152, .f32⟩
  | 83 => ⟨S_, .f32⟩
  | 84 => ⟨S_, .f32⟩
  | 85 => ⟨S_, .f32⟩
  | 86 => ⟨S_, .f32⟩
  | 87 => ⟨S49152, .f32⟩
  | 88 => ⟨S49152, .f32⟩
  | 89 => ⟨S49152, .f32⟩
  | 90 => ⟨S49152, .f32⟩
  | 91 => ⟨S49152x1, .f32⟩
  | 92 => ⟨S49152x1, .f32⟩
  | 93 => ⟨S49152x1, .f32⟩
  | 94 => ⟨S49152x1, .f32⟩
  | 95 => ⟨S49152x4, .f32⟩
  | 96 => ⟨S49152, .f32⟩
  | 97 => ⟨S_, .f32⟩
  | 98 => ⟨S49152, .f32⟩
  | 99 => ⟨S49152, .f32⟩
  | 100 => ⟨S49152, .f32⟩
  | 101 => ⟨S_, .f32⟩
  | 102 => ⟨S49152, .f32⟩
  | 103 => ⟨S49152, .f32⟩
  | 104 => ⟨S_, .f32⟩
  | 105 => ⟨S49152, .f32⟩
  | 106 => ⟨S49152, .i1⟩
  | 107 => ⟨S_, .f32⟩
  | 108 => ⟨S49152, .f32⟩
  | 109 => ⟨S49152, .i1⟩
  | 110 => ⟨S49152, .i1⟩
  | 111 => ⟨S_, .f32⟩
  | 112 => ⟨S_, .f32⟩
  | 113 => ⟨S49152, .f32⟩
  | 114 => ⟨S49152, .f32⟩
  | 115 => ⟨S1x3x64x64, .f32⟩
  | 116 => ⟨S3x64x64, .f32⟩
  | 117 => ⟨S64x64x3, .f32⟩
  | 118 => ⟨S12288, .f32⟩
  | 119 => ⟨S12x64x64, .f32⟩
  | 120 => ⟨S64x64x12, .f32⟩
  | 121 => ⟨S12288x4, .f32⟩
  | 122 => ⟨S64, .i32⟩
  | 123 => ⟨S64, .f32⟩
  | 124 => ⟨S_, .f32⟩
  | 125 => ⟨S64, .f32⟩
  | 126 => ⟨S64, .f32⟩
  | 127 => ⟨S64, .i32⟩
  | _ => ⟨S1x6x256x256, .f32⟩

abbrev hbmTy0_3 (i : Nat) : BufTy := match i % 128 with
  | 0 => ⟨S64, .f32⟩
  | 1 => ⟨S_, .f32⟩
  | 2 => ⟨S64, .f32⟩
  | 3 => ⟨S64, .f32⟩
  | 4 => ⟨S1x64, .f32⟩
  | 5 => ⟨S64x64, .f32⟩
  | 6 => ⟨S4096, .f32⟩
  | 7 => ⟨S64x1, .f32⟩
  | 8 => ⟨S64x64, .f32⟩
  | 9 => ⟨S4096, .f32⟩
  | 10 => ⟨S4096x1, .f32⟩
  | 11 => ⟨S4096x1, .f32⟩
  | 12 => ⟨S4096x1, .f32⟩
  | 13 => ⟨S4096x1, .f32⟩
  | 14 => ⟨S4096x4, .f32⟩
  | 15 => ⟨S4096x1x4, .f32⟩
  | 16 => ⟨S4096x3x4, .f32⟩
  | 17 => ⟨S4096x3x4, .f32⟩
  | 18 => ⟨S4096x3x4, .f32⟩
  | 19 => ⟨S12288x4, .f32⟩
  | 20 => ⟨S12288x1, .f32⟩
  | 21 => ⟨S12288, .f32⟩
  | 22 => ⟨S12288x1, .f32⟩
  | 23 => ⟨S12288, .f32⟩
  | 24 => ⟨S12288, .f32⟩
  | 25 => ⟨S_, .f32⟩
  | 26 => ⟨S12288, .f32⟩
  | 27 => ⟨S12288, .f32⟩
  | 28 => ⟨S12288x1, .f32⟩
  | 29 => ⟨S12288, .f32⟩
  | 30 => ⟨S12288x1, .f32⟩
  | 31 => ⟨S12288, .f32⟩
  | 32 => ⟨S12288, .f32⟩
  | 33 => ⟨S_, .f32⟩
  | 34 => ⟨S12288, .f32⟩
  | 35 => ⟨S12288, .f32⟩
  | 36 => ⟨S12288x1, .f32⟩
  | 37 => ⟨S12288, .f32⟩
  | 38 => ⟨S_, .f32⟩
  | 39 => ⟨S12288, .f32⟩
  | 40 => ⟨S12288, .f32⟩
  | 41 => ⟨S_, .f32⟩
  | 42 => ⟨S12288, .f32⟩
  | 43 => ⟨S12288, .f32⟩
  | 44 => ⟨S12288, .f32⟩
  | 45 => ⟨S12288x1, .f32⟩
  | 46 => ⟨S12288, .f32⟩
  | 47 => ⟨S_, .f32⟩
  | 48 => ⟨S12288, .f32⟩
  | 49 => ⟨S12288, .f32⟩
  | 50 => ⟨S_, .f32⟩
  | 51 => ⟨S12288, .f32⟩
  | 52 => ⟨S12288, .f32⟩
  | 53 => ⟨S12288, .f32⟩
  | 54 => ⟨S12288x1, .f32⟩
  | 55 => ⟨S12288, .f32⟩
  | 56 => ⟨S12288x1, .f32⟩
  | 57 => ⟨S12288, .f32⟩
  | 58 => ⟨S12288x1, .f32⟩
  | 59 => ⟨S12288, .f32⟩
  | 60 => ⟨S12288x1, .f32⟩
  | 61 => ⟨S12288, .f32⟩
  | 62 => ⟨S12288, .f32⟩
  | 63 => ⟨S12288, .f32⟩
  | 64 => ⟨S12288, .f32⟩
  | 65 => ⟨S12288, .f32⟩
  | 66 => ⟨S_, .f32⟩
  | 67 => ⟨S12288, .f32⟩
  | 68 => ⟨S12288, .f32⟩
  | 69 => ⟨S12288, .f32⟩
  | 70 => ⟨S12288, .f32⟩
  | 71 => ⟨S_, .f32⟩
  | 72 => ⟨S12288, .f32⟩
  | 73 => ⟨S12288, .f32⟩
  | 74 => ⟨S12288, .f32⟩
  | 75 => ⟨S12288, .f32⟩
  | 76 => ⟨S_, .f32⟩
  | 77 => ⟨S12288, .f32⟩
  | 78 => ⟨S12288, .f32⟩
  | 79 => ⟨S_, .f32⟩
  | 80 => ⟨S12288, .f32⟩
  | 81 => ⟨S12288, .f32⟩
  | 82 => ⟨S12288, .f32⟩
  | 83 => ⟨S_, .f32⟩
  | 84 => ⟨S_, .f32⟩
  | 85 => ⟨S_, .f32⟩
  | 86 => ⟨S_, .f32⟩
  | 87 => ⟨S12288, .f32⟩
  | 88 => ⟨S12288, .f32⟩
  | 89 => ⟨S12288, .f32⟩
  | 90 => ⟨S12288, .f32⟩
  | 91 => ⟨S_, .f32⟩
  | 92 => ⟨S12288, .f32⟩
  | 93 => ⟨S12288, .f32⟩
  | 94 => ⟨S_, .f32⟩
  | 95 => ⟨S12288, .f32⟩
  | 96 => ⟨S12288, .f32⟩
  | 97 => ⟨S12288, .f32⟩
  | 98 => ⟨S_, .f32⟩
  | 99 => ⟨S_, .f32⟩
  | 100 => ⟨S_, .f32⟩
  | 101 => ⟨S_, .f32⟩
  | 102 => ⟨S12288, .f32⟩
  | 103 => ⟨S12288, .f32⟩
  | 104 => ⟨S12288, .f32⟩
  | 105 => ⟨S12288, .f32⟩
  | 106 => ⟨S_, .f32⟩
  | 107 => ⟨S12288, .f32⟩
  | 108 => ⟨S12288, .f32⟩
  | 109 => ⟨S_, .f32⟩
  | 110 => ⟨S12288, .f32⟩
  | 111 => ⟨S12288, .f32⟩
  | 112 => ⟨S12288, .f32⟩
  | 113 => ⟨S_, .f32⟩
  | 114 => ⟨S_, .f32⟩
  | 115 => ⟨S_, .f32⟩
  | 116 => ⟨S_, .f32⟩
  | 117 => ⟨S12288, .f32⟩
  | 118 => ⟨S12288, .f32⟩
  | 119 => ⟨S12288, .f32⟩
  | 120 => ⟨S12288, .f32⟩
  | 121 => ⟨S_, .f32⟩
  | 122 => ⟨S12288, .f32⟩
  | 123 => ⟨S12288, .f32⟩
  | 124 => ⟨S_, .f32⟩
  | 125 => ⟨S12288, .f32⟩
  | 126 => ⟨S12288, .f32⟩
  | 127 => ⟨S12288, .f32⟩
  | _ => ⟨S1x6x256x256, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S12288, .f32⟩
  | 5 => ⟨S12288, .f32⟩
  | 6 => ⟨S12288, .f32⟩
  | 7 => ⟨S12288, .f32⟩
  | 8 => ⟨S12288x1, .f32⟩
  | 9 => ⟨S12288x1, .f32⟩
  | 10 => ⟨S12288x1, .f32⟩
  | 11 => ⟨S12288x1, .f32⟩
  | 12 => ⟨S12288x4, .f32⟩
  | 13 => ⟨S12288, .f32⟩
  | 14 => ⟨S_, .f32⟩
  | 15 => ⟨S12288, .f32⟩
  | 16 => ⟨S12288, .f32⟩
  | 17 => ⟨S12288, .f32⟩
  | 18 => ⟨S_, .f32⟩
  | 19 => ⟨S12288, .f32⟩
  | 20 => ⟨S12288, .f32⟩
  | 21 => ⟨S_, .f32⟩
  | 22 => ⟨S12288, .f32⟩
  | 23 => ⟨S12288, .i1⟩
  | 24 => ⟨S_, .f32⟩
  | 25 => ⟨S12288, .f32⟩
  | 26 => ⟨S12288, .i1⟩
  | 27 => ⟨S12288, .i1⟩
  | 28 => ⟨S_, .f32⟩
  | 29 => ⟨S_, .f32⟩
  | 30 => ⟨S12288, .f32⟩
  | 31 => ⟨S12288, .f32⟩
  | 32 => ⟨S1x3x32x32, .f32⟩
  | 33 => ⟨S3x32x32, .f32⟩
  | 34 => ⟨S32x32x3, .f32⟩
  | 35 => ⟨S3072, .f32⟩
  | 36 => ⟨S12x32x32, .f32⟩
  | 37 => ⟨S32x32x12, .f32⟩
  | 38 => ⟨S3072x4, .f32⟩
  | 39 => ⟨S32, .i32⟩
  | 40 => ⟨S32, .f32⟩
  | 41 => ⟨S_, .f32⟩
  | 42 => ⟨S32, .f32⟩
  | 43 => ⟨S32, .f32⟩
  | 44 => ⟨S32, .i32⟩
  | 45 => ⟨S32, .f32⟩
  | 46 => ⟨S_, .f32⟩
  | 47 => ⟨S32, .f32⟩
  | 48 => ⟨S32, .f32⟩
  | 49 => ⟨S1x32, .f32⟩
  | 50 => ⟨S32x32, .f32⟩
  | 51 => ⟨S1024, .f32⟩
  | 52 => ⟨S32x1, .f32⟩
  | 53 => ⟨S32x32, .f32⟩
  | 54 => ⟨S1024, .f32⟩
  | 55 => ⟨S1024x1, .f32⟩
  | 56 => ⟨S1024x1, .f32⟩
  | 57 => ⟨S1024x1, .f32⟩
  | 58 => ⟨S1024x1, .f32⟩
  | 59 => ⟨S1024x4, .f32⟩
  | 60 => ⟨S1024x1x4, .f32⟩
  | 61 => ⟨S1024x3x4, .f32⟩
  | 62 => ⟨S1024x3x4, .f32⟩
  | 63 => ⟨S1024x3x4, .f32⟩
  | 64 => ⟨S3072x4, .f32⟩
  | 65 => ⟨S3072x1, .f32⟩
  | 66 => ⟨S3072, .f32⟩
  | 67 => ⟨S3072x1, .f32⟩
  | 68 => ⟨S3072, .f32⟩
  | 69 => ⟨S3072, .f32⟩
  | 70 => ⟨S_, .f32⟩
  | 71 => ⟨S3072, .f32⟩
  | 72 => ⟨S3072, .f32⟩
  | 73 => ⟨S3072x1, .f32⟩
  | 74 => ⟨S3072, .f32⟩
  | 75 => ⟨S3072x1, .f32⟩
  | 76 => ⟨S3072, .f32⟩
  | 77 => ⟨S3072, .f32⟩
  | 78 => ⟨S_, .f32⟩
  | 79 => ⟨S3072, .f32⟩
  | 80 => ⟨S3072, .f32⟩
  | 81 => ⟨S3072x1, .f32⟩
  | 82 => ⟨S3072, .f32⟩
  | 83 => ⟨S_, .f32⟩
  | 84 => ⟨S3072, .f32⟩
  | 85 => ⟨S3072, .f32⟩
  | 86 => ⟨S_, .f32⟩
  | 87 => ⟨S3072, .f32⟩
  | 88 => ⟨S3072, .f32⟩
  | 89 => ⟨S3072, .f32⟩
  | 90 => ⟨S3072x1, .f32⟩
  | 91 => ⟨S3072, .f32⟩
  | 92 => ⟨S_, .f32⟩
  | 93 => ⟨S3072, .f32⟩
  | 94 => ⟨S3072, .f32⟩
  | 95 => ⟨S_, .f32⟩
  | 96 => ⟨S3072, .f32⟩
  | 97 => ⟨S3072, .f32⟩
  | 98 => ⟨S3072, .f32⟩
  | 99 => ⟨S3072x1, .f32⟩
  | 100 => ⟨S3072, .f32⟩
  | 101 => ⟨S3072x1, .f32⟩
  | 102 => ⟨S3072, .f32⟩
  | 103 => ⟨S3072x1, .f32⟩
  | 104 => ⟨S3072, .f32⟩
  | 105 => ⟨S3072x1, .f32⟩
  | 106 => ⟨S3072, .f32⟩
  | 107 => ⟨S3072, .f32⟩
  | 108 => ⟨S3072, .f32⟩
  | 109 => ⟨S3072, .f32⟩
  | 110 => ⟨S3072, .f32⟩
  | 111 => ⟨S_, .f32⟩
  | 112 => ⟨S3072, .f32⟩
  | 113 => ⟨S3072, .f32⟩
  | 114 => ⟨S3072, .f32⟩
  | 115 => ⟨S3072, .f32⟩
  | 116 => ⟨S_, .f32⟩
  | 117 => ⟨S3072, .f32⟩
  | 118 => ⟨S3072, .f32⟩
  | 119 => ⟨S3072, .f32⟩
  | 120 => ⟨S3072, .f32⟩
  | 121 => ⟨S_, .f32⟩
  | 122 => ⟨S3072, .f32⟩
  | 123 => ⟨S3072, .f32⟩
  | 124 => ⟨S_, .f32⟩
  | 125 => ⟨S3072, .f32⟩
  | 126 => ⟨S3072, .f32⟩
  | 127 => ⟨S3072, .f32⟩
  | _ => ⟨S1x6x256x256, .f32⟩

abbrev hbmTy0_5 (i : Nat) : BufTy := match i % 128 with
  | 0 => ⟨S_, .f32⟩
  | 1 => ⟨S_, .f32⟩
  | 2 => ⟨S_, .f32⟩
  | 3 => ⟨S_, .f32⟩
  | 4 => ⟨S3072, .f32⟩
  | 5 => ⟨S3072, .f32⟩
  | 6 => ⟨S3072, .f32⟩
  | 7 => ⟨S3072, .f32⟩
  | 8 => ⟨S_, .f32⟩
  | 9 => ⟨S3072, .f32⟩
  | 10 => ⟨S3072, .f32⟩
  | 11 => ⟨S_, .f32⟩
  | 12 => ⟨S3072, .f32⟩
  | 13 => ⟨S3072, .f32⟩
  | 14 => ⟨S3072, .f32⟩
  | 15 => ⟨S_, .f32⟩
  | 16 => ⟨S_, .f32⟩
  | 17 => ⟨S_, .f32⟩
  | 18 => ⟨S_, .f32⟩
  | 19 => ⟨S3072, .f32⟩
  | 20 => ⟨S3072, .f32⟩
  | 21 => ⟨S3072, .f32⟩
  | 22 => ⟨S3072, .f32⟩
  | 23 => ⟨S_, .f32⟩
  | 24 => ⟨S3072, .f32⟩
  | 25 => ⟨S3072, .f32⟩
  | 26 => ⟨S_, .f32⟩
  | 27 => ⟨S3072, .f32⟩
  | 28 => ⟨S3072, .f32⟩
  | 29 => ⟨S3072, .f32⟩
  | 30 => ⟨S_, .f32⟩
  | 31 => ⟨S_, .f32⟩
  | 32 => ⟨S_, .f32⟩
  | 33 => ⟨S_, .f32⟩
  | 34 => ⟨S3072, .f32⟩
  | 35 => ⟨S3072, .f32⟩
  | 36 => ⟨S3072, .f32⟩
  | 37 => ⟨S3072, .f32⟩
  | 38 => ⟨S_, .f32⟩
  | 39 => ⟨S3072, .f32⟩
  | 40 => ⟨S3072, .f32⟩
  | 41 => ⟨S_, .f32⟩
  | 42 => ⟨S3072, .f32⟩
  | 43 => ⟨S3072, .f32⟩
  | 44 => ⟨S3072, .f32⟩
  | 45 => ⟨S_, .f32⟩
  | 46 => ⟨S_, .f32⟩
  | 47 => ⟨S_, .f32⟩
  | 48 => ⟨S_, .f32⟩
  | 49 => ⟨S3072, .f32⟩
  | 50 => ⟨S3072, .f32⟩
  | 51 => ⟨S3072, .f32⟩
  | 52 => ⟨S3072, .f32⟩
  | 53 => ⟨S3072x1, .f32⟩
  | 54 => ⟨S3072x1, .f32⟩
  | 55 => ⟨S3072x1, .f32⟩
  | 56 => ⟨S3072x1, .f32⟩
  | 57 => ⟨S3072x4, .f32⟩
  | 58 => ⟨S3072, .f32⟩
  | 59 => ⟨S_, .f32⟩
  | 60 => ⟨S3072, .f32⟩
  | 61 => ⟨S3072, .f32⟩
  | 62 => ⟨S3072, .f32⟩
  | 63 => ⟨S_, .f32⟩
  | 64 => ⟨S3072, .f32⟩
  | 65 => ⟨S3072, .f32⟩
  | 66 => ⟨S_, .f32⟩
  | 67 => ⟨S3072, .f32⟩
  | 68 => ⟨S3072, .i1⟩
  | 69 => ⟨S_, .f32⟩
  | 70 => ⟨S3072, .f32⟩
  | 71 => ⟨S3072, .i1⟩
  | 72 => ⟨S3072, .i1⟩
  | 73 => ⟨S_, .f32⟩
  | 74 => ⟨S_, .f32⟩
  | 75 => ⟨S3072, .f32⟩
  | 76 => ⟨S3072, .f32⟩
  | 77 => ⟨S1x3x16x16, .f32⟩
  | 78 => ⟨S3x16x16, .f32⟩
  | 79 => ⟨S16x16x3, .f32⟩
  | 80 => ⟨S768, .f32⟩
  | 81 => ⟨S12x16x16, .f32⟩
  | 82 => ⟨S16x16x12, .f32⟩
  | 83 => ⟨S768x4, .f32⟩
  | 84 => ⟨S16, .i32⟩
  | 85 => ⟨S16, .f32⟩
  | 86 => ⟨S_, .f32⟩
  | 87 => ⟨S16, .f32⟩
  | 88 => ⟨S16, .f32⟩
  | 89 => ⟨S16, .i32⟩
  | 90 => ⟨S16, .f32⟩
  | 91 => ⟨S_, .f32⟩
  | 92 => ⟨S16, .f32⟩
  | 93 => ⟨S16, .f32⟩
  | 94 => ⟨S1x16, .f32⟩
  | 95 => ⟨S16x16, .f32⟩
  | 96 => ⟨S256, .f32⟩
  | 97 => ⟨S16x1, .f32⟩
  | 98 => ⟨S16x16, .f32⟩
  | 99 => ⟨S256, .f32⟩
  | 100 => ⟨S256x1, .f32⟩
  | 101 => ⟨S256x1, .f32⟩
  | 102 => ⟨S256x1, .f32⟩
  | 103 => ⟨S256x1, .f32⟩
  | 104 => ⟨S256x4, .f32⟩
  | 105 => ⟨S256x1x4, .f32⟩
  | 106 => ⟨S256x3x4, .f32⟩
  | 107 => ⟨S256x3x4, .f32⟩
  | 108 => ⟨S256x3x4, .f32⟩
  | 109 => ⟨S768x4, .f32⟩
  | 110 => ⟨S768x1, .f32⟩
  | 111 => ⟨S768, .f32⟩
  | 112 => ⟨S768x1, .f32⟩
  | 113 => ⟨S768, .f32⟩
  | 114 => ⟨S768, .f32⟩
  | 115 => ⟨S_, .f32⟩
  | 116 => ⟨S768, .f32⟩
  | 117 => ⟨S768, .f32⟩
  | 118 => ⟨S768x1, .f32⟩
  | 119 => ⟨S768, .f32⟩
  | 120 => ⟨S768x1, .f32⟩
  | 121 => ⟨S768, .f32⟩
  | 122 => ⟨S768, .f32⟩
  | 123 => ⟨S_, .f32⟩
  | 124 => ⟨S768, .f32⟩
  | 125 => ⟨S768, .f32⟩
  | 126 => ⟨S768x1, .f32⟩
  | 127 => ⟨S768, .f32⟩
  | _ => ⟨S1x6x256x256, .f32⟩

abbrev hbmTy0_6 (i : Nat) : BufTy := match i % 128 with
  | 0 => ⟨S_, .f32⟩
  | 1 => ⟨S768, .f32⟩
  | 2 => ⟨S768, .f32⟩
  | 3 => ⟨S_, .f32⟩
  | 4 => ⟨S768, .f32⟩
  | 5 => ⟨S768, .f32⟩
  | 6 => ⟨S768, .f32⟩
  | 7 => ⟨S768x1, .f32⟩
  | 8 => ⟨S768, .f32⟩
  | 9 => ⟨S_, .f32⟩
  | 10 => ⟨S768, .f32⟩
  | 11 => ⟨S768, .f32⟩
  | 12 => ⟨S_, .f32⟩
  | 13 => ⟨S768, .f32⟩
  | 14 => ⟨S768, .f32⟩
  | 15 => ⟨S768, .f32⟩
  | 16 => ⟨S768x1, .f32⟩
  | 17 => ⟨S768, .f32⟩
  | 18 => ⟨S768x1, .f32⟩
  | 19 => ⟨S768, .f32⟩
  | 20 => ⟨S768x1, .f32⟩
  | 21 => ⟨S768, .f32⟩
  | 22 => ⟨S768x1, .f32⟩
  | 23 => ⟨S768, .f32⟩
  | 24 => ⟨S768, .f32⟩
  | 25 => ⟨S768, .f32⟩
  | 26 => ⟨S768, .f32⟩
  | 27 => ⟨S768, .f32⟩
  | 28 => ⟨S_, .f32⟩
  | 29 => ⟨S768, .f32⟩
  | 30 => ⟨S768, .f32⟩
  | 31 => ⟨S768, .f32⟩
  | 32 => ⟨S768, .f32⟩
  | 33 => ⟨S_, .f32⟩
  | 34 => ⟨S768, .f32⟩
  | 35 => ⟨S768, .f32⟩
  | 36 => ⟨S768, .f32⟩
  | 37 => ⟨S768, .f32⟩
  | 38 => ⟨S_, .f32⟩
  | 39 => ⟨S768, .f32⟩
  | 40 => ⟨S768, .f32⟩
  | 41 => ⟨S_, .f32⟩
  | 42 => ⟨S768, .f32⟩
  | 43 => ⟨S768, .f32⟩
  | 44 => ⟨S768, .f32⟩
  | 45 => ⟨S_, .f32⟩
  | 46 => ⟨S_, .f32⟩
  | 47 => ⟨S_, .f32⟩
  | 48 => ⟨S_, .f32⟩
  | 49 => ⟨S768, .f32⟩
  | 50 => ⟨S768, .f32⟩
  | 51 => ⟨S768, .f32⟩
  | 52 => ⟨S768, .f32⟩
  | 53 => ⟨S_, .f32⟩
  | 54 => ⟨S768, .f32⟩
  | 55 => ⟨S768, .f32⟩
  | 56 => ⟨S_, .f32⟩
  | 57 => ⟨S768, .f32⟩
  | 58 => ⟨S768, .f32⟩
  | 59 => ⟨S768, .f32⟩
  | 60 => ⟨S_, .f32⟩
  | 61 => ⟨S_, .f32⟩
  | 62 => ⟨S_, .f32⟩
  | 63 => ⟨S_, .f32⟩
  | 64 => ⟨S768, .f32⟩
  | 65 => ⟨S768, .f32⟩
  | 66 => ⟨S768, .f32⟩
  | 67 => ⟨S768, .f32⟩
  | 68 => ⟨S_, .f32⟩
  | 69 => ⟨S768, .f32⟩
  | 70 => ⟨S768, .f32⟩
  | 71 => ⟨S_, .f32⟩
  | 72 => ⟨S768, .f32⟩
  | 73 => ⟨S768, .f32⟩
  | 74 => ⟨S768, .f32⟩
  | 75 => ⟨S_, .f32⟩
  | 76 => ⟨S_, .f32⟩
  | 77 => ⟨S_, .f32⟩
  | 78 => ⟨S_, .f32⟩
  | 79 => ⟨S768, .f32⟩
  | 80 => ⟨S768, .f32⟩
  | 81 => ⟨S768, .f32⟩
  | 82 => ⟨S768, .f32⟩
  | 83 => ⟨S_, .f32⟩
  | 84 => ⟨S768, .f32⟩
  | 85 => ⟨S768, .f32⟩
  | 86 => ⟨S_, .f32⟩
  | 87 => ⟨S768, .f32⟩
  | 88 => ⟨S768, .f32⟩
  | 89 => ⟨S768, .f32⟩
  | 90 => ⟨S_, .f32⟩
  | 91 => ⟨S_, .f32⟩
  | 92 => ⟨S_, .f32⟩
  | 93 => ⟨S_, .f32⟩
  | 94 => ⟨S768, .f32⟩
  | 95 => ⟨S768, .f32⟩
  | 96 => ⟨S768, .f32⟩
  | 97 => ⟨S768, .f32⟩
  | 98 => ⟨S768x1, .f32⟩
  | 99 => ⟨S768x1, .f32⟩
  | 100 => ⟨S768x1, .f32⟩
  | 101 => ⟨S768x1, .f32⟩
  | 102 => ⟨S768x4, .f32⟩
  | 103 => ⟨S768, .f32⟩
  | 104 => ⟨S_, .f32⟩
  | 105 => ⟨S768, .f32⟩
  | 106 => ⟨S768, .f32⟩
  | 107 => ⟨S768, .f32⟩
  | 108 => ⟨S_, .f32⟩
  | 109 => ⟨S768, .f32⟩
  | 110 => ⟨S768, .f32⟩
  | 111 => ⟨S_, .f32⟩
  | 112 => ⟨S768, .f32⟩
  | 113 => ⟨S768, .i1⟩
  | 114 => ⟨S_, .f32⟩
  | 115 => ⟨S768, .f32⟩
  | 116 => ⟨S768, .i1⟩
  | 117 => ⟨S768, .i1⟩
  | 118 => ⟨S_, .f32⟩
  | 119 => ⟨S_, .f32⟩
  | 120 => ⟨S768, .f32⟩
  | 121 => ⟨S768, .f32⟩
  | 122 => ⟨S261888x4, .f32⟩
  | 123 => ⟨S261888, .f32⟩
  | 124 => ⟨S2000, .f32⟩
  | 125 => ⟨S2000, .i32⟩
  | 126 => ⟨S_, .i32⟩
  | 127 => ⟨S2000, .i32⟩
  | _ => ⟨S1x6x256x256, .f32⟩

abbrev hbmTy0_7 (i : Nat) : BufTy := match i % 128 with
  | 0 => ⟨S2000, .i1⟩
  | 1 => ⟨S_, .i32⟩
  | 2 => ⟨S2000, .i32⟩
  | 3 => ⟨S2000, .i32⟩
  | 4 => ⟨S2000, .i32⟩
  | 5 => ⟨S2000x1, .i32⟩
  | 6 => ⟨S2000x4, .f32⟩
  | 7 => ⟨S2000x1, .f32⟩
  | 8 => ⟨S2000, .f32⟩
  | 9 => ⟨S2000x1, .f32⟩
  | 10 => ⟨S2000, .f32⟩
  | 11 => ⟨S2000x1, .f32⟩
  | 12 => ⟨S2000, .f32⟩
  | 13 => ⟨S2000x1, .f32⟩
  | 14 => ⟨S2000, .f32⟩
  | 15 => ⟨S2000, .f32⟩
  | 16 => ⟨S_, .f32⟩
  | 17 => ⟨S2000, .f32⟩
  | 18 => ⟨S2000, .f32⟩
  | 19 => ⟨S2000, .f32⟩
  | 20 => ⟨S_, .f32⟩
  | 21 => ⟨S2000, .f32⟩
  | 22 => ⟨S2000, .f32⟩
  | 23 => ⟨S2000, .f32⟩
  | 24 => ⟨S2000, .i32⟩
  | 25 => ⟨S_, .i1⟩
  | 26 => ⟨S2000, .i1⟩
  | 27 => ⟨S_, .i32⟩
  | 28 => ⟨S_, .i32⟩
  | 29 => ⟨S2000, .f32⟩
  | 30 => ⟨S2000, .f32⟩
  | 31 => ⟨S2000, .f32⟩
  | 32 => ⟨S2000, .f32⟩
  | 33 => ⟨S2000, .f32⟩
  | 34 => ⟨S2000, .i32⟩
  | 35 => ⟨S_, .i32⟩
  | 36 => ⟨S_, .i32⟩
  | 37 => ⟨S2000, .i1⟩
  | 38 => ⟨S_, .i32⟩
  | 39 => ⟨S_, .i1⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S1, .f32⟩
  | 49 => ⟨S_, .f32⟩
  | 50 => ⟨S2000, .f32⟩
  | 51 => ⟨S2000, .f32⟩
  | 52 => ⟨S_, .i32⟩
  | 53 => ⟨S_, .i1⟩
  | 54 => ⟨S_, .i32⟩
  | 55 => ⟨S_, .i32⟩
  | 56 => ⟨S_, .i32⟩
  | 57 => ⟨S_, .i32⟩
  | 58 => ⟨S1, .f32⟩
  | 59 => ⟨S_, .f32⟩
  | 60 => ⟨S2000, .f32⟩
  | 61 => ⟨S2000, .f32⟩
  | 62 => ⟨S_, .i32⟩
  | 63 => ⟨S_, .i1⟩
  | 64 => ⟨S_, .i32⟩
  | 65 => ⟨S_, .i32⟩
  | 66 => ⟨S_, .i32⟩
  | 67 => ⟨S_, .i32⟩
  | 68 => ⟨S1, .f32⟩
  | 69 => ⟨S_, .f32⟩
  | 70 => ⟨S2000, .f32⟩
  | 71 => ⟨S2000, .f32⟩
  | 72 => ⟨S_, .i32⟩
  | 73 => ⟨S_, .i1⟩
  | 74 => ⟨S_, .i32⟩
  | 75 => ⟨S_, .i32⟩
  | 76 => ⟨S_, .i32⟩
  | 77 => ⟨S_, .i32⟩
  | 78 => ⟨S1, .f32⟩
  | 79 => ⟨S_, .f32⟩
  | 80 => ⟨S2000, .f32⟩
  | 81 => ⟨S2000, .f32⟩
  | 82 => ⟨S2000, .f32⟩
  | 83 => ⟨S_, .f32⟩
  | 84 => ⟨S2000, .f32⟩
  | 85 => ⟨S2000, .f32⟩
  | 86 => ⟨S_, .f32⟩
  | 87 => ⟨S2000, .f32⟩
  | 88 => ⟨S2000, .f32⟩
  | 89 => ⟨S2000, .f32⟩
  | 90 => ⟨S_, .f32⟩
  | 91 => ⟨S2000, .f32⟩
  | 92 => ⟨S2000, .f32⟩
  | 93 => ⟨S_, .f32⟩
  | 94 => ⟨S2000, .f32⟩
  | 95 => ⟨S2000, .f32⟩
  | 96 => ⟨S2000, .f32⟩
  | 97 => ⟨S_, .i32⟩
  | 98 => ⟨S_, .i1⟩
  | 99 => ⟨S_, .i32⟩
  | 100 => ⟨S_, .i32⟩
  | 101 => ⟨S_, .i32⟩
  | 102 => ⟨S_, .i32⟩
  | 103 => ⟨S1, .f32⟩
  | 104 => ⟨S_, .f32⟩
  | 105 => ⟨S2000, .f32⟩
  | 106 => ⟨S2000, .f32⟩
  | 107 => ⟨S2000, .f32⟩
  | 108 => ⟨S2000, .f32⟩
  | 109 => ⟨S_, .f32⟩
  | 110 => ⟨S2000, .f32⟩
  | 111 => ⟨S2000, .i1⟩
  | 112 => ⟨S_, .i32⟩
  | 113 => ⟨S2000, .i32⟩
  | 114 => ⟨S2000, .i1⟩
  | 115 => ⟨S2000, .i1⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1, .i1⟩
  | 123 => ⟨S_, .i1⟩
  | 124 => ⟨S2000, .i1⟩
  | 125 => ⟨S2000, .i1⟩
  | 126 => ⟨S2000, .i1⟩
  | 127 => ⟨S2000, .i1⟩
  | _ => ⟨S1x6x256x256, .f32⟩

abbrev hbmTy0_8 (i : Nat) : BufTy := match i % 128 with
  | 0 => ⟨S_, .i32⟩
  | 1 => ⟨S_, .i32⟩
  | 2 => ⟨S_, .f32⟩
  | 3 => ⟨S_, .f32⟩
  | 4 => ⟨S2000, .f32⟩
  | 5 => ⟨S2000, .f32⟩
  | 6 => ⟨S1000, .f32⟩
  | 7 => ⟨S1000, .i32⟩
  | 8 => ⟨S_, .i32⟩
  | 9 => ⟨S1000, .i32⟩
  | 10 => ⟨S1000, .i1⟩
  | 11 => ⟨S_, .i32⟩
  | 12 => ⟨S1000, .i32⟩
  | 13 => ⟨S1000, .i32⟩
  | 14 => ⟨S1000, .i32⟩
  | 15 => ⟨S1000x1, .i32⟩
  | 16 => ⟨S1000x4, .f32⟩
  | 17 => ⟨S_, .f32⟩
  | 18 => ⟨S1000x1, .f32⟩
  | 19 => ⟨S1000x5, .f32⟩
  | _ => ⟨S1x6x256x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S1x6x256x256, .f32⟩

abbrev bufTy : (tb : Table) → Fin (tcTables nBuf tb) → BufTy
  | .hbm, ⟨i, _⟩ => hbmTy i
  | _, _ => ⟨S1x6x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_cst_2 : Ref sig .tc := ⟨.hbm, 17, rfl⟩
abbrev main_v3 : Ref sig .tc := ⟨.hbm, 18, rfl⟩
abbrev main_cst_3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_6 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_8 : Ref sig .tc := ⟨.hbm, 76, rfl⟩
abbrev main_v56 : Ref sig .tc := ⟨.hbm, 77, rfl⟩
abbrev main_v57 : Ref sig .tc := ⟨.hbm, 78, rfl⟩
abbrev main_cst_9 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_cst_11 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_12 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_13 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_14 : Ref sig .tc := ⟨.hbm, 114, rfl⟩
abbrev main_v88 : Ref sig .tc := ⟨.hbm, 115, rfl⟩
abbrev main_v89 : Ref sig .tc := ⟨.hbm, 116, rfl⟩
abbrev main_cst_15 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_16 : Ref sig .tc := ⟨.hbm, 121, rfl⟩
abbrev main_v93 : Ref sig .tc := ⟨.hbm, 122, rfl⟩
abbrev main_cst_17 : Ref sig .tc := ⟨.hbm, 123, rfl⟩
abbrev main_call0_v0 : Ref sig .tc := ⟨.hbm, 124, rfl⟩
abbrev main_call0_v1 : Ref sig .tc := ⟨.hbm, 125, rfl⟩
abbrev main_call0_v2 : Ref sig .tc := ⟨.hbm, 126, rfl⟩
abbrev main_call0_v3 : Ref sig .tc := ⟨.hbm, 127, rfl⟩
abbrev main_v94 : Ref sig .tc := ⟨.hbm, 128, rfl⟩
abbrev main_cst_18 : Ref sig .tc := ⟨.hbm, 129, rfl⟩
abbrev main_v95 : Ref sig .tc := ⟨.hbm, 130, rfl⟩
abbrev main_v96 : Ref sig .tc := ⟨.hbm, 131, rfl⟩
abbrev main_cst_19 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_20 : Ref sig .tc := ⟨.hbm, 136, rfl⟩
abbrev main_v100 : Ref sig .tc := ⟨.hbm, 137, rfl⟩
abbrev main_cst_21 : Ref sig .tc := ⟨.hbm, 138, rfl⟩
abbrev main_call1_v0 : Ref sig .tc := ⟨.hbm, 139, rfl⟩
abbrev main_call1_v1 : Ref sig .tc := ⟨.hbm, 140, rfl⟩
abbrev main_call1_v2 : Ref sig .tc := ⟨.hbm, 141, rfl⟩
abbrev main_call1_v3 : Ref sig .tc := ⟨.hbm, 142, rfl⟩
abbrev main_v101 : Ref sig .tc := ⟨.hbm, 143, rfl⟩
abbrev main_cst_22 : Ref sig .tc := ⟨.hbm, 144, rfl⟩
abbrev main_v102 : Ref sig .tc := ⟨.hbm, 145, rfl⟩
abbrev main_v103 : Ref sig .tc := ⟨.hbm, 146, rfl⟩
abbrev main_cst_23 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_cst_24 : Ref sig .tc := ⟨.hbm, 151, rfl⟩
abbrev main_v107 : Ref sig .tc := ⟨.hbm, 152, rfl⟩
abbrev main_cst_25 : Ref sig .tc := ⟨.hbm, 153, rfl⟩
abbrev main_call2_v0 : Ref sig .tc := ⟨.hbm, 154, rfl⟩
abbrev main_call2_v1 : Ref sig .tc := ⟨.hbm, 155, rfl⟩
abbrev main_call2_v2 : Ref sig .tc := ⟨.hbm, 156, rfl⟩
abbrev main_call2_v3 : Ref sig .tc := ⟨.hbm, 157, rfl⟩
abbrev main_v108 : Ref sig .tc := ⟨.hbm, 158, rfl⟩
abbrev main_cst_26 : Ref sig .tc := ⟨.hbm, 159, rfl⟩
abbrev main_v109 : Ref sig .tc := ⟨.hbm, 160, rfl⟩
abbrev main_v110 : Ref sig .tc := ⟨.hbm, 161, rfl⟩
abbrev main_cst_27 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_28 : Ref sig .tc := ⟨.hbm, 166, rfl⟩
abbrev main_v114 : Ref sig .tc := ⟨.hbm, 167, rfl⟩
abbrev main_cst_29 : Ref sig .tc := ⟨.hbm, 168, rfl⟩
abbrev main_call3_v0 : Ref sig .tc := ⟨.hbm, 169, rfl⟩
abbrev main_call3_v1 : Ref sig .tc := ⟨.hbm, 170, rfl⟩
abbrev main_call3_v2 : Ref sig .tc := ⟨.hbm, 171, rfl⟩
abbrev main_call3_v3 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_cst_30 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_cst_31 : Ref sig .tc := ⟨.hbm, 184, rfl⟩
abbrev main_v125 : Ref sig .tc := ⟨.hbm, 185, rfl⟩
abbrev main_v126 : Ref sig .tc := ⟨.hbm, 186, rfl⟩
abbrev main_cst_32 : Ref sig .tc := ⟨.hbm, 187, rfl⟩
abbrev main_v127 : Ref sig .tc := ⟨.hbm, 188, rfl⟩
abbrev main_v128 : Ref sig .tc := ⟨.hbm, 189, rfl⟩
abbrev main_cst_33 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_34 : Ref sig .tc := ⟨.hbm, 194, rfl⟩
abbrev main_call4_v0 : Ref sig .tc := ⟨.hbm, 195, rfl⟩
abbrev main_call4_v1 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_v140 : Ref sig .tc := ⟨.hbm, 205, rfl⟩
abbrev main_v141 : Ref sig .tc := ⟨.hbm, 206, rfl⟩
abbrev main_cst_35 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_cst_36 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_37 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_cst_38 : Ref sig .tc := ⟨.hbm, 244, rfl⟩
abbrev main_v176 : Ref sig .tc := ⟨.hbm, 245, rfl⟩
abbrev main_v177 : Ref sig .tc := ⟨.hbm, 246, rfl⟩
abbrev main_v178 : Ref sig .tc := ⟨.hbm, 247, rfl⟩
abbrev main_v179 : Ref sig .tc := ⟨.hbm, 248, rfl⟩
abbrev main_cst_39 : Ref sig .tc := ⟨.hbm, 249, rfl⟩
abbrev main_v180 : Ref sig .tc := ⟨.hbm, 250, rfl⟩
abbrev main_v181 : Ref sig .tc := ⟨.hbm, 251, rfl⟩
abbrev main_cst_40 : Ref sig .tc := ⟨.hbm, 252, rfl⟩
abbrev main_v182 : Ref sig .tc := ⟨.hbm, 253, rfl⟩
abbrev main_v183 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_41 : Ref sig .tc := ⟨.hbm, 258, rfl⟩
abbrev main_v187 : Ref sig .tc := ⟨.hbm, 259, rfl⟩
abbrev main_v188 : Ref sig .tc := ⟨.hbm, 260, rfl⟩
abbrev main_cst_42 : Ref sig .tc := ⟨.hbm, 261, rfl⟩
abbrev main_v189 : Ref sig .tc := ⟨.hbm, 262, rfl⟩
abbrev main_v190 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_v200 : Ref sig .tc := ⟨.hbm, 273, rfl⟩
abbrev main_v201 : Ref sig .tc := ⟨.hbm, 274, rfl⟩
abbrev main_v202 : Ref sig .tc := ⟨.hbm, 275, rfl⟩
abbrev main_v203 : Ref sig .tc := ⟨.hbm, 276, rfl⟩
abbrev main_cst_43 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_cst_44 : Ref sig .tc := ⟨.hbm, 282, rfl⟩
abbrev main_v208 : Ref sig .tc := ⟨.hbm, 283, rfl⟩
abbrev main_v209 : Ref sig .tc := ⟨.hbm, 284, rfl⟩
abbrev main_v210 : Ref sig .tc := ⟨.hbm, 285, rfl⟩
abbrev main_v211 : Ref sig .tc := ⟨.hbm, 286, rfl⟩
abbrev main_cst_45 : Ref sig .tc := ⟨.hbm, 287, rfl⟩
abbrev main_v212 : Ref sig .tc := ⟨.hbm, 288, rfl⟩
abbrev main_v213 : Ref sig .tc := ⟨.hbm, 289, rfl⟩
abbrev main_cst_46 : Ref sig .tc := ⟨.hbm, 290, rfl⟩
abbrev main_v214 : Ref sig .tc := ⟨.hbm, 291, rfl⟩
abbrev main_v215 : Ref sig .tc := ⟨.hbm, 292, rfl⟩
abbrev main_v216 : Ref sig .tc := ⟨.hbm, 293, rfl⟩
abbrev main_cst_47 : Ref sig .tc := ⟨.hbm, 294, rfl⟩
abbrev main_v217 : Ref sig .tc := ⟨.hbm, 295, rfl⟩
abbrev main_cst_48 : Ref sig .tc := ⟨.hbm, 296, rfl⟩
abbrev main_call5_v0 : Ref sig .tc := ⟨.hbm, 297, rfl⟩
abbrev main_call5_v1 : Ref sig .tc := ⟨.hbm, 298, rfl⟩
abbrev main_call5_v2 : Ref sig .tc := ⟨.hbm, 299, rfl⟩
abbrev main_call5_v3 : Ref sig .tc := ⟨.hbm, 300, rfl⟩
abbrev main_v218 : Ref sig .tc := ⟨.hbm, 301, rfl⟩
abbrev main_cst_49 : Ref sig .tc := ⟨.hbm, 302, rfl⟩
abbrev main_v219 : Ref sig .tc := ⟨.hbm, 303, rfl⟩
abbrev main_v220 : Ref sig .tc := ⟨.hbm, 304, rfl⟩
abbrev main_cst_50 : Ref sig .tc := ⟨.hbm, 305, rfl⟩
abbrev main_v221 : Ref sig .tc := ⟨.hbm, 306, rfl⟩
abbrev main_v222 : Ref sig .tc := ⟨.hbm, 307, rfl⟩
abbrev main_v223 : Ref sig .tc := ⟨.hbm, 308, rfl⟩
abbrev main_cst_51 : Ref sig .tc := ⟨.hbm, 309, rfl⟩
abbrev main_v224 : Ref sig .tc := ⟨.hbm, 310, rfl⟩
abbrev main_cst_52 : Ref sig .tc := ⟨.hbm, 311, rfl⟩
abbrev main_call6_v0 : Ref sig .tc := ⟨.hbm, 312, rfl⟩
abbrev main_call6_v1 : Ref sig .tc := ⟨.hbm, 313, rfl⟩
abbrev main_call6_v2 : Ref sig .tc := ⟨.hbm, 314, rfl⟩
abbrev main_call6_v3 : Ref sig .tc := ⟨.hbm, 315, rfl⟩
abbrev main_v225 : Ref sig .tc := ⟨.hbm, 316, rfl⟩
abbrev main_cst_53 : Ref sig .tc := ⟨.hbm, 317, rfl⟩
abbrev main_v226 : Ref sig .tc := ⟨.hbm, 318, rfl⟩
abbrev main_v227 : Ref sig .tc := ⟨.hbm, 319, rfl⟩
abbrev main_cst_54 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_cst_55 : Ref sig .tc := ⟨.hbm, 324, rfl⟩
abbrev main_v231 : Ref sig .tc := ⟨.hbm, 325, rfl⟩
abbrev main_cst_56 : Ref sig .tc := ⟨.hbm, 326, rfl⟩
abbrev main_call7_v0 : Ref sig .tc := ⟨.hbm, 327, rfl⟩
abbrev main_call7_v1 : Ref sig .tc := ⟨.hbm, 328, rfl⟩
abbrev main_call7_v2 : Ref sig .tc := ⟨.hbm, 329, rfl⟩
abbrev main_call7_v3 : Ref sig .tc := ⟨.hbm, 330, rfl⟩
abbrev main_v232 : Ref sig .tc := ⟨.hbm, 331, rfl⟩
abbrev main_cst_57 : Ref sig .tc := ⟨.hbm, 332, rfl⟩
abbrev main_v233 : Ref sig .tc := ⟨.hbm, 333, rfl⟩
abbrev main_v234 : Ref sig .tc := ⟨.hbm, 334, rfl⟩
abbrev main_cst_58 : Ref sig .tc := ⟨.hbm, 335, rfl⟩
abbrev main_v235 : Ref sig .tc := ⟨.hbm, 336, rfl⟩
abbrev main_v236 : Ref sig .tc := ⟨.hbm, 337, rfl⟩
abbrev main_v237 : Ref sig .tc := ⟨.hbm, 338, rfl⟩
abbrev main_cst_59 : Ref sig .tc := ⟨.hbm, 339, rfl⟩
abbrev main_v238 : Ref sig .tc := ⟨.hbm, 340, rfl⟩
abbrev main_cst_60 : Ref sig .tc := ⟨.hbm, 341, rfl⟩
abbrev main_call8_v0 : Ref sig .tc := ⟨.hbm, 342, rfl⟩
abbrev main_call8_v1 : Ref sig .tc := ⟨.hbm, 343, rfl⟩
abbrev main_call8_v2 : Ref sig .tc := ⟨.hbm, 344, rfl⟩
abbrev main_call8_v3 : Ref sig .tc := ⟨.hbm, 345, rfl⟩
abbrev main_v239 : Ref sig .tc := ⟨.hbm, 346, rfl⟩
abbrev main_v240 : Ref sig .tc := ⟨.hbm, 347, rfl⟩
abbrev main_v241 : Ref sig .tc := ⟨.hbm, 348, rfl⟩
abbrev main_v242 : Ref sig .tc := ⟨.hbm, 349, rfl⟩
abbrev main_v243 : Ref sig .tc := ⟨.hbm, 350, rfl⟩
abbrev main_v244 : Ref sig .tc := ⟨.hbm, 351, rfl⟩
abbrev main_v245 : Ref sig .tc := ⟨.hbm, 352, rfl⟩
abbrev main_cst_61 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_cst_62 : Ref sig .tc := ⟨.hbm, 357, rfl⟩
abbrev main_v249 : Ref sig .tc := ⟨.hbm, 358, rfl⟩
abbrev main_v250 : Ref sig .tc := ⟨.hbm, 359, rfl⟩
abbrev main_cst_63 : Ref sig .tc := ⟨.hbm, 360, rfl⟩
abbrev main_v251 : Ref sig .tc := ⟨.hbm, 361, rfl⟩
abbrev main_v252 : Ref sig .tc := ⟨.hbm, 362, rfl⟩
abbrev main_cst_64 : Ref sig .tc := ⟨.hbm, 363, rfl⟩
abbrev main_v253 : Ref sig .tc := ⟨.hbm, 364, rfl⟩
abbrev main_v254 : Ref sig .tc := ⟨.hbm, 365, rfl⟩
abbrev main_v255 : Ref sig .tc := ⟨.hbm, 366, rfl⟩
abbrev main_cst_65 : Ref sig .tc := ⟨.hbm, 367, rfl⟩
abbrev main_call9_v0 : Ref sig .tc := ⟨.hbm, 368, rfl⟩
abbrev main_call9_v1 : Ref sig .tc := ⟨.hbm, 369, rfl⟩
abbrev main_v256 : Ref sig .tc := ⟨.hbm, 370, rfl⟩
abbrev main_v257 : Ref sig .tc := ⟨.hbm, 371, rfl⟩
abbrev main_v258 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_v262 : Ref sig .tc := ⟨.hbm, 376, rfl⟩
abbrev main_v263 : Ref sig .tc := ⟨.hbm, 377, rfl⟩
abbrev main_v264 : Ref sig .tc := ⟨.hbm, 378, rfl⟩
abbrev main_v265 : Ref sig .tc := ⟨.hbm, 379, rfl⟩
abbrev main_cst_66 : Ref sig .tc := ⟨.hbm, 380, rfl⟩
abbrev main_v266 : Ref sig .tc := ⟨.hbm, 381, rfl⟩
abbrev main_v267 : Ref sig .tc := ⟨.hbm, 382, rfl⟩
abbrev main_v268 : Ref sig .tc := ⟨.hbm, 383, rfl⟩
abbrev main_v269 : Ref sig .tc := ⟨.hbm, 384, rfl⟩
abbrev main_cst_67 : Ref sig .tc := ⟨.hbm, 385, rfl⟩
abbrev main_v270 : Ref sig .tc := ⟨.hbm, 386, rfl⟩
abbrev main_v271 : Ref sig .tc := ⟨.hbm, 387, rfl⟩
abbrev main_v272 : Ref sig .tc := ⟨.hbm, 388, rfl⟩
abbrev main_v273 : Ref sig .tc := ⟨.hbm, 389, rfl⟩
abbrev main_v274 : Ref sig .tc := ⟨.hbm, 390, rfl⟩
abbrev main_v275 : Ref sig .tc := ⟨.hbm, 391, rfl⟩
abbrev main_v276 : Ref sig .tc := ⟨.hbm, 392, rfl⟩
abbrev main_v277 : Ref sig .tc := ⟨.hbm, 393, rfl⟩
abbrev main_v278 : Ref sig .tc := ⟨.hbm, 394, rfl⟩
abbrev main_v279 : Ref sig .tc := ⟨.hbm, 395, rfl⟩
abbrev main_v280 : Ref sig .tc := ⟨.hbm, 396, rfl⟩
abbrev main_v281 : Ref sig .tc := ⟨.hbm, 397, rfl⟩
abbrev main_v282 : Ref sig .tc := ⟨.hbm, 398, rfl⟩
abbrev main_v283 : Ref sig .tc := ⟨.hbm, 399, rfl⟩
abbrev main_v284 : Ref sig .tc := ⟨.hbm, 400, rfl⟩
abbrev main_v285 : Ref sig .tc := ⟨.hbm, 401, rfl⟩
abbrev main_v286 : Ref sig .tc := ⟨.hbm, 402, rfl⟩
abbrev main_v287 : Ref sig .tc := ⟨.hbm, 403, rfl⟩
abbrev main_v288 : Ref sig .tc := ⟨.hbm, 404, rfl⟩
abbrev main_v289 : Ref sig .tc := ⟨.hbm, 405, rfl⟩
abbrev main_v290 : Ref sig .tc := ⟨.hbm, 406, rfl⟩
abbrev main_v291 : Ref sig .tc := ⟨.hbm, 407, rfl⟩
abbrev main_v292 : Ref sig .tc := ⟨.hbm, 408, rfl⟩
abbrev main_cst_68 : Ref sig .tc := ⟨.hbm, 409, rfl⟩
abbrev main_v293 : Ref sig .tc := ⟨.hbm, 410, rfl⟩
abbrev main_v294 : Ref sig .tc := ⟨.hbm, 411, rfl⟩
abbrev main_v295 : Ref sig .tc := ⟨.hbm, 412, rfl⟩
abbrev main_v296 : Ref sig .tc := ⟨.hbm, 413, rfl⟩
abbrev main_v297 : Ref sig .tc := ⟨.hbm, 414, rfl⟩
abbrev main_v298 : Ref sig .tc := ⟨.hbm, 415, rfl⟩
abbrev main_v299 : Ref sig .tc := ⟨.hbm, 416, rfl⟩
abbrev main_cst_69 : Ref sig .tc := ⟨.hbm, 417, rfl⟩
abbrev main_v300 : Ref sig .tc := ⟨.hbm, 418, rfl⟩
abbrev main_v301 : Ref sig .tc := ⟨.hbm, 419, rfl⟩
abbrev main_v302 : Ref sig .tc := ⟨.hbm, 420, rfl⟩
abbrev main_v303 : Ref sig .tc := ⟨.hbm, 421, rfl⟩
abbrev main_cst_70 : Ref sig .tc := ⟨.hbm, 422, rfl⟩
abbrev main_v304 : Ref sig .tc := ⟨.hbm, 423, rfl⟩
abbrev main_v305 : Ref sig .tc := ⟨.hbm, 424, rfl⟩
abbrev main_cst_71 : Ref sig .tc := ⟨.hbm, 425, rfl⟩
abbrev main_v306 : Ref sig .tc := ⟨.hbm, 426, rfl⟩
abbrev main_v307 : Ref sig .tc := ⟨.hbm, 427, rfl⟩
abbrev main_v308 : Ref sig .tc := ⟨.hbm, 428, rfl⟩
abbrev main_v309 : Ref sig .tc := ⟨.hbm, 429, rfl⟩
abbrev main_v310 : Ref sig .tc := ⟨.hbm, 430, rfl⟩
abbrev main_cst_72 : Ref sig .tc := ⟨.hbm, 431, rfl⟩
abbrev main_v311 : Ref sig .tc := ⟨.hbm, 432, rfl⟩
abbrev main_v312 : Ref sig .tc := ⟨.hbm, 433, rfl⟩
abbrev main_cst_73 : Ref sig .tc := ⟨.hbm, 434, rfl⟩
abbrev main_v313 : Ref sig .tc := ⟨.hbm, 435, rfl⟩
abbrev main_v314 : Ref sig .tc := ⟨.hbm, 436, rfl⟩
abbrev main_v315 : Ref sig .tc := ⟨.hbm, 437, rfl⟩
abbrev main_v316 : Ref sig .tc := ⟨.hbm, 438, rfl⟩
abbrev main_v317 : Ref sig .tc := ⟨.hbm, 439, rfl⟩
abbrev main_v318 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_v322 : Ref sig .tc := ⟨.hbm, 444, rfl⟩
abbrev main_v323 : Ref sig .tc := ⟨.hbm, 445, rfl⟩
abbrev main_v324 : Ref sig .tc := ⟨.hbm, 446, rfl⟩
abbrev main_v325 : Ref sig .tc := ⟨.hbm, 447, rfl⟩
abbrev main_v326 : Ref sig .tc := ⟨.hbm, 448, rfl⟩
abbrev main_v327 : Ref sig .tc := ⟨.hbm, 449, rfl⟩
abbrev main_cst_74 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_cst_75 : Ref sig .tc := ⟨.hbm, 455, rfl⟩
abbrev main_v332 : Ref sig .tc := ⟨.hbm, 456, rfl⟩
abbrev main_v333 : Ref sig .tc := ⟨.hbm, 457, rfl⟩
abbrev main_v334 : Ref sig .tc := ⟨.hbm, 458, rfl⟩
abbrev main_v335 : Ref sig .tc := ⟨.hbm, 459, rfl⟩
abbrev main_cst_76 : Ref sig .tc := ⟨.hbm, 460, rfl⟩
abbrev main_v336 : Ref sig .tc := ⟨.hbm, 461, rfl⟩
abbrev main_v337 : Ref sig .tc := ⟨.hbm, 462, rfl⟩
abbrev main_cst_77 : Ref sig .tc := ⟨.hbm, 463, rfl⟩
abbrev main_v338 : Ref sig .tc := ⟨.hbm, 464, rfl⟩
abbrev main_v339 : Ref sig .tc := ⟨.hbm, 465, rfl⟩
abbrev main_v340 : Ref sig .tc := ⟨.hbm, 466, rfl⟩
abbrev main_cst_78 : Ref sig .tc := ⟨.hbm, 467, rfl⟩
abbrev main_v341 : Ref sig .tc := ⟨.hbm, 468, rfl⟩
abbrev main_cst_79 : Ref sig .tc := ⟨.hbm, 469, rfl⟩
abbrev main_call10_v0 : Ref sig .tc := ⟨.hbm, 470, rfl⟩
abbrev main_call10_v1 : Ref sig .tc := ⟨.hbm, 471, rfl⟩
abbrev main_call10_v2 : Ref sig .tc := ⟨.hbm, 472, rfl⟩
abbrev main_call10_v3 : Ref sig .tc := ⟨.hbm, 473, rfl⟩
abbrev main_v342 : Ref sig .tc := ⟨.hbm, 474, rfl⟩
abbrev main_cst_80 : Ref sig .tc := ⟨.hbm, 475, rfl⟩
abbrev main_v343 : Ref sig .tc := ⟨.hbm, 476, rfl⟩
abbrev main_v344 : Ref sig .tc := ⟨.hbm, 477, rfl⟩
abbrev main_cst_81 : Ref sig .tc := ⟨.hbm, 478, rfl⟩
abbrev main_v345 : Ref sig .tc := ⟨.hbm, 479, rfl⟩
abbrev main_v346 : Ref sig .tc := ⟨.hbm, 480, rfl⟩
abbrev main_v347 : Ref sig .tc := ⟨.hbm, 481, rfl⟩
abbrev main_cst_82 : Ref sig .tc := ⟨.hbm, 482, rfl⟩
abbrev main_v348 : Ref sig .tc := ⟨.hbm, 483, rfl⟩
abbrev main_cst_83 : Ref sig .tc := ⟨.hbm, 484, rfl⟩
abbrev main_call11_v0 : Ref sig .tc := ⟨.hbm, 485, rfl⟩
abbrev main_call11_v1 : Ref sig .tc := ⟨.hbm, 486, rfl⟩
abbrev main_call11_v2 : Ref sig .tc := ⟨.hbm, 487, rfl⟩
abbrev main_call11_v3 : Ref sig .tc := ⟨.hbm, 488, rfl⟩
abbrev main_v349 : Ref sig .tc := ⟨.hbm, 489, rfl⟩
abbrev main_cst_84 : Ref sig .tc := ⟨.hbm, 490, rfl⟩
abbrev main_v350 : Ref sig .tc := ⟨.hbm, 491, rfl⟩
abbrev main_v351 : Ref sig .tc := ⟨.hbm, 492, rfl⟩
abbrev main_cst_85 : Ref sig .tc := ⟨.hbm, 493, rfl⟩
abbrev main_v352 : Ref sig .tc := ⟨.hbm, 494, rfl⟩
abbrev main_v353 : Ref sig .tc := ⟨.hbm, 495, rfl⟩
abbrev main_v354 : Ref sig .tc := ⟨.hbm, 496, rfl⟩
abbrev main_cst_86 : Ref sig .tc := ⟨.hbm, 497, rfl⟩
abbrev main_v355 : Ref sig .tc := ⟨.hbm, 498, rfl⟩
abbrev main_cst_87 : Ref sig .tc := ⟨.hbm, 499, rfl⟩
abbrev main_call12_v0 : Ref sig .tc := ⟨.hbm, 500, rfl⟩
abbrev main_call12_v1 : Ref sig .tc := ⟨.hbm, 501, rfl⟩
abbrev main_call12_v2 : Ref sig .tc := ⟨.hbm, 502, rfl⟩
abbrev main_call12_v3 : Ref sig .tc := ⟨.hbm, 503, rfl⟩
abbrev main_v356 : Ref sig .tc := ⟨.hbm, 504, rfl⟩
abbrev main_cst_88 : Ref sig .tc := ⟨.hbm, 505, rfl⟩
abbrev main_v357 : Ref sig .tc := ⟨.hbm, 506, rfl⟩
abbrev main_v358 : Ref sig .tc := ⟨.hbm, 507, rfl⟩
abbrev main_cst_89 : Ref sig .tc := ⟨.hbm, 508, rfl⟩
abbrev main_v359 : Ref sig .tc := ⟨.hbm, 509, rfl⟩
abbrev main_v360 : Ref sig .tc := ⟨.hbm, 510, rfl⟩
abbrev main_v361 : Ref sig .tc := ⟨.hbm, 511, rfl⟩
abbrev main_cst_90 : Ref sig .tc := ⟨.hbm, 512, rfl⟩
abbrev main_v362 : Ref sig .tc := ⟨.hbm, 513, rfl⟩
abbrev main_cst_91 : Ref sig .tc := ⟨.hbm, 514, rfl⟩
abbrev main_call13_v0 : Ref sig .tc := ⟨.hbm, 515, rfl⟩
abbrev main_call13_v1 : Ref sig .tc := ⟨.hbm, 516, rfl⟩
abbrev main_call13_v2 : Ref sig .tc := ⟨.hbm, 517, rfl⟩
abbrev main_call13_v3 : Ref sig .tc := ⟨.hbm, 518, rfl⟩
abbrev main_v363 : Ref sig .tc := ⟨.hbm, 519, rfl⟩
abbrev main_v364 : Ref sig .tc := ⟨.hbm, 520, rfl⟩
abbrev main_v365 : Ref sig .tc := ⟨.hbm, 521, rfl⟩
abbrev main_v366 : Ref sig .tc := ⟨.hbm, 522, rfl⟩
abbrev main_v367 : Ref sig .tc := ⟨.hbm, 523, rfl⟩
abbrev main_v368 : Ref sig .tc := ⟨.hbm, 524, rfl⟩
abbrev main_v369 : Ref sig .tc := ⟨.hbm, 525, rfl⟩
abbrev main_cst_92 : Ref sig .tc := ⟨.hbm, 526, rfl⟩
abbrev main_v370 : Ref sig .tc := ⟨.hbm, 527, rfl⟩
abbrev main_v371 : Ref sig .tc := ⟨.hbm, 528, rfl⟩
abbrev main_v372 : Ref sig .tc := ⟨.hbm, 529, rfl⟩
abbrev main_cst_93 : Ref sig .tc := ⟨.hbm, 530, rfl⟩
abbrev main_v373 : Ref sig .tc := ⟨.hbm, 531, rfl⟩
abbrev main_v374 : Ref sig .tc := ⟨.hbm, 532, rfl⟩
abbrev main_cst_94 : Ref sig .tc := ⟨.hbm, 533, rfl⟩
abbrev main_v375 : Ref sig .tc := ⟨.hbm, 534, rfl⟩
abbrev main_v376 : Ref sig .tc := ⟨.hbm, 535, rfl⟩
abbrev main_cst_95 : Ref sig .tc := ⟨.hbm, 536, rfl⟩
abbrev main_v377 : Ref sig .tc := ⟨.hbm, 537, rfl⟩
abbrev main_v378 : Ref sig .tc := ⟨.hbm, 538, rfl⟩
abbrev main_v379 : Ref sig .tc := ⟨.hbm, 539, rfl⟩
abbrev main_cst_96 : Ref sig .tc := ⟨.hbm, 540, rfl⟩
abbrev main_call14_v0 : Ref sig .tc := ⟨.hbm, 541, rfl⟩
abbrev main_call14_v1 : Ref sig .tc := ⟨.hbm, 542, rfl⟩
abbrev main_v380 : Ref sig .tc := ⟨.hbm, 543, rfl⟩
abbrev main_v381 : Ref sig .tc := ⟨.hbm, 544, rfl⟩
abbrev main_v382 : Ref sig .tc := ⟨.hbm, 545, rfl⟩
abbrev main_v383 : Ref sig .tc := ⟨.hbm, 546, rfl⟩
abbrev main_v384 : Ref sig .tc := ⟨.hbm, 547, rfl⟩
abbrev main_v385 : Ref sig .tc := ⟨.hbm, 548, rfl⟩
abbrev main_v386 : Ref sig .tc := ⟨.hbm, 549, rfl⟩
abbrev main_v387 : Ref sig .tc := ⟨.hbm, 550, rfl⟩
abbrev main_v388 : Ref sig .tc := ⟨.hbm, 551, rfl⟩
abbrev main_v389 : Ref sig .tc := ⟨.hbm, 552, rfl⟩
abbrev main_cst_97 : Ref sig .tc := ⟨.hbm, 553, rfl⟩
abbrev main_v390 : Ref sig .tc := ⟨.hbm, 554, rfl⟩
abbrev main_v391 : Ref sig .tc := ⟨.hbm, 555, rfl⟩
abbrev main_v392 : Ref sig .tc := ⟨.hbm, 556, rfl⟩
abbrev main_v393 : Ref sig .tc := ⟨.hbm, 557, rfl⟩
abbrev main_cst_98 : Ref sig .tc := ⟨.hbm, 558, rfl⟩
abbrev main_v394 : Ref sig .tc := ⟨.hbm, 559, rfl⟩
abbrev main_v395 : Ref sig .tc := ⟨.hbm, 560, rfl⟩
abbrev main_v396 : Ref sig .tc := ⟨.hbm, 561, rfl⟩
abbrev main_v397 : Ref sig .tc := ⟨.hbm, 562, rfl⟩
abbrev main_v398 : Ref sig .tc := ⟨.hbm, 563, rfl⟩
abbrev main_v399 : Ref sig .tc := ⟨.hbm, 564, rfl⟩
abbrev main_v400 : Ref sig .tc := ⟨.hbm, 565, rfl⟩
abbrev main_v401 : Ref sig .tc := ⟨.hbm, 566, rfl⟩
abbrev main_v402 : Ref sig .tc := ⟨.hbm, 567, rfl⟩
abbrev main_v403 : Ref sig .tc := ⟨.hbm, 568, rfl⟩
abbrev main_v404 : Ref sig .tc := ⟨.hbm, 569, rfl⟩
abbrev main_v405 : Ref sig .tc := ⟨.hbm, 570, rfl⟩
abbrev main_v406 : Ref sig .tc := ⟨.hbm, 571, rfl⟩
abbrev main_v407 : Ref sig .tc := ⟨.hbm, 572, rfl⟩
abbrev main_v408 : Ref sig .tc := ⟨.hbm, 573, rfl⟩
abbrev main_v409 : Ref sig .tc := ⟨.hbm, 574, rfl⟩
abbrev main_v410 : Ref sig .tc := ⟨.hbm, 575, rfl⟩
abbrev main_v411 : Ref sig .tc := ⟨.hbm, 576, rfl⟩
abbrev main_v412 : Ref sig .tc := ⟨.hbm, 577, rfl⟩
abbrev main_v413 : Ref sig .tc := ⟨.hbm, 578, rfl⟩
abbrev main_v414 : Ref sig .tc := ⟨.hbm, 579, rfl⟩
abbrev main_v415 : Ref sig .tc := ⟨.hbm, 580, rfl⟩
abbrev main_v416 : Ref sig .tc := ⟨.hbm, 581, rfl⟩
abbrev main_cst_99 : Ref sig .tc := ⟨.hbm, 582, rfl⟩
abbrev main_v417 : Ref sig .tc := ⟨.hbm, 583, rfl⟩
abbrev main_v418 : Ref sig .tc := ⟨.hbm, 584, rfl⟩
abbrev main_v419 : Ref sig .tc := ⟨.hbm, 585, rfl⟩
abbrev main_v420 : Ref sig .tc := ⟨.hbm, 586, rfl⟩
abbrev main_v421 : Ref sig .tc := ⟨.hbm, 587, rfl⟩
abbrev main_v422 : Ref sig .tc := ⟨.hbm, 588, rfl⟩
abbrev main_v423 : Ref sig .tc := ⟨.hbm, 589, rfl⟩
abbrev main_cst_100 : Ref sig .tc := ⟨.hbm, 590, rfl⟩
abbrev main_v424 : Ref sig .tc := ⟨.hbm, 591, rfl⟩
abbrev main_v425 : Ref sig .tc := ⟨.hbm, 592, rfl⟩
abbrev main_v426 : Ref sig .tc := ⟨.hbm, 593, rfl⟩
abbrev main_v427 : Ref sig .tc := ⟨.hbm, 594, rfl⟩
abbrev main_cst_101 : Ref sig .tc := ⟨.hbm, 595, rfl⟩
abbrev main_v428 : Ref sig .tc := ⟨.hbm, 596, rfl⟩
abbrev main_v429 : Ref sig .tc := ⟨.hbm, 597, rfl⟩
abbrev main_cst_102 : Ref sig .tc := ⟨.hbm, 598, rfl⟩
abbrev main_v430 : Ref sig .tc := ⟨.hbm, 599, rfl⟩
abbrev main_v431 : Ref sig .tc := ⟨.hbm, 600, rfl⟩
abbrev main_v432 : Ref sig .tc := ⟨.hbm, 601, rfl⟩
abbrev main_v433 : Ref sig .tc := ⟨.hbm, 602, rfl⟩
abbrev main_v434 : Ref sig .tc := ⟨.hbm, 603, rfl⟩
abbrev main_cst_103 : Ref sig .tc := ⟨.hbm, 604, rfl⟩
abbrev main_v435 : Ref sig .tc := ⟨.hbm, 605, rfl⟩
abbrev main_v436 : Ref sig .tc := ⟨.hbm, 606, rfl⟩
abbrev main_cst_104 : Ref sig .tc := ⟨.hbm, 607, rfl⟩
abbrev main_v437 : Ref sig .tc := ⟨.hbm, 608, rfl⟩
abbrev main_v438 : Ref sig .tc := ⟨.hbm, 609, rfl⟩
abbrev main_v439 : Ref sig .tc := ⟨.hbm, 610, rfl⟩
abbrev main_v440 : Ref sig .tc := ⟨.hbm, 611, rfl⟩
abbrev main_v441 : Ref sig .tc := ⟨.hbm, 612, rfl⟩
abbrev main_v442 : Ref sig .tc := ⟨.hbm, 613, rfl⟩
abbrev main_v443 : Ref sig .tc := ⟨.hbm, 614, rfl⟩
abbrev main_v444 : Ref sig .tc := ⟨.hbm, 615, rfl⟩
abbrev main_v445 : Ref sig .tc := ⟨.hbm, 616, rfl⟩
abbrev main_v446 : Ref sig .tc := ⟨.hbm, 617, rfl⟩
abbrev main_v447 : Ref sig .tc := ⟨.hbm, 618, rfl⟩
abbrev main_v448 : Ref sig .tc := ⟨.hbm, 619, rfl⟩
abbrev main_v449 : Ref sig .tc := ⟨.hbm, 620, rfl⟩
abbrev main_v450 : Ref sig .tc := ⟨.hbm, 621, rfl⟩
abbrev main_v451 : Ref sig .tc := ⟨.hbm, 622, rfl⟩
abbrev main_cst_105 : Ref sig .tc := ⟨.hbm, 623, rfl⟩
abbrev main_v452 : Ref sig .tc := ⟨.hbm, 624, rfl⟩
abbrev main_v453 : Ref sig .tc := ⟨.hbm, 625, rfl⟩
abbrev main_v454 : Ref sig .tc := ⟨.hbm, 626, rfl⟩
abbrev main_v455 : Ref sig .tc := ⟨.hbm, 627, rfl⟩
abbrev main_cst_106 : Ref sig .tc := ⟨.hbm, 628, rfl⟩
abbrev main_v456 : Ref sig .tc := ⟨.hbm, 629, rfl⟩
abbrev main_v457 : Ref sig .tc := ⟨.hbm, 630, rfl⟩
abbrev main_v458 : Ref sig .tc := ⟨.hbm, 631, rfl⟩
abbrev main_v459 : Ref sig .tc := ⟨.hbm, 632, rfl⟩
abbrev main_cst_107 : Ref sig .tc := ⟨.hbm, 633, rfl⟩
abbrev main_v460 : Ref sig .tc := ⟨.hbm, 634, rfl⟩
abbrev main_v461 : Ref sig .tc := ⟨.hbm, 635, rfl⟩
abbrev main_cst_108 : Ref sig .tc := ⟨.hbm, 636, rfl⟩
abbrev main_v462 : Ref sig .tc := ⟨.hbm, 637, rfl⟩
abbrev main_v463 : Ref sig .tc := ⟨.hbm, 638, rfl⟩
abbrev main_v464 : Ref sig .tc := ⟨.hbm, 639, rfl⟩
abbrev main_cst_109 : Ref sig .tc := ⟨.hbm, 640, rfl⟩
abbrev main_v465 : Ref sig .tc := ⟨.hbm, 641, rfl⟩
abbrev main_cst_110 : Ref sig .tc := ⟨.hbm, 642, rfl⟩
abbrev main_call15_v0 : Ref sig .tc := ⟨.hbm, 643, rfl⟩
abbrev main_call15_v1 : Ref sig .tc := ⟨.hbm, 644, rfl⟩
abbrev main_call15_v2 : Ref sig .tc := ⟨.hbm, 645, rfl⟩
abbrev main_call15_v3 : Ref sig .tc := ⟨.hbm, 646, rfl⟩
abbrev main_v466 : Ref sig .tc := ⟨.hbm, 647, rfl⟩
abbrev main_cst_111 : Ref sig .tc := ⟨.hbm, 648, rfl⟩
abbrev main_v467 : Ref sig .tc := ⟨.hbm, 649, rfl⟩
abbrev main_v468 : Ref sig .tc := ⟨.hbm, 650, rfl⟩
abbrev main_cst_112 : Ref sig .tc := ⟨.hbm, 651, rfl⟩
abbrev main_v469 : Ref sig .tc := ⟨.hbm, 652, rfl⟩
abbrev main_v470 : Ref sig .tc := ⟨.hbm, 653, rfl⟩
abbrev main_v471 : Ref sig .tc := ⟨.hbm, 654, rfl⟩
abbrev main_cst_113 : Ref sig .tc := ⟨.hbm, 655, rfl⟩
abbrev main_v472 : Ref sig .tc := ⟨.hbm, 656, rfl⟩
abbrev main_cst_114 : Ref sig .tc := ⟨.hbm, 657, rfl⟩
abbrev main_call16_v0 : Ref sig .tc := ⟨.hbm, 658, rfl⟩
abbrev main_call16_v1 : Ref sig .tc := ⟨.hbm, 659, rfl⟩
abbrev main_call16_v2 : Ref sig .tc := ⟨.hbm, 660, rfl⟩
abbrev main_call16_v3 : Ref sig .tc := ⟨.hbm, 661, rfl⟩
abbrev main_v473 : Ref sig .tc := ⟨.hbm, 662, rfl⟩
abbrev main_cst_115 : Ref sig .tc := ⟨.hbm, 663, rfl⟩
abbrev main_v474 : Ref sig .tc := ⟨.hbm, 664, rfl⟩
abbrev main_v475 : Ref sig .tc := ⟨.hbm, 665, rfl⟩
abbrev main_cst_116 : Ref sig .tc := ⟨.hbm, 666, rfl⟩
abbrev main_v476 : Ref sig .tc := ⟨.hbm, 667, rfl⟩
abbrev main_v477 : Ref sig .tc := ⟨.hbm, 668, rfl⟩
abbrev main_v478 : Ref sig .tc := ⟨.hbm, 669, rfl⟩
abbrev main_cst_117 : Ref sig .tc := ⟨.hbm, 670, rfl⟩
abbrev main_v479 : Ref sig .tc := ⟨.hbm, 671, rfl⟩
abbrev main_cst_118 : Ref sig .tc := ⟨.hbm, 672, rfl⟩
abbrev main_call17_v0 : Ref sig .tc := ⟨.hbm, 673, rfl⟩
abbrev main_call17_v1 : Ref sig .tc := ⟨.hbm, 674, rfl⟩
abbrev main_call17_v2 : Ref sig .tc := ⟨.hbm, 675, rfl⟩
abbrev main_call17_v3 : Ref sig .tc := ⟨.hbm, 676, rfl⟩
abbrev main_v480 : Ref sig .tc := ⟨.hbm, 677, rfl⟩
abbrev main_cst_119 : Ref sig .tc := ⟨.hbm, 678, rfl⟩
abbrev main_v481 : Ref sig .tc := ⟨.hbm, 679, rfl⟩
abbrev main_v482 : Ref sig .tc := ⟨.hbm, 680, rfl⟩
abbrev main_cst_120 : Ref sig .tc := ⟨.hbm, 681, rfl⟩
abbrev main_v483 : Ref sig .tc := ⟨.hbm, 682, rfl⟩
abbrev main_v484 : Ref sig .tc := ⟨.hbm, 683, rfl⟩
abbrev main_v485 : Ref sig .tc := ⟨.hbm, 684, rfl⟩
abbrev main_cst_121 : Ref sig .tc := ⟨.hbm, 685, rfl⟩
abbrev main_v486 : Ref sig .tc := ⟨.hbm, 686, rfl⟩
abbrev main_cst_122 : Ref sig .tc := ⟨.hbm, 687, rfl⟩
abbrev main_call18_v0 : Ref sig .tc := ⟨.hbm, 688, rfl⟩
abbrev main_call18_v1 : Ref sig .tc := ⟨.hbm, 689, rfl⟩
abbrev main_call18_v2 : Ref sig .tc := ⟨.hbm, 690, rfl⟩
abbrev main_call18_v3 : Ref sig .tc := ⟨.hbm, 691, rfl⟩
abbrev main_v487 : Ref sig .tc := ⟨.hbm, 692, rfl⟩
abbrev main_v488 : Ref sig .tc := ⟨.hbm, 693, rfl⟩
abbrev main_v489 : Ref sig .tc := ⟨.hbm, 694, rfl⟩
abbrev main_v490 : Ref sig .tc := ⟨.hbm, 695, rfl⟩
abbrev main_v491 : Ref sig .tc := ⟨.hbm, 696, rfl⟩
abbrev main_v492 : Ref sig .tc := ⟨.hbm, 697, rfl⟩
abbrev main_v493 : Ref sig .tc := ⟨.hbm, 698, rfl⟩
abbrev main_cst_123 : Ref sig .tc := ⟨.hbm, 699, rfl⟩
abbrev main_v494 : Ref sig .tc := ⟨.hbm, 700, rfl⟩
abbrev main_v495 : Ref sig .tc := ⟨.hbm, 701, rfl⟩
abbrev main_v496 : Ref sig .tc := ⟨.hbm, 702, rfl⟩
abbrev main_cst_124 : Ref sig .tc := ⟨.hbm, 703, rfl⟩
abbrev main_v497 : Ref sig .tc := ⟨.hbm, 704, rfl⟩
abbrev main_v498 : Ref sig .tc := ⟨.hbm, 705, rfl⟩
abbrev main_cst_125 : Ref sig .tc := ⟨.hbm, 706, rfl⟩
abbrev main_v499 : Ref sig .tc := ⟨.hbm, 707, rfl⟩
abbrev main_v500 : Ref sig .tc := ⟨.hbm, 708, rfl⟩
abbrev main_cst_126 : Ref sig .tc := ⟨.hbm, 709, rfl⟩
abbrev main_v501 : Ref sig .tc := ⟨.hbm, 710, rfl⟩
abbrev main_v502 : Ref sig .tc := ⟨.hbm, 711, rfl⟩
abbrev main_v503 : Ref sig .tc := ⟨.hbm, 712, rfl⟩
abbrev main_cst_127 : Ref sig .tc := ⟨.hbm, 713, rfl⟩
abbrev main_call19_v0 : Ref sig .tc := ⟨.hbm, 714, rfl⟩
abbrev main_call19_v1 : Ref sig .tc := ⟨.hbm, 715, rfl⟩
abbrev main_v504 : Ref sig .tc := ⟨.hbm, 716, rfl⟩
abbrev main_v505 : Ref sig .tc := ⟨.hbm, 717, rfl⟩
abbrev main_v506 : Ref sig .tc := ⟨.hbm, 718, rfl⟩
abbrev main_v507 : Ref sig .tc := ⟨.hbm, 719, rfl⟩
abbrev main_v508 : Ref sig .tc := ⟨.hbm, 720, rfl⟩
abbrev main_v509 : Ref sig .tc := ⟨.hbm, 721, rfl⟩
abbrev main_v510 : Ref sig .tc := ⟨.hbm, 722, rfl⟩
abbrev main_v511 : Ref sig .tc := ⟨.hbm, 723, rfl⟩
abbrev main_v512 : Ref sig .tc := ⟨.hbm, 724, rfl⟩
abbrev main_v513 : Ref sig .tc := ⟨.hbm, 725, rfl⟩
abbrev main_cst_128 : Ref sig .tc := ⟨.hbm, 726, rfl⟩
abbrev main_v514 : Ref sig .tc := ⟨.hbm, 727, rfl⟩
abbrev main_v515 : Ref sig .tc := ⟨.hbm, 728, rfl⟩
abbrev main_v516 : Ref sig .tc := ⟨.hbm, 729, rfl⟩
abbrev main_v517 : Ref sig .tc := ⟨.hbm, 730, rfl⟩
abbrev main_cst_129 : Ref sig .tc := ⟨.hbm, 731, rfl⟩
abbrev main_v518 : Ref sig .tc := ⟨.hbm, 732, rfl⟩
abbrev main_v519 : Ref sig .tc := ⟨.hbm, 733, rfl⟩
abbrev main_v520 : Ref sig .tc := ⟨.hbm, 734, rfl⟩
abbrev main_v521 : Ref sig .tc := ⟨.hbm, 735, rfl⟩
abbrev main_v522 : Ref sig .tc := ⟨.hbm, 736, rfl⟩
abbrev main_v523 : Ref sig .tc := ⟨.hbm, 737, rfl⟩
abbrev main_v524 : Ref sig .tc := ⟨.hbm, 738, rfl⟩
abbrev main_v525 : Ref sig .tc := ⟨.hbm, 739, rfl⟩
abbrev main_v526 : Ref sig .tc := ⟨.hbm, 740, rfl⟩
abbrev main_v527 : Ref sig .tc := ⟨.hbm, 741, rfl⟩
abbrev main_v528 : Ref sig .tc := ⟨.hbm, 742, rfl⟩
abbrev main_v529 : Ref sig .tc := ⟨.hbm, 743, rfl⟩
abbrev main_v530 : Ref sig .tc := ⟨.hbm, 744, rfl⟩
abbrev main_v531 : Ref sig .tc := ⟨.hbm, 745, rfl⟩
abbrev main_v532 : Ref sig .tc := ⟨.hbm, 746, rfl⟩
abbrev main_v533 : Ref sig .tc := ⟨.hbm, 747, rfl⟩
abbrev main_v534 : Ref sig .tc := ⟨.hbm, 748, rfl⟩
abbrev main_v535 : Ref sig .tc := ⟨.hbm, 749, rfl⟩
abbrev main_v536 : Ref sig .tc := ⟨.hbm, 750, rfl⟩
abbrev main_v537 : Ref sig .tc := ⟨.hbm, 751, rfl⟩
abbrev main_v538 : Ref sig .tc := ⟨.hbm, 752, rfl⟩
abbrev main_v539 : Ref sig .tc := ⟨.hbm, 753, rfl⟩
abbrev main_v540 : Ref sig .tc := ⟨.hbm, 754, rfl⟩
abbrev main_cst_130 : Ref sig .tc := ⟨.hbm, 755, rfl⟩
abbrev main_v541 : Ref sig .tc := ⟨.hbm, 756, rfl⟩
abbrev main_v542 : Ref sig .tc := ⟨.hbm, 757, rfl⟩
abbrev main_v543 : Ref sig .tc := ⟨.hbm, 758, rfl⟩
abbrev main_v544 : Ref sig .tc := ⟨.hbm, 759, rfl⟩
abbrev main_v545 : Ref sig .tc := ⟨.hbm, 760, rfl⟩
abbrev main_v546 : Ref sig .tc := ⟨.hbm, 761, rfl⟩
abbrev main_v547 : Ref sig .tc := ⟨.hbm, 762, rfl⟩
abbrev main_cst_131 : Ref sig .tc := ⟨.hbm, 763, rfl⟩
abbrev main_v548 : Ref sig .tc := ⟨.hbm, 764, rfl⟩
abbrev main_v549 : Ref sig .tc := ⟨.hbm, 765, rfl⟩
abbrev main_v550 : Ref sig .tc := ⟨.hbm, 766, rfl⟩
abbrev main_v551 : Ref sig .tc := ⟨.hbm, 767, rfl⟩
abbrev main_cst_132 : Ref sig .tc := ⟨.hbm, 768, rfl⟩
abbrev main_v552 : Ref sig .tc := ⟨.hbm, 769, rfl⟩
abbrev main_v553 : Ref sig .tc := ⟨.hbm, 770, rfl⟩
abbrev main_cst_133 : Ref sig .tc := ⟨.hbm, 771, rfl⟩
abbrev main_v554 : Ref sig .tc := ⟨.hbm, 772, rfl⟩
abbrev main_v555 : Ref sig .tc := ⟨.hbm, 773, rfl⟩
abbrev main_v556 : Ref sig .tc := ⟨.hbm, 774, rfl⟩
abbrev main_v557 : Ref sig .tc := ⟨.hbm, 775, rfl⟩
abbrev main_v558 : Ref sig .tc := ⟨.hbm, 776, rfl⟩
abbrev main_cst_134 : Ref sig .tc := ⟨.hbm, 777, rfl⟩
abbrev main_v559 : Ref sig .tc := ⟨.hbm, 778, rfl⟩
abbrev main_v560 : Ref sig .tc := ⟨.hbm, 779, rfl⟩
abbrev main_cst_135 : Ref sig .tc := ⟨.hbm, 780, rfl⟩
abbrev main_v561 : Ref sig .tc := ⟨.hbm, 781, rfl⟩
abbrev main_v562 : Ref sig .tc := ⟨.hbm, 782, rfl⟩
abbrev main_v563 : Ref sig .tc := ⟨.hbm, 783, rfl⟩
abbrev main_v564 : Ref sig .tc := ⟨.hbm, 784, rfl⟩
abbrev main_v565 : Ref sig .tc := ⟨.hbm, 785, rfl⟩
abbrev main_v566 : Ref sig .tc := ⟨.hbm, 786, rfl⟩
abbrev main_v567 : Ref sig .tc := ⟨.hbm, 787, rfl⟩
abbrev main_v568 : Ref sig .tc := ⟨.hbm, 788, rfl⟩
abbrev main_v569 : Ref sig .tc := ⟨.hbm, 789, rfl⟩
abbrev main_v570 : Ref sig .tc := ⟨.hbm, 790, rfl⟩
abbrev main_v571 : Ref sig .tc := ⟨.hbm, 791, rfl⟩
abbrev main_v572 : Ref sig .tc := ⟨.hbm, 792, rfl⟩
abbrev main_v573 : Ref sig .tc := ⟨.hbm, 793, rfl⟩
abbrev main_v574 : Ref sig .tc := ⟨.hbm, 794, rfl⟩
abbrev main_v575 : Ref sig .tc := ⟨.hbm, 795, rfl⟩
abbrev main_cst_136 : Ref sig .tc := ⟨.hbm, 796, rfl⟩
abbrev main_v576 : Ref sig .tc := ⟨.hbm, 797, rfl⟩
abbrev main_v577 : Ref sig .tc := ⟨.hbm, 798, rfl⟩
abbrev main_v578 : Ref sig .tc := ⟨.hbm, 799, rfl⟩
abbrev main_v579 : Ref sig .tc := ⟨.hbm, 800, rfl⟩
abbrev main_cst_137 : Ref sig .tc := ⟨.hbm, 801, rfl⟩
abbrev main_v580 : Ref sig .tc := ⟨.hbm, 802, rfl⟩
abbrev main_v581 : Ref sig .tc := ⟨.hbm, 803, rfl⟩
abbrev main_v582 : Ref sig .tc := ⟨.hbm, 804, rfl⟩
abbrev main_v583 : Ref sig .tc := ⟨.hbm, 805, rfl⟩
abbrev main_cst_138 : Ref sig .tc := ⟨.hbm, 806, rfl⟩
abbrev main_v584 : Ref sig .tc := ⟨.hbm, 807, rfl⟩
abbrev main_v585 : Ref sig .tc := ⟨.hbm, 808, rfl⟩
abbrev main_cst_139 : Ref sig .tc := ⟨.hbm, 809, rfl⟩
abbrev main_v586 : Ref sig .tc := ⟨.hbm, 810, rfl⟩
abbrev main_v587 : Ref sig .tc := ⟨.hbm, 811, rfl⟩
abbrev main_v588 : Ref sig .tc := ⟨.hbm, 812, rfl⟩
abbrev main_cst_140 : Ref sig .tc := ⟨.hbm, 813, rfl⟩
abbrev main_v589 : Ref sig .tc := ⟨.hbm, 814, rfl⟩
abbrev main_cst_141 : Ref sig .tc := ⟨.hbm, 815, rfl⟩
abbrev main_call20_v0 : Ref sig .tc := ⟨.hbm, 816, rfl⟩
abbrev main_call20_v1 : Ref sig .tc := ⟨.hbm, 817, rfl⟩
abbrev main_call20_v2 : Ref sig .tc := ⟨.hbm, 818, rfl⟩
abbrev main_call20_v3 : Ref sig .tc := ⟨.hbm, 819, rfl⟩
abbrev main_v590 : Ref sig .tc := ⟨.hbm, 820, rfl⟩
abbrev main_cst_142 : Ref sig .tc := ⟨.hbm, 821, rfl⟩
abbrev main_v591 : Ref sig .tc := ⟨.hbm, 822, rfl⟩
abbrev main_v592 : Ref sig .tc := ⟨.hbm, 823, rfl⟩
abbrev main_cst_143 : Ref sig .tc := ⟨.hbm, 824, rfl⟩
abbrev main_v593 : Ref sig .tc := ⟨.hbm, 825, rfl⟩
abbrev main_v594 : Ref sig .tc := ⟨.hbm, 826, rfl⟩
abbrev main_v595 : Ref sig .tc := ⟨.hbm, 827, rfl⟩
abbrev main_cst_144 : Ref sig .tc := ⟨.hbm, 828, rfl⟩
abbrev main_v596 : Ref sig .tc := ⟨.hbm, 829, rfl⟩
abbrev main_cst_145 : Ref sig .tc := ⟨.hbm, 830, rfl⟩
abbrev main_call21_v0 : Ref sig .tc := ⟨.hbm, 831, rfl⟩
abbrev main_call21_v1 : Ref sig .tc := ⟨.hbm, 832, rfl⟩
abbrev main_call21_v2 : Ref sig .tc := ⟨.hbm, 833, rfl⟩
abbrev main_call21_v3 : Ref sig .tc := ⟨.hbm, 834, rfl⟩
abbrev main_v597 : Ref sig .tc := ⟨.hbm, 835, rfl⟩
abbrev main_cst_146 : Ref sig .tc := ⟨.hbm, 836, rfl⟩
abbrev main_v598 : Ref sig .tc := ⟨.hbm, 837, rfl⟩
abbrev main_v599 : Ref sig .tc := ⟨.hbm, 838, rfl⟩
abbrev main_cst_147 : Ref sig .tc := ⟨.hbm, 839, rfl⟩
abbrev main_v600 : Ref sig .tc := ⟨.hbm, 840, rfl⟩
abbrev main_v601 : Ref sig .tc := ⟨.hbm, 841, rfl⟩
abbrev main_v602 : Ref sig .tc := ⟨.hbm, 842, rfl⟩
abbrev main_cst_148 : Ref sig .tc := ⟨.hbm, 843, rfl⟩
abbrev main_v603 : Ref sig .tc := ⟨.hbm, 844, rfl⟩
abbrev main_cst_149 : Ref sig .tc := ⟨.hbm, 845, rfl⟩
abbrev main_call22_v0 : Ref sig .tc := ⟨.hbm, 846, rfl⟩
abbrev main_call22_v1 : Ref sig .tc := ⟨.hbm, 847, rfl⟩
abbrev main_call22_v2 : Ref sig .tc := ⟨.hbm, 848, rfl⟩
abbrev main_call22_v3 : Ref sig .tc := ⟨.hbm, 849, rfl⟩
abbrev main_v604 : Ref sig .tc := ⟨.hbm, 850, rfl⟩
abbrev main_cst_150 : Ref sig .tc := ⟨.hbm, 851, rfl⟩
abbrev main_v605 : Ref sig .tc := ⟨.hbm, 852, rfl⟩
abbrev main_v606 : Ref sig .tc := ⟨.hbm, 853, rfl⟩
abbrev main_cst_151 : Ref sig .tc := ⟨.hbm, 854, rfl⟩
abbrev main_v607 : Ref sig .tc := ⟨.hbm, 855, rfl⟩
abbrev main_v608 : Ref sig .tc := ⟨.hbm, 856, rfl⟩
abbrev main_v609 : Ref sig .tc := ⟨.hbm, 857, rfl⟩
abbrev main_cst_152 : Ref sig .tc := ⟨.hbm, 858, rfl⟩
abbrev main_v610 : Ref sig .tc := ⟨.hbm, 859, rfl⟩
abbrev main_cst_153 : Ref sig .tc := ⟨.hbm, 860, rfl⟩
abbrev main_call23_v0 : Ref sig .tc := ⟨.hbm, 861, rfl⟩
abbrev main_call23_v1 : Ref sig .tc := ⟨.hbm, 862, rfl⟩
abbrev main_call23_v2 : Ref sig .tc := ⟨.hbm, 863, rfl⟩
abbrev main_call23_v3 : Ref sig .tc := ⟨.hbm, 864, rfl⟩
abbrev main_v611 : Ref sig .tc := ⟨.hbm, 865, rfl⟩
abbrev main_v612 : Ref sig .tc := ⟨.hbm, 866, rfl⟩
abbrev main_v613 : Ref sig .tc := ⟨.hbm, 867, rfl⟩
abbrev main_v614 : Ref sig .tc := ⟨.hbm, 868, rfl⟩
abbrev main_v615 : Ref sig .tc := ⟨.hbm, 869, rfl⟩
abbrev main_v616 : Ref sig .tc := ⟨.hbm, 870, rfl⟩
abbrev main_v617 : Ref sig .tc := ⟨.hbm, 871, rfl⟩
abbrev main_cst_154 : Ref sig .tc := ⟨.hbm, 872, rfl⟩
abbrev main_v618 : Ref sig .tc := ⟨.hbm, 873, rfl⟩
abbrev main_v619 : Ref sig .tc := ⟨.hbm, 874, rfl⟩
abbrev main_v620 : Ref sig .tc := ⟨.hbm, 875, rfl⟩
abbrev main_cst_155 : Ref sig .tc := ⟨.hbm, 876, rfl⟩
abbrev main_v621 : Ref sig .tc := ⟨.hbm, 877, rfl⟩
abbrev main_v622 : Ref sig .tc := ⟨.hbm, 878, rfl⟩
abbrev main_cst_156 : Ref sig .tc := ⟨.hbm, 879, rfl⟩
abbrev main_v623 : Ref sig .tc := ⟨.hbm, 880, rfl⟩
abbrev main_v624 : Ref sig .tc := ⟨.hbm, 881, rfl⟩
abbrev main_cst_157 : Ref sig .tc := ⟨.hbm, 882, rfl⟩
abbrev main_v625 : Ref sig .tc := ⟨.hbm, 883, rfl⟩
abbrev main_v626 : Ref sig .tc := ⟨.hbm, 884, rfl⟩
abbrev main_v627 : Ref sig .tc := ⟨.hbm, 885, rfl⟩
abbrev main_cst_158 : Ref sig .tc := ⟨.hbm, 886, rfl⟩
abbrev main_call24_v0 : Ref sig .tc := ⟨.hbm, 887, rfl⟩
abbrev main_call24_v1 : Ref sig .tc := ⟨.hbm, 888, rfl⟩
abbrev main_v628 : Ref sig .tc := ⟨.hbm, 889, rfl⟩
abbrev main_v629 : Ref sig .tc := ⟨.hbm, 890, rfl⟩
abbrev main_v630 : Ref sig .tc := ⟨.hbm, 891, rfl⟩
abbrev main_values : Ref sig .tc := ⟨.hbm, 892, rfl⟩
abbrev main_indices : Ref sig .tc := ⟨.hbm, 893, rfl⟩
abbrev main_c : Ref sig .tc := ⟨.hbm, 894, rfl⟩
abbrev main_v631 : Ref sig .tc := ⟨.hbm, 895, rfl⟩
abbrev main_v632 : Ref sig .tc := ⟨.hbm, 896, rfl⟩
abbrev main_c_159 : Ref sig .tc := ⟨.hbm, 897, rfl⟩
abbrev main_v633 : Ref sig .tc := ⟨.hbm, 898, rfl⟩
abbrev main_v634 : Ref sig .tc := ⟨.hbm, 899, rfl⟩
abbrev main_v635 : Ref sig .tc := ⟨.hbm, 900, rfl⟩
abbrev main_v636 : Ref sig .tc := ⟨.hbm, 901, rfl⟩
abbrev main_v637 : Ref sig .tc := ⟨.hbm, 902, rfl⟩
abbrev main_v638 : Ref sig .tc := ⟨.hbm, 903, rfl⟩
abbrev main_v639 : Ref sig .tc := ⟨.hbm, 904, rfl⟩
abbrev main_v640 : Ref sig .tc := ⟨.hbm, 905, rfl⟩
abbrev main_v641 : Ref sig .tc := ⟨.hbm, 906, rfl⟩
abbrev main_v642 : Ref sig .tc := ⟨.hbm, 907, rfl⟩
abbrev main_v643 : Ref sig .tc := ⟨.hbm, 908, rfl⟩
abbrev main_v644 : Ref sig .tc := ⟨.hbm, 909, rfl⟩
abbrev main_v645 : Ref sig .tc := ⟨.hbm, 910, rfl⟩
abbrev main_v646 : Ref sig .tc := ⟨.hbm, 911, rfl⟩
abbrev main_cst_160 : Ref sig .tc := ⟨.hbm, 912, rfl⟩
abbrev main_v647 : Ref sig .tc := ⟨.hbm, 913, rfl⟩
abbrev main_v648 : Ref sig .tc := ⟨.hbm, 914, rfl⟩
abbrev main_v649 : Ref sig .tc := ⟨.hbm, 915, rfl⟩
abbrev main_cst_161 : Ref sig .tc := ⟨.hbm, 916, rfl⟩
abbrev main_v650 : Ref sig .tc := ⟨.hbm, 917, rfl⟩
abbrev main_v651 : Ref sig .tc := ⟨.hbm, 918, rfl⟩
abbrev main_v652 : Ref sig .tc := ⟨.hbm, 919, rfl⟩
abbrev main_v653 : Ref sig .tc := ⟨.hbm, 920, rfl⟩
abbrev main_c_162 : Ref sig .tc := ⟨.hbm, 921, rfl⟩
abbrev main_v654 : Ref sig .tc := ⟨.hbm, 922, rfl⟩
abbrev main_c_163 : Ref sig .tc := ⟨.hbm, 923, rfl⟩
abbrev main_c_164 : Ref sig .tc := ⟨.hbm, 924, rfl⟩
abbrev main_v655_0 : Ref sig .tc := ⟨.hbm, 925, rfl⟩
abbrev main_v655_1 : Ref sig .tc := ⟨.hbm, 926, rfl⟩
abbrev main_v655_2 : Ref sig .tc := ⟨.hbm, 927, rfl⟩
abbrev main_v655_3 : Ref sig .tc := ⟨.hbm, 928, rfl⟩
abbrev main_v655_4 : Ref sig .tc := ⟨.hbm, 929, rfl⟩
abbrev main_v655_5 : Ref sig .tc := ⟨.hbm, 930, rfl⟩
abbrev main_v655_6 : Ref sig .tc := ⟨.hbm, 931, rfl⟩
abbrev main_v655_7 : Ref sig .tc := ⟨.hbm, 932, rfl⟩
abbrev main_v655_8 : Ref sig .tc := ⟨.hbm, 933, rfl⟩
abbrev main_while0c_c_179 : Ref sig .tc := ⟨.hbm, 934, rfl⟩
abbrev main_while0c_v666 : Ref sig .tc := ⟨.hbm, 935, rfl⟩
abbrev main_while0b_c_179 : Ref sig .tc := ⟨.hbm, 936, rfl⟩
abbrev main_while0b_v666 : Ref sig .tc := ⟨.hbm, 937, rfl⟩
abbrev main_while0b_c_180 : Ref sig .tc := ⟨.hbm, 938, rfl⟩
abbrev main_while0b_v667 : Ref sig .tc := ⟨.hbm, 939, rfl⟩
abbrev main_while0b_v668 : Ref sig .tc := ⟨.hbm, 940, rfl⟩
abbrev main_while0b_c_181 : Ref sig .tc := ⟨.hbm, 941, rfl⟩
abbrev main_while0b_v669 : Ref sig .tc := ⟨.hbm, 942, rfl⟩
abbrev main_while0b_v670 : Ref sig .tc := ⟨.hbm, 943, rfl⟩
abbrev main_while0b_v671 : Ref sig .tc := ⟨.hbm, 944, rfl⟩
abbrev main_while0b_v672 : Ref sig .tc := ⟨.hbm, 945, rfl⟩
abbrev main_while0b_v673 : Ref sig .tc := ⟨.hbm, 946, rfl⟩
abbrev main_while0b_v674 : Ref sig .tc := ⟨.hbm, 947, rfl⟩
abbrev main_while0b_c_182 : Ref sig .tc := ⟨.hbm, 948, rfl⟩
abbrev main_while0b_v675 : Ref sig .tc := ⟨.hbm, 949, rfl⟩
abbrev main_while0b_v676 : Ref sig .tc := ⟨.hbm, 950, rfl⟩
abbrev main_while0b_c_183 : Ref sig .tc := ⟨.hbm, 951, rfl⟩
abbrev main_while0b_v677 : Ref sig .tc := ⟨.hbm, 952, rfl⟩
abbrev main_while0b_v678 : Ref sig .tc := ⟨.hbm, 953, rfl⟩
abbrev main_while0b_v679 : Ref sig .tc := ⟨.hbm, 954, rfl⟩
abbrev main_while0b_v680 : Ref sig .tc := ⟨.hbm, 955, rfl⟩
abbrev main_while0b_v681 : Ref sig .tc := ⟨.hbm, 956, rfl⟩
abbrev main_while0b_v682 : Ref sig .tc := ⟨.hbm, 957, rfl⟩
abbrev main_while0b_c_184 : Ref sig .tc := ⟨.hbm, 958, rfl⟩
abbrev main_while0b_v683 : Ref sig .tc := ⟨.hbm, 959, rfl⟩
abbrev main_while0b_v684 : Ref sig .tc := ⟨.hbm, 960, rfl⟩
abbrev main_while0b_c_185 : Ref sig .tc := ⟨.hbm, 961, rfl⟩
abbrev main_while0b_v685 : Ref sig .tc := ⟨.hbm, 962, rfl⟩
abbrev main_while0b_v686 : Ref sig .tc := ⟨.hbm, 963, rfl⟩
abbrev main_while0b_v687 : Ref sig .tc := ⟨.hbm, 964, rfl⟩
abbrev main_while0b_v688 : Ref sig .tc := ⟨.hbm, 965, rfl⟩
abbrev main_while0b_v689 : Ref sig .tc := ⟨.hbm, 966, rfl⟩
abbrev main_while0b_v690 : Ref sig .tc := ⟨.hbm, 967, rfl⟩
abbrev main_while0b_c_186 : Ref sig .tc := ⟨.hbm, 968, rfl⟩
abbrev main_while0b_v691 : Ref sig .tc := ⟨.hbm, 969, rfl⟩
abbrev main_while0b_v692 : Ref sig .tc := ⟨.hbm, 970, rfl⟩
abbrev main_while0b_c_187 : Ref sig .tc := ⟨.hbm, 971, rfl⟩
abbrev main_while0b_v693 : Ref sig .tc := ⟨.hbm, 972, rfl⟩
abbrev main_while0b_v694 : Ref sig .tc := ⟨.hbm, 973, rfl⟩
abbrev main_while0b_v695 : Ref sig .tc := ⟨.hbm, 974, rfl⟩
abbrev main_while0b_v696 : Ref sig .tc := ⟨.hbm, 975, rfl⟩
abbrev main_while0b_v697 : Ref sig .tc := ⟨.hbm, 976, rfl⟩
abbrev main_while0b_v698 : Ref sig .tc := ⟨.hbm, 977, rfl⟩
abbrev main_while0b_v699 : Ref sig .tc := ⟨.hbm, 978, rfl⟩
abbrev main_while0b_cst_188 : Ref sig .tc := ⟨.hbm, 979, rfl⟩
abbrev main_while0b_v700 : Ref sig .tc := ⟨.hbm, 980, rfl⟩
abbrev main_while0b_v701 : Ref sig .tc := ⟨.hbm, 981, rfl⟩
abbrev main_while0b_cst_189 : Ref sig .tc := ⟨.hbm, 982, rfl⟩
abbrev main_while0b_v702 : Ref sig .tc := ⟨.hbm, 983, rfl⟩
abbrev main_while0b_v703 : Ref sig .tc := ⟨.hbm, 984, rfl⟩
abbrev main_while0b_v704 : Ref sig .tc := ⟨.hbm, 985, rfl⟩
abbrev main_while0b_cst_190 : Ref sig .tc := ⟨.hbm, 986, rfl⟩
abbrev main_while0b_v705 : Ref sig .tc := ⟨.hbm, 987, rfl⟩
abbrev main_while0b_v706 : Ref sig .tc := ⟨.hbm, 988, rfl⟩
abbrev main_while0b_cst_191 : Ref sig .tc := ⟨.hbm, 989, rfl⟩
abbrev main_while0b_v707 : Ref sig .tc := ⟨.hbm, 990, rfl⟩
abbrev main_while0b_v708 : Ref sig .tc := ⟨.hbm, 991, rfl⟩
abbrev main_while0b_v709 : Ref sig .tc := ⟨.hbm, 992, rfl⟩
abbrev main_while0b_c_192 : Ref sig .tc := ⟨.hbm, 993, rfl⟩
abbrev main_while0b_v710 : Ref sig .tc := ⟨.hbm, 994, rfl⟩
abbrev main_while0b_v711 : Ref sig .tc := ⟨.hbm, 995, rfl⟩
abbrev main_while0b_c_193 : Ref sig .tc := ⟨.hbm, 996, rfl⟩
abbrev main_while0b_v712 : Ref sig .tc := ⟨.hbm, 997, rfl⟩
abbrev main_while0b_v713 : Ref sig .tc := ⟨.hbm, 998, rfl⟩
abbrev main_while0b_v714 : Ref sig .tc := ⟨.hbm, 999, rfl⟩
abbrev main_while0b_v715 : Ref sig .tc := ⟨.hbm, 1000, rfl⟩
abbrev main_while0b_v716 : Ref sig .tc := ⟨.hbm, 1001, rfl⟩
abbrev main_while0b_v717 : Ref sig .tc := ⟨.hbm, 1002, rfl⟩
abbrev main_while0b_v718 : Ref sig .tc := ⟨.hbm, 1003, rfl⟩
abbrev main_while0b_v719 : Ref sig .tc := ⟨.hbm, 1004, rfl⟩
abbrev main_while0b_cst_194 : Ref sig .tc := ⟨.hbm, 1005, rfl⟩
abbrev main_while0b_v720 : Ref sig .tc := ⟨.hbm, 1006, rfl⟩
abbrev main_while0b_v721 : Ref sig .tc := ⟨.hbm, 1007, rfl⟩
abbrev main_while0b_v722 : Ref sig .tc := ⟨.hbm, 1008, rfl⟩
abbrev main_while0b_v723 : Ref sig .tc := ⟨.hbm, 1009, rfl⟩
abbrev main_while0b_v724 : Ref sig .tc := ⟨.hbm, 1010, rfl⟩
abbrev main_while0b_v725 : Ref sig .tc := ⟨.hbm, 1011, rfl⟩
abbrev main_while0b_c_195 : Ref sig .tc := ⟨.hbm, 1012, rfl⟩
abbrev main_while0b_v726 : Ref sig .tc := ⟨.hbm, 1013, rfl⟩
abbrev main_while0b_v727 : Ref sig .tc := ⟨.hbm, 1014, rfl⟩
abbrev main_while0b_c_196 : Ref sig .tc := ⟨.hbm, 1015, rfl⟩
abbrev main_while0b_v728 : Ref sig .tc := ⟨.hbm, 1016, rfl⟩
abbrev main_while0b_v729 : Ref sig .tc := ⟨.hbm, 1017, rfl⟩
abbrev main_while0b_v730 : Ref sig .tc := ⟨.hbm, 1018, rfl⟩
abbrev main_while0b_v731 : Ref sig .tc := ⟨.hbm, 1019, rfl⟩
abbrev main_while0b_v732 : Ref sig .tc := ⟨.hbm, 1020, rfl⟩
abbrev main_while0b_v733 : Ref sig .tc := ⟨.hbm, 1021, rfl⟩
abbrev main_while0b_v734 : Ref sig .tc := ⟨.hbm, 1022, rfl⟩
abbrev main_while0b_v735 : Ref sig .tc := ⟨.hbm, 1023, rfl⟩
abbrev main_while0b_c_197 : Ref sig .tc := ⟨.hbm, 1024, rfl⟩
abbrev main_while0b_v736 : Ref sig .tc := ⟨.hbm, 1025, rfl⟩
abbrev main_cst_165 : Ref sig .tc := ⟨.hbm, 1026, rfl⟩
abbrev main_call25_v0 : Ref sig .tc := ⟨.hbm, 1027, rfl⟩
abbrev main_call25_v1 : Ref sig .tc := ⟨.hbm, 1028, rfl⟩
abbrev main_v656 : Ref sig .tc := ⟨.hbm, 1029, rfl⟩
abbrev main_values_166 : Ref sig .tc := ⟨.hbm, 1030, rfl⟩
abbrev main_indices_167 : Ref sig .tc := ⟨.hbm, 1031, rfl⟩
abbrev main_c_168 : Ref sig .tc := ⟨.hbm, 1032, rfl⟩
abbrev main_v657 : Ref sig .tc := ⟨.hbm, 1033, rfl⟩
abbrev main_v658 : Ref sig .tc := ⟨.hbm, 1034, rfl⟩
abbrev main_c_169 : Ref sig .tc := ⟨.hbm, 1035, rfl⟩
abbrev main_v659 : Ref sig .tc := ⟨.hbm, 1036, rfl⟩
abbrev main_v660 : Ref sig .tc := ⟨.hbm, 1037, rfl⟩
abbrev main_v661 : Ref sig .tc := ⟨.hbm, 1038, rfl⟩
abbrev main_v662 : Ref sig .tc := ⟨.hbm, 1039, rfl⟩
abbrev main_v663 : Ref sig .tc := ⟨.hbm, 1040, rfl⟩
abbrev main_cst_170 : Ref sig .tc := ⟨.hbm, 1041, rfl⟩
abbrev main_v664 : Ref sig .tc := ⟨.hbm, 1042, rfl⟩
abbrev main_v665 : Ref sig .tc := ⟨.hbm, 1043, rfl⟩

abbrev nD : Nat := 1
abbrev τ : Topo := Topo.v7x

variable {F : FTy → Type} [FloatOps F]

abbrev main_while0_count : Scf.Loop 32 := ⟨0#32, 2000#32, 1#32⟩
-- ==== Proof.RefRun.lean ====
/- The plain program's run, read at its arguments: no operation of the reference writes an argument, before the
   suppression loop, in it or after it, and the program declares no semaphore. -/
module

public import proofs.«01_k».proof.Defs
public import proofs.«01_k».proof.Proof.Gen.ReferenceIdeal
public import proofs.«01_k».proof.Proof.Gen.ReferenceIdeal.Run

@[expose] public section

set_option maxRecDepth 8192

noncomputable section

namespace Cert.Rpn.Ref

open Cert.ReferenceIdeal Cert.ReferenceIdeal.Gen Cert.ReferenceIdeal.Value
open Idealize.ShloMosaic Idealize.ShloMosaic.TcCoe Idealize.ShloMosaic.StableHlo Idealize.SL.Sem

variable {F : FTy → Type} [FloatOps F] (m : (ℓ : Loc nD τ sig) → Buf (Elt F) ℓ) (ρ : Dev nD → PrngReg)

/-- The contents the operations after the loop start from. -/
abbrev afterLoop (c : Dev nD) : Valuation τ sig (Elt F) := after condOps (atTrip condOps bodyI (entryContents preI m) 2000 c)

/-- Argument 0 keeps its contents through the operations before the loop. -/
theorem entry_arg0 (c : Dev nD) : entryContents preI m c (Proc.devRef .tc main_arg0) = m ((c.tc : Thread nD τ).loc main_arg0) := by
  simp only [entryContents, afterL_cons, afterL_nil]
  after_reads_simp

/-- … through one trip … -/
theorem trip_arg0 (V : Valuation τ sig (Elt F)) : afterL bodyI (after condOps V) (Proc.devRef .tc main_arg0) = V (Proc.devRef .tc main_arg0) := by
  simp only [afterL_cons, afterL_nil]
  after_reads_simp

/-- … through any number of trips … -/
theorem trips_arg0 (c : Dev nD) : ∀ k, atTrip condOps bodyI (entryContents preI m) k c (Proc.devRef .tc main_arg0) = m ((c.tc : Thread nD τ).loc main_arg0)
  | 0 => entry_arg0 m c
  | k + 1 => (trip_arg0 _).trans (trips_arg0 c k)

/-- … and to the end. -/
theorem final_arg0 (c : Dev nD) : finalContents condOps preI bodyI postI 2000 m c (Proc.devRef .tc main_arg0) = m ((c.tc : Thread nD τ).loc main_arg0) := by
  rw [← trips_arg0 m c 2000]
  simp only [finalContents, afterL_cons, afterL_nil]
  after_reads_simp

/-- Argument 1 keeps its contents through the operations before the loop. -/
theorem entry_arg1 (c : Dev nD) : entryContents preI m c (Proc.devRef .tc main_arg1) = m ((c.tc : Thread nD τ).loc main_arg1) := by
  simp only [entryContents, afterL_cons, afterL_nil]
  after_reads_simp

/-- … through one trip … -/
theorem trip_arg1 (V : Valuation τ sig (Elt F)) : afterL bodyI (after condOps V) (Proc.devRef .tc main_arg1) = V (Proc.devRef .tc main_arg1) := by
  simp only [afterL_cons, afterL_nil]
  after_reads_simp

/-- … through any number of trips … -/
theorem trips_arg1 (c : Dev nD) : ∀ k, atTrip condOps bodyI (entryContents preI m) k c (Proc.devRef .tc main_arg1) = m ((c.tc : Thread nD τ).loc main_arg1)
  | 0 => entry_arg1 m c
  | k + 1 => (trip_arg1 _).trans (trips_arg1 c k)

/-- … and to the end. -/
theorem final_arg1 (c : Dev nD) : finalContents condOps preI bodyI postI 2000 m c (Proc.devRef .tc main_arg1) = m ((c.tc : Thread nD τ).loc main_arg1) := by
  rw [← trips_arg1 m c 2000]
  simp only [finalContents, afterL_cons, afterL_nil]
  after_reads_simp

/-- Argument 2 keeps its contents through the operations before the loop. -/
theorem entry_arg2 (c : Dev nD) : entryContents preI m c (Proc.devRef .tc main_arg2) = m ((c.tc : Thread nD τ).loc main_arg2) := by
  simp only [entryContents, afterL_cons, afterL_nil]
  after_reads_simp

/-- … through one trip … -/
theorem trip_arg2 (V : Valuation τ sig (Elt F)) : afterL bodyI (after condOps V) (Proc.devRef .tc main_arg2) = V (Proc.devRef .tc main_arg2) := by
  simp only [afterL_cons, afterL_nil]
  after_reads_simp

/-- … through any number of trips … -/
theorem trips_arg2 (c : Dev nD) : ∀ k, atTrip condOps bodyI (entryContents preI m) k c (Proc.devRef .tc main_arg2) = m ((c.tc : Thread nD τ).loc main_arg2)
  | 0 => entry_arg2 m c
  | k + 1 => (trip_arg2 _).trans (trips_arg2 c k)

/-- … and to the end. -/
theorem final_arg2 (c : Dev nD) : finalContents condOps preI bodyI postI 2000 m c (Proc.devRef .tc main_arg2) = m ((c.tc : Thread nD τ).loc main_arg2) := by
  rw [← trips_arg2 m c 2000]
  simp only [finalContents, afterL_cons, afterL_nil]
  after_reads_simp

/-- Argument 3 keeps its contents through the operations before the loop. -/
theorem entry_arg3 (c : Dev nD) : entryContents preI m c (Proc.devRef .tc main_arg3) = m ((c.tc : Thread nD τ).loc main_arg3) := by
  simp only [entryContents, afterL_cons, afterL_nil]
  after_reads_simp

/-- … through one trip … -/
theorem trip_arg3 (V : Valuation τ sig (Elt F)) : afterL bodyI (after condOps V) (Proc.devRef .tc main_arg3) = V (Proc.devRef .tc main_arg3) := by
  simp only [afterL_cons, afterL_nil]
  after_reads_simp

/-- … through any number of trips … -/
theorem trips_arg3 (c : Dev nD) : ∀ k, atTrip condOps bodyI (entryContents preI m) k c (Proc.devRef .tc main_arg3) = m ((c.tc : Thread nD τ).loc main_arg3)
  | 0 => entry_arg3 m c
  | k + 1 => (trip_arg3 _).trans (trips_arg3 c k)

/-- … and to the end. -/
theorem final_arg3 (c : Dev nD) : finalContents condOps preI bodyI postI 2000 m c (Proc.devRef .tc main_arg3) = m ((c.tc : Thread nD τ).loc main_arg3) := by
  rw [← trips_arg3 m c 2000]
  simp only [finalContents, afterL_cons, afterL_nil]
  after_reads_simp

/-- Argument 4 keeps its contents through the operations before the loop. -/
theorem entry_arg4 (c : Dev nD) : entryContents preI m c (Proc.devRef .tc main_arg4) = m ((c.tc : Thread nD τ).loc main_arg4) := by
  simp only [entryContents, afterL_cons, afterL_nil]
  after_reads_simp

/-- … through one trip … -/
theorem trip_arg4 (V : Valuation τ sig (Elt F)) : afterL bodyI (after condOps V) (Proc.devRef .tc main_arg4) = V (Proc.devRef .tc main_arg4) := by
  simp only [afterL_cons, afterL_nil]
  after_reads_simp

/-- … through any number of trips … -/
theorem trips_arg4 (c : Dev nD) : ∀ k, atTrip condOps bodyI (entryContents preI m) k c (Proc.devRef .tc main_arg4) = m ((c.tc : Thread nD τ).loc main_arg4)
  | 0 => entry_arg4 m c
  | k + 1 => (trip_arg4 _).trans (trips_arg4 c k)

/-- … and to the end. -/
theorem final_arg4 (c : Dev nD) : finalContents condOps preI bodyI postI 2000 m c (Proc.devRef .tc main_arg4) = m ((c.tc : Thread nD τ).loc main_arg4) := by
  rw [← trips_arg4 m c 2000]
  simp only [finalContents, afterL_cons, afterL_nil]
  after_reads_simp

/-- Argument 5 keeps its contents through the operations before the loop. -/
theorem entry_arg5 (c : Dev nD) : entryContents preI m c (Proc.devRef .tc main_arg5) = m ((c.tc : Thread nD τ).loc main_arg5) := by
  simp only [entryContents, afterL_cons, afterL_nil]
  after_reads_simp

/-- … through one trip … -/
theorem trip_arg5 (V : Valuation τ sig (Elt F)) : afterL bodyI (after condOps V) (Proc.devRef .tc main_arg5) = V (Proc.devRef .tc main_arg5) := by
  simp only [afterL_cons, afterL_nil]
  after_reads_simp

/-- … through any number of trips … -/
theorem trips_arg5 (c : Dev nD) : ∀ k, atTrip condOps bodyI (entryContents preI m) k c (Proc.devRef .tc main_arg5) = m ((c.tc : Thread nD τ).loc main_arg5)
  | 0 => entry_arg5 m c
  | k + 1 => (trip_arg5 _).trans (trips_arg5 c k)

/-- … and to the end. -/
theorem final_arg5 (c : Dev nD) : finalContents condOps preI bodyI postI 2000 m c (Proc.devRef .tc main_arg5) = m ((c.tc : Thread nD τ).loc main_arg5) := by
  rw [← trips_arg5 m c 2000]
  simp only [finalContents, afterL_cons, afterL_nil]
  after_reads_simp

/-- Argument 6 keeps its contents through the operations before the loop. -/
theorem entry_arg6 (c : Dev nD) : entryContents preI m c (Proc.devRef .tc main_arg6) = m ((c.tc : Thread nD τ).loc main_arg6) := by
  simp only [entryContents, afterL_cons, afterL_nil]
  after_reads_simp

/-- … through one trip … -/
theorem trip_arg6 (V : Valuation τ sig (Elt F)) : afterL bodyI (after condOps V) (Proc.devRef .tc main_arg6) = V (Proc.devRef .tc main_arg6) := by
  simp only [afterL_cons, afterL_nil]
  after_reads_simp

/-- … through any number of trips … -/
theorem trips_arg6 (c : Dev nD) : ∀ k, atTrip condOps bodyI (entryContents preI m) k c (Proc.devRef .tc main_arg6) = m ((c.tc : Thread nD τ).loc main_arg6)
  | 0 => entry_arg6 m c
  | k + 1 => (trip_arg6 _).trans (trips_arg6 c k)

/-- … and to the end. -/
theorem final_arg6 (c : Dev nD) : finalContents condOps preI bodyI postI 2000 m c (Proc.devRef .tc main_arg6) = m ((c.tc : Thread nD τ).loc main_arg6) := by
  rw [← trips_arg6 m c 2000]
  simp only [finalContents, afterL_cons, afterL_nil]
  after_reads_simp

/-- Argument 7 keeps its contents through the operations before the loop. -/
theorem entry_arg7 (c : Dev nD) : entryContents preI m c (Proc.devRef .tc main_arg7) = m ((c.tc : Thread nD τ).loc main_arg7) := by
  simp only [entryContents, afterL_cons, afterL_nil]
  after_reads_simp

/-- … through one trip … -/
theorem trip_arg7 (V : Valuation τ sig (Elt F)) : afterL bodyI (after condOps V) (Proc.devRef .tc main_arg7) = V (Proc.devRef .tc main_arg7) := by
  simp only [afterL_cons, afterL_nil]
  after_reads_simp

/-- … through any number of trips … -/
theorem trips_arg7 (c : Dev nD) : ∀ k, atTrip condOps bodyI (entryContents preI m) k c (Proc.devRef .tc main_arg7) = m ((c.tc : Thread nD τ).loc main_arg7)
  | 0 => entry_arg7 m c
  | k + 1 => (trip_arg7 _).trans (trips_arg7 c k)

/-- … and to the end. -/
theorem final_arg7 (c : Dev nD) : finalContents condOps preI bodyI postI 2000 m c (Proc.devRef .tc main_arg7) = m ((c.tc : Thread nD τ).loc main_arg7) := by
  rw [← trips_arg7 m c 2000]
  simp only [finalContents, afterL_cons, afterL_nil]
  after_reads_simp

/-- Argument 8 keeps its contents through the operations before the loop. -/
theorem entry_arg8 (c : Dev nD) : entryContents preI m c (Proc.devRef .tc main_arg8) = m ((c.tc : Thread nD τ).loc main_arg8) := by
  simp only [entryContents, afterL_cons, afterL_nil]
  after_reads_simp

/-- … through one trip … -/
theorem trip_arg8 (V : Valuation τ sig (Elt F)) : afterL bodyI (after condOps V) (Proc.devRef .tc main_arg8) = V (Proc.devRef .tc main_arg8) := by
  simp only [afterL_cons, afterL_nil]
  after_reads_simp

/-- … through any number of trips … -/
theorem trips_arg8 (c : Dev nD) : ∀ k, atTrip condOps bodyI (entryContents preI m) k c (Proc.devRef .tc main_arg8) = m ((c.tc : Thread nD τ).loc main_arg8)
  | 0 => entry_arg8 m c
  | k + 1 => (trip_arg8 _).trans (trips_arg8 c k)

/-- … and to the end. -/
theorem final_arg8 (c : Dev nD) : finalContents condOps preI bodyI postI 2000 m c (Proc.devRef .tc main_arg8) = m ((c.tc : Thread nD τ).loc main_arg8) := by
  rw [← trips_arg8 m c 2000]
  simp only [finalContents, afterL_cons, afterL_nil]
  after_reads_simp

/-- Argument 9 keeps its contents through the operations before the loop. -/
theorem entry_arg9 (c : Dev nD) : entryContents preI m c (Proc.devRef .tc main_arg9) = m ((c.tc : Thread nD τ).loc main_arg9) := by
  simp only [entryContents, afterL_cons, afterL_nil]
  after_reads_simp

/-- … through one trip … -/
theorem trip_arg9 (V : Valuation τ sig (Elt F)) : afterL bodyI (after condOps V) (Proc.devRef .tc main_arg9) = V (Proc.devRef .tc main_arg9) := by
  simp only [afterL_cons, afterL_nil]
  after_reads_simp

/-- … through any number of trips … -/
theorem trips_arg9 (c : Dev nD) : ∀ k, atTrip condOps bodyI (entryContents preI m) k c (Proc.devRef .tc main_arg9) = m ((c.tc : Thread nD τ).loc main_arg9)
  | 0 => entry_arg9 m c
  | k + 1 => (trip_arg9 _).trans (trips_arg9 c k)

/-- … and to the end. -/
theorem final_arg9 (c : Dev nD) : finalContents condOps preI bodyI postI 2000 m c (Proc.devRef .tc main_arg9) = m ((c.tc : Thread nD τ).loc main_arg9) := by
  rw [← trips_arg9 m c 2000]
  simp only [finalContents, afterL_cons, afterL_nil]
  after_reads_simp

/-- Argument 10 keeps its contents through the operations before the loop. -/
theorem entry_arg10 (c : Dev nD) : entryContents preI m c (Proc.devRef .tc main_arg10) = m ((c.tc : Thread nD τ).loc main_arg10) := by
  simp only [entryContents, afterL_cons, afterL_nil]
  after_reads_simp

/-- … through one trip … -/
theorem trip_arg10 (V : Valuation τ sig (Elt F)) : afterL bodyI (after condOps V) (Proc.devRef .tc main_arg10) = V (Proc.devRef .tc main_arg10) := by
  simp only [afterL_cons, afterL_nil]
  after_reads_simp

/-- … through any number of trips … -/
theorem trips_arg10 (c : Dev nD) : ∀ k, atTrip condOps bodyI (entryContents preI m) k c (Proc.devRef .tc main_arg10) = m ((c.tc : Thread nD τ).loc main_arg10)
  | 0 => entry_arg10 m c
  | k + 1 => (trip_arg10 _).trans (trips_arg10 c k)

/-- … and to the end. -/
theorem final_arg10 (c : Dev nD) : finalContents condOps preI bodyI postI 2000 m c (Proc.devRef .tc main_arg10) = m ((c.tc : Thread nD τ).loc main_arg10) := by
  rw [← trips_arg10 m c 2000]
  simp only [finalContents, afterL_cons, afterL_nil]
  after_reads_simp

/-- THE REFERENCE'S FRAME: it terminates, every argument ends unchanged, and every counter is zero. -/
theorem frame (m : (ℓ : Loc nD τ sig) → Buf (Elt Ideal) ℓ) : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨fun c => ⟨(h c main_arg0 (by decide)).trans (final_arg0 m c),
    (h c main_arg1 (by decide)).trans (final_arg1 m c),
    (h c main_arg2 (by decide)).trans (final_arg2 m c),
    (h c main_arg3 (by decide)).trans (final_arg3 m c),
    (h c main_arg4 (by decide)).trans (final_arg4 m c),
    (h c main_arg5 (by decide)).trans (final_arg5 m c),
    (h c main_arg6 (by decide)).trans (final_arg6 m c),
    (h c main_arg7 (by decide)).trans (final_arg7 m c),
    (h c main_arg8 (by decide)).trans (final_arg8 m c),
    (h c main_arg9 (by decide)).trans (final_arg9 m c),
    (h c main_arg10 (by decide)).trans (final_arg10 m c)⟩,
    sem_eq_zero_of_no_sems (by decide) r.2⟩) (run_fold m ρ)

/-- The reference's run with its two results: each ends at the fold of the operations, and every argument unchanged. -/
theorem run (m : (ℓ : Loc nD τ sig) → Buf (Elt Ideal) ℓ) : θ_run (defs (F := Ideal)) (onTc (τ := τ) (main (F := Ideal))) ⟨m, fun _ => 0, ρ⟩ (fun r => ∀ c : Dev nD,
      r.2.mem ((c.tc : Thread nD τ).loc main_v665) = finalContents condOps preI bodyI postI 2000 m c (Proc.devRef .tc main_v665)
      ∧ r.2.mem ((c.tc : Thread nD τ).loc main_values_166) = finalContents condOps preI bodyI postI 2000 m c (Proc.devRef .tc main_values_166)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c main_v665 (by decide), h c main_values_166 (by decide), (h c main_arg0 (by decide)).trans (final_arg0 m c),
    (h c main_arg1 (by decide)).trans (final_arg1 m c),
    (h c main_arg2 (by decide)).trans (final_arg2 m c),
    (h c main_arg3 (by decide)).trans (final_arg3 m c),
    (h c main_arg4 (by decide)).trans (final_arg4 m c),
    (h c main_arg5 (by decide)).trans (final_arg5 m c),
    (h c main_arg6 (by decide)).trans (final_arg6 m c),
    (h c main_arg7 (by decide)).trans (final_arg7 m c),
    (h c main_arg8 (by decide)).trans (final_arg8 m c),
    (h c main_arg9 (by decide)).trans (final_arg9 m c),
    (h c main_arg10 (by decide)).trans (final_arg10 m c)⟩) (run_fold m ρ)

end Cert.Rpn.Ref

end
-- ==== Proof.Spec.lean ====
/- The region proposals' mathematics, one scalar at a time: what one anchor of one level is decoded to. -/
module

public import Idealize.ShloMosaic.Lib.Pointwise
public import Idealize.ShloMosaic.Lib.ValueIdx

@[expose] public section

noncomputable section

namespace Cert.Rpn

open Idealize.ShloMosaic

/-- One half, ten, four and minus a billion, as the programs write them. -/
abbrev half : Ideal .f32 := Ideal.ofBits .f32 1056964608#32
abbrev ten : Ideal .f32 := Ideal.ofBits .f32 1092616192#32
abbrev four : Ideal .f32 := Ideal.ofBits .f32 1082130432#32
abbrev dead : Ideal .f32 := Ideal.ofBits .f32 3463342888#32

/-- The low edge of a decoded box along one axis, clipped to the image: extent `m`, deltas `d` (centre) and `e` (log size),
    anchor width `w` and centre `c`. -/
def lo (m d e w c : Ideal .f32) : Ideal .f32 := min (m - 1) (max 0 (d * w + c - half * (Ideal.exp (min e ten) * w - 1)))

/-- The high edge. -/
def hi (m d e w c : Ideal .f32) : Ideal .f32 := min (m - 1) (max 0 (d * w + c + half * (Ideal.exp (min e ten) * w - 1)))

/-- The score of a box: its class score where both sides are at least four long, else minus a billion. -/
def score (x₁ y₁ x₂ y₂ s : Ideal .f32) : Ideal .f32 :=
  Scalar.select (IntOp.andi (BitVec.ofBool (decide (four ≤ x₂ - x₁ + 1))) (BitVec.ofBool (decide (four ≤ y₂ - y₁ + 1)))) s dead

/-- Entry `j` of anchor `a` of a table of three base anchors. -/
def base (lit : Fin 12 → BitVec 32) (a j : ℕ) : Ideal .f32 :=
  Ideal.ofBits .f32 (lit ((⟨2, ![3, 4]⟩ : Shape).rowMajor (ix2 (Fin.ofNat 3 a) (Fin.ofNat 4 j))))

theorem base_eq (lit : Fin 12 → BitVec 32) (a : Fin 3) (j : Fin 4) :
    Ideal.ofBits .f32 (lit ((⟨2, ![3, 4]⟩ : Shape).rowMajor (ix2 a j))) = base lit a.val j.val := by
  simp only [base, Fin.ofNat_val_eq_self]

/-- Element `(ch, y, x)` of a level's head. -/
def px {C s : ℕ} [NeZero C] [NeZero s] (v : Vec Ideal ⟨4, ![1, C, s, s]⟩ .f32) (ch y x : ℕ) : Ideal .f32 :=
  v (ix4 0 (Fin.ofNat C ch) (Fin.ofNat s y) (Fin.ofNat s x))

theorem px_eq {C s : ℕ} [NeZero C] [NeZero s] (v : Vec Ideal ⟨4, ![1, C, s, s]⟩ .f32) (ch : Fin C) (y x : Fin s) :
    v (ix4 0 ch y x) = px v ch.val y.val x.val := by
  simp only [px, Fin.ofNat_val_eq_self]

/-- Where column or row `x` of a level lies in the image. -/
def shift (st : BitVec 32) (x : ℕ) : Ideal .f32 := FloatOps.sitofp .f32 (BitVec.ofNat 32 x) * Ideal.ofBits .f32 st

/-- The width (`j = 0`) or height (`j = 1`) of base anchor `a` shifted by `t`. -/
def wd (lit : Fin 12 → BitVec 32) (a j : ℕ) (t : Ideal .f32) : Ideal .f32 := base lit a (j + 2) + t - (base lit a j + t) + 1

/-- Its centre. -/
def ct (lit : Fin 12 → BitVec 32) (a j : ℕ) (t : Ideal .f32) : Ideal .f32 := base lit a j + t + half * (wd lit a j t - 1)

section Level

variable {s : ℕ} [NeZero s] (bb : Vec Ideal ⟨4, ![1, 12, s, s]⟩ .f32) (cls : Vec Ideal ⟨4, ![1, 6, s, s]⟩ .f32)
  (im : Vec Ideal ⟨2, ![1, 3]⟩ .f32) (lit : Fin 12 → BitVec 32) (st : BitVec 32) (a y x : ℕ)

/-- The decoded box of anchor `a` at `(y, x)`, and its score. -/
def x1 : Ideal .f32 := lo (im (ix2 0 1)) (px bb (a * 4) y x) (px bb (a * 4 + 2) y x) (wd lit a 0 (shift st x)) (ct lit a 0 (shift st x))
def y1 : Ideal .f32 := lo (im (ix2 0 0)) (px bb (a * 4 + 1) y x) (px bb (a * 4 + 3) y x) (wd lit a 1 (shift st y)) (ct lit a 1 (shift st y))
def x2 : Ideal .f32 := hi (im (ix2 0 1)) (px bb (a * 4) y x) (px bb (a * 4 + 2) y x) (wd lit a 0 (shift st x)) (ct lit a 0 (shift st x))
def y2 : Ideal .f32 := hi (im (ix2 0 0)) (px bb (a * 4 + 1) y x) (px bb (a * 4 + 3) y x) (wd lit a 1 (shift st y)) (ct lit a 1 (shift st y))
def sc : Ideal .f32 := score (x1 bb im lit st a y x) (y1 bb im lit st a y x) (x2 bb im lit st a y x) (y2 bb im lit st a y x) (px cls (3 + a) y x)

end Level

end Cert.Rpn
end
-- ==== Proof.Order.lean ====
/- The five levels in one list: what the reference's order of the anchors holds at each place, and where the decode region
   puts it. -/
module

public import proofs.«01_k».proof.Proof.Spec
public import proofs.«01_k».proof.KernelIdeal

@[expose] public section

noncomputable section

namespace Cert.Rpn

open Idealize.ShloMosaic
open Cert.KernelIdeal (lit0 lit1 lit2 lit3 lit4)

/-- The two programs' arguments: scores and deltas by level, and the image's size. -/
structure Args where
  s0 : Vec Ideal ⟨4, ![1, 6, 256, 256]⟩ .f32
  s1 : Vec Ideal ⟨4, ![1, 6, 128, 128]⟩ .f32
  s2 : Vec Ideal ⟨4, ![1, 6, 64, 64]⟩ .f32
  s3 : Vec Ideal ⟨4, ![1, 6, 32, 32]⟩ .f32
  s4 : Vec Ideal ⟨4, ![1, 6, 16, 16]⟩ .f32
  b0 : Vec Ideal ⟨4, ![1, 12, 256, 256]⟩ .f32
  b1 : Vec Ideal ⟨4, ![1, 12, 128, 128]⟩ .f32
  b2 : Vec Ideal ⟨4, ![1, 12, 64, 64]⟩ .f32
  b3 : Vec Ideal ⟨4, ![1, 12, 32, 32]⟩ .f32
  b4 : Vec Ideal ⟨4, ![1, 12, 16, 16]⟩ .f32
  im : Vec Ideal ⟨2, ![1, 3]⟩ .f32

/-- Place `p` of the reference's order: the levels one after another, and in each the anchors innermost. -/
def pick (f0 f1 f2 f3 f4 : ℕ → ℕ → ℕ → Ideal .f32) (p : ℕ) : Ideal .f32 :=
  if p < 196608 then f0 (p % 3) (p / 768) (p / 3 % 256)
  else if p < 245760 then f1 ((p - 196608) % 3) ((p - 196608) / 384) ((p - 196608) / 3 % 128)
  else if p < 258048 then f2 ((p - 245760) % 3) ((p - 245760) / 192) ((p - 245760) / 3 % 64)
  else if p < 261120 then f3 ((p - 258048) % 3) ((p - 258048) / 96) ((p - 258048) / 3 % 32)
  else f4 ((p - 261120) % 3) ((p - 261120) / 48) ((p - 261120) / 3 % 16)

/-- Where the decode region puts place `p`: in each level the anchors outermost. -/
def perm (p : ℕ) : ℕ :=
  if p < 196608 then (p % 3 * 65536 + p / 3)
  else if p < 245760 then 196608 + ((p - 196608) % 3 * 16384 + (p - 196608) / 3)
  else if p < 258048 then 245760 + ((p - 245760) % 3 * 4096 + (p - 245760) / 3)
  else if p < 261120 then 258048 + ((p - 258048) % 3 * 1024 + (p - 258048) / 3)
  else 261120 + ((p - 261120) % 3 * 256 + (p - 261120) / 3)

theorem perm_lt (p : ℕ) (h : p < 261888) : perm p < 261888 := by
  unfold perm; split_ifs <;> omega

namespace Args

variable (A : Args)

/-- The decoded boxes' edges and scores, in the reference's order. -/
def X1 : ℕ → Ideal .f32 := pick (x1 A.b0 A.im lit0 1082130432#32) (x1 A.b1 A.im lit1 1090519040#32) (x1 A.b2 A.im lit2 1098907648#32) (x1 A.b3 A.im lit3 1107296256#32) (x1 A.b4 A.im lit4 1115684864#32)
def Y1 : ℕ → Ideal .f32 := pick (y1 A.b0 A.im lit0 1082130432#32) (y1 A.b1 A.im lit1 1090519040#32) (y1 A.b2 A.im lit2 1098907648#32) (y1 A.b3 A.im lit3 1107296256#32) (y1 A.b4 A.im lit4 1115684864#32)
def X2 : ℕ → Ideal .f32 := pick (x2 A.b0 A.im lit0 1082130432#32) (x2 A.b1 A.im lit1 1090519040#32) (x2 A.b2 A.im lit2 1098907648#32) (x2 A.b3 A.im lit3 1107296256#32) (x2 A.b4 A.im lit4 1115684864#32)
def Y2 : ℕ → Ideal .f32 := pick (y2 A.b0 A.im lit0 1082130432#32) (y2 A.b1 A.im lit1 1090519040#32) (y2 A.b2 A.im lit2 1098907648#32) (y2 A.b3 A.im lit3 1107296256#32) (y2 A.b4 A.im lit4 1115684864#32)
def SC : ℕ → Ideal .f32 := pick (sc A.b0 A.s0 A.im lit0 1082130432#32) (sc A.b1 A.s1 A.im lit1 1090519040#32) (sc A.b2 A.s2 A.im lit2 1098907648#32) (sc A.b3 A.s3 A.im lit3 1107296256#32) (sc A.b4 A.s4 A.im lit4 1115684864#32)

end Args

end Cert.Rpn
end
-- ==== Proof.Decode.lean ====
/- What each decoded array holds at a row and lane, over the arrays the decode region reads. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.Tactic

/-- Row `r`, lane `b` of a plane array. -/
def at2 {R : ℕ} [NeZero R] (x : Vec Ideal ⟨2, ![R, 128]⟩ .f32) (r : ℕ) (b : Fin 128) : Ideal .f32 := x (ix2 (Fin.ofNat R r) b)

theorem at2_eq {R : ℕ} [NeZero R] (x : Vec Ideal ⟨2, ![R, 128]⟩ .f32) (r : Fin R) (b : Fin 128) : x (ix2 r b) = at2 x r.val b := by
  simp only [at2, Fin.ofNat_val_eq_self]

/-- The row of delta `j` for output row `u` of a level whose planes are `n` rows. -/
def row (n j u : ℕ) : ℕ := (u / n * 4 + j) * n + u % n

section Tile

variable {R R' : ℕ} [NeZero R] [NeZero R'] (im : Vec Ideal S1x3 .f32) (bb : Vec Ideal ⟨2, ![R, 128]⟩ .f32) (cls : Vec Ideal ⟨2, ![R', 128]⟩ .f32)
  (n u : ℕ) (b : Fin 128) (w h cx cy : Ideal .f32)

/-- The box and score at output row `u` of a level. -/
def tileX1 : Ideal .f32 := lo (im (ix2 0 1)) (at2 bb (row n 0 u) b) (at2 bb (row n 2 u) b) w cx
def tileY1 : Ideal .f32 := lo (im (ix2 0 0)) (at2 bb (row n 1 u) b) (at2 bb (row n 3 u) b) h cy
def tileX2 : Ideal .f32 := hi (im (ix2 0 1)) (at2 bb (row n 0 u) b) (at2 bb (row n 2 u) b) w cx
def tileY2 : Ideal .f32 := hi (im (ix2 0 0)) (at2 bb (row n 1 u) b) (at2 bb (row n 3 u) b) h cy
def tileS : Ideal .f32 :=
  score (tileX1 im bb n u b w cx) (tileY1 im bb n u b h cy) (tileX2 im bb n u b w cx) (tileY2 im bb n u b h cy) (at2 cls (3 * n + u) b)

end Tile

/-- The low x edges, at a row and lane. -/
def decX1 (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32) (r : Fin 2046) (b : Fin 128) : Ideal .f32 :=
  if r.val < 1536 then tileX1 x0 x6 512 r.val b (x11 (ix2 r b)) (x13 (ix2 r b))
  else if r.val < 1920 then tileX1 x0 x7 128 (r.val - 1536) b (x11 (ix2 r b)) (x13 (ix2 r b))
  else if r.val < 2016 then tileX1 x0 x8 32 (r.val - 1920) b (x11 (ix2 r b)) (x13 (ix2 r b))
  else if r.val < 2040 then tileX1 x0 x9 8 (r.val - 2016) b (x11 (ix2 r b)) (x13 (ix2 r b))
  else tileX1 x0 x10 2 (r.val - 2040) b (x11 (ix2 r b)) (x13 (ix2 r b))

/-- The low y edges, at a row and lane. -/
def decY1 (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32) (r : Fin 2046) (b : Fin 128) : Ideal .f32 :=
  if r.val < 1536 then tileY1 x0 x6 512 r.val b (x12 (ix2 r b)) (x14 (ix2 r b))
  else if r.val < 1920 then tileY1 x0 x7 128 (r.val - 1536) b (x12 (ix2 r b)) (x14 (ix2 r b))
  else if r.val < 2016 then tileY1 x0 x8 32 (r.val - 1920) b (x12 (ix2 r b)) (x14 (ix2 r b))
  else if r.val < 2040 then tileY1 x0 x9 8 (r.val - 2016) b (x12 (ix2 r b)) (x14 (ix2 r b))
  else tileY1 x0 x10 2 (r.val - 2040) b (x12 (ix2 r b)) (x14 (ix2 r b))

/-- The high x edges, at a row and lane. -/
def decX2 (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32) (r : Fin 2046) (b : Fin 128) : Ideal .f32 :=
  if r.val < 1536 then tileX2 x0 x6 512 r.val b (x11 (ix2 r b)) (x13 (ix2 r b))
  else if r.val < 1920 then tileX2 x0 x7 128 (r.val - 1536) b (x11 (ix2 r b)) (x13 (ix2 r b))
  else if r.val < 2016 then tileX2 x0 x8 32 (r.val - 1920) b (x11 (ix2 r b)) (x13 (ix2 r b))
  else if r.val < 2040 then tileX2 x0 x9 8 (r.val - 2016) b (x11 (ix2 r b)) (x13 (ix2 r b))
  else tileX2 x0 x10 2 (r.val - 2040) b (x11 (ix2 r b)) (x13 (ix2 r b))

/-- The high y edges, at a row and lane. -/
def decY2 (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32) (r : Fin 2046) (b : Fin 128) : Ideal .f32 :=
  if r.val < 1536 then tileY2 x0 x6 512 r.val b (x12 (ix2 r b)) (x14 (ix2 r b))
  else if r.val < 1920 then tileY2 x0 x7 128 (r.val - 1536) b (x12 (ix2 r b)) (x14 (ix2 r b))
  else if r.val < 2016 then tileY2 x0 x8 32 (r.val - 1920) b (x12 (ix2 r b)) (x14 (ix2 r b))
  else if r.val < 2040 then tileY2 x0 x9 8 (r.val - 2016) b (x12 (ix2 r b)) (x14 (ix2 r b))
  else tileY2 x0 x10 2 (r.val - 2040) b (x12 (ix2 r b)) (x14 (ix2 r b))

/-- The scores, at a row and lane. -/
def decS (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32) (r : Fin 2046) (b : Fin 128) : Ideal .f32 :=
  if r.val < 1536 then tileS x0 x6 x1 512 r.val b (x11 (ix2 r b)) (x12 (ix2 r b)) (x13 (ix2 r b)) (x14 (ix2 r b))
  else if r.val < 1920 then tileS x0 x7 x2 128 (r.val - 1536) b (x11 (ix2 r b)) (x12 (ix2 r b)) (x13 (ix2 r b)) (x14 (ix2 r b))
  else if r.val < 2016 then tileS x0 x8 x3 32 (r.val - 1920) b (x11 (ix2 r b)) (x12 (ix2 r b)) (x13 (ix2 r b)) (x14 (ix2 r b))
  else if r.val < 2040 then tileS x0 x9 x4 8 (r.val - 2016) b (x11 (ix2 r b)) (x12 (ix2 r b)) (x13 (ix2 r b)) (x14 (ix2 r b))
  else tileS x0 x10 x5 2 (r.val - 2040) b (x11 (ix2 r b)) (x12 (ix2 r b)) (x13 (ix2 r b)) (x14 (ix2 r b))

end Cert.Rpn.Ker
end
-- ==== Proof.Stores.lean ====
/- What a store of a row range leaves, and the decoded tiles at the rows that the stores read. -/
module

public import proofs.«01_k».proof.Proof.Decode
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.Tactic

/-- A store of `h` rows from row `o` holds its part of `f`, if each of its cells does. -/
theorem store_of {h o : ℕ} (inb : ∀ d, ![o, 0] d + ![h, 128] d ≤ S2046x128.size d) (w : Vec Ideal ⟨2, ![h, 128]⟩ .f32)
    (f : Fin 2046 → Fin 128 → Ideal .f32) (hw : ∀ (i : Fin h) (b : Fin 128) (hr : o + i.val < 2046), w (ix2 i b) = f ⟨o + i.val, hr⟩ b) :
    ∀ x : (Rect.unit (s := S2046x128) ![o, 0] ![h, 128] inb).shape.Idx,
      w x = (fun y : S2046x128.Idx => f (y 0) (y 1)) ((Rect.unit (s := S2046x128) ![o, 0] ![h, 128] inb).emb x) := by
  intro x
  have hh : o + h ≤ 2046 := inb 0
  obtain ⟨i, b, rfl⟩ : ∃ (i : Fin h) (b : Fin 128), x = ix2 i b := ⟨x 0, x 1, eq_ix2 x⟩
  have hi := i.isLt
  rw [hw i b (by omega)]
  refine congr (congrArg f (Fin.ext ?_)) (Fin.ext ?_)
  · show o + i.val = o + 1 * i.val
    omega
  · show b.val = 0 + 1 * b.val
    omega

section Tile

variable {R R' : ℕ} [NeZero R] [NeZero R'] {im : Vec Ideal S1x3 .f32} {bb : Vec Ideal ⟨2, ![R, 128]⟩ .f32} {cls : Vec Ideal ⟨2, ![R', 128]⟩ .f32}
  {n u : ℕ} {b : Fin 128} {w h cx cy : Ideal .f32} {k0 k1 k2 k3 k : ℕ}

/-- A low x edge, from the rows its two deltas are read at. -/
theorem tileX1_of (h0 : k0 = row n 0 u) (h2 : k2 = row n 2 u) :
    lo (im (ix2 0 1)) (at2 bb k0 b) (at2 bb k2 b) w cx = tileX1 im bb n u b w cx := by
  rw [h0, h2, tileX1]

/-- A low y edge. -/
theorem tileY1_of (h1 : k1 = row n 1 u) (h3 : k3 = row n 3 u) :
    lo (im (ix2 0 0)) (at2 bb k1 b) (at2 bb k3 b) h cy = tileY1 im bb n u b h cy := by
  rw [h1, h3, tileY1]

/-- A high x edge. -/
theorem tileX2_of (h0 : k0 = row n 0 u) (h2 : k2 = row n 2 u) :
    hi (im (ix2 0 1)) (at2 bb k0 b) (at2 bb k2 b) w cx = tileX2 im bb n u b w cx := by
  rw [h0, h2, tileX2]

/-- A high y edge. -/
theorem tileY2_of (h1 : k1 = row n 1 u) (h3 : k3 = row n 3 u) :
    hi (im (ix2 0 0)) (at2 bb k1 b) (at2 bb k3 b) h cy = tileY2 im bb n u b h cy := by
  rw [h1, h3, tileY2]

/-- A score, from the rows its four deltas and its class score are read at. -/
theorem tileS_of (h0 : k0 = row n 0 u) (h1 : k1 = row n 1 u) (h2 : k2 = row n 2 u) (h3 : k3 = row n 3 u) (hk : k = 3 * n + u) :
    score (lo (im (ix2 0 1)) (at2 bb k0 b) (at2 bb k2 b) w cx) (lo (im (ix2 0 0)) (at2 bb k1 b) (at2 bb k3 b) h cy)
        (hi (im (ix2 0 1)) (at2 bb k0 b) (at2 bb k2 b) w cx) (hi (im (ix2 0 0)) (at2 bb k1 b) (at2 bb k3 b) h cy) (at2 cls k b)
      = tileS im bb cls n u b w h cx cy := by
  rw [h0, h1, h2, h3, hk, tileS, tileX1, tileY1, tileX2, tileY2]

end Tile

end Cert.Rpn.Ker
end
-- ==== Proof.DecodeX1.lean ====
/- The low x edges the decode region writes: its fifteen stores, one per level and base anchor, are those of Decode.lean. -/
module

public import proofs.«01_k».proof.Proof.Stores
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.Tactic

variable (c : Dev nD) (arg0 : Memref sig .tc .smem S1x3 .f32) (harg0 : arg0.IsWhole) (arg1 : Memref sig .tc .vmem S3072x128 .f32) (harg1 : arg1.IsWhole) (arg2 : Memref sig .tc .vmem S768x128 .f32) (harg2 : arg2.IsWhole) (arg3 : Memref sig .tc .vmem S192x128 .f32) (harg3 : arg3.IsWhole) (arg4 : Memref sig .tc .vmem S48x128 .f32) (harg4 : arg4.IsWhole) (arg5 : Memref sig .tc .vmem S12x128 .f32) (harg5 : arg5.IsWhole) (arg6 : Memref sig .tc .vmem S6144x128 .f32) (harg6 : arg6.IsWhole) (arg7 : Memref sig .tc .vmem S1536x128 .f32) (harg7 : arg7.IsWhole) (arg8 : Memref sig .tc .vmem S384x128 .f32) (harg8 : arg8.IsWhole) (arg9 : Memref sig .tc .vmem S96x128 .f32) (harg9 : arg9.IsWhole) (arg10 : Memref sig .tc .vmem S24x128 .f32) (harg10 : arg10.IsWhole) (arg11 : Memref sig .tc .vmem S2046x128 .f32) (harg11 : arg11.IsWhole) (arg12 : Memref sig .tc .vmem S2046x128 .f32) (harg12 : arg12.IsWhole) (arg13 : Memref sig .tc .vmem S2046x128 .f32) (harg13 : arg13.IsWhole) (arg14 : Memref sig .tc .vmem S2046x128 .f32) (harg14 : arg14.IsWhole) (arg15 : Memref sig .tc .vmem S2046x128 .f32) (harg15 : arg15.IsWhole) (arg16 : Memref sig .tc .vmem S2046x128 .f32) (harg16 : arg16.IsWhole) (arg17 : Memref sig .tc .vmem S2046x128 .f32) (harg17 : arg17.IsWhole) (arg18 : Memref sig .tc .vmem S2046x128 .f32) (harg18 : arg18.IsWhole) (arg19 : Memref sig .tc .vmem S2046x128 .f32) (harg19 : arg19.IsWhole) (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32)

set_option maxHeartbeats 4000000 in
/-- The low x edges the region leaves. -/
theorem outX1 (r : Fin 2046) (b : Fin 128) :
    out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 (ix2 r b) = decX1 x0 x1 x2 x3 x4 x5 x6 x7 x8 x9 x10 x11 x12 x13 x14 r b := by
  have h : ∀ y, out0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = decX1 x0 x1 x2 x3 x4 x5 x6 x7 x8 x9 x10 x11 x12 x13 x14 (y 0) (y 1) := fun y => by
    unfold out0_A_15
    refine View.read_writes_apply_of_pieces VO0_15 _ (fun y => decX1 x0 x1 x2 x3 x4 x5 x6 x7 x8 x9 x10 x11 x12 x13 x14 (y 0) (y 1)) _ ?_ y (cover0_A_15 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
    unfold kernelRun0_A
    dsimp only
    repeat' refine List.forall_mem_cons.2 ⟨?_, ?_⟩
    all_goals first
      | exact fun _ h => absurd h List.not_mem_nil
      | refine store_of (by decide) _ (decX1 x0 x1 x2 x3 x4 x5 x6 x7 x8 x9 x10 x11 x12 x13 x14) fun i b hr => ?_
        have hi := i.isLt
        sl_unfold_words
        simp only [View.readAt_eq_ld, Memref.IsWhole.read_unread]
        pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]
        unfold decX1
        dsimp only
        repeat first | rw [if_pos (by omega)] | rw [if_neg (by omega)]
        simp only [at2_eq (R := 3072), at2_eq (R := 768), at2_eq (R := 192), at2_eq (R := 48), at2_eq (R := 12), at2_eq (R := 6144), at2_eq (R := 1536), at2_eq (R := 384), at2_eq (R := 96), at2_eq (R := 24), Nat.zero_add]
        refine tileX1_of ?_ ?_
        all_goals (try unfold row); omega
  exact h _

end Cert.Rpn.Ker
end
-- ==== Proof.DecodeY1.lean ====
/- The low y edges the decode region writes: its fifteen stores, one per level and base anchor, are those of Decode.lean. -/
module

public import proofs.«01_k».proof.Proof.Stores
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.Tactic

variable (c : Dev nD) (arg0 : Memref sig .tc .smem S1x3 .f32) (harg0 : arg0.IsWhole) (arg1 : Memref sig .tc .vmem S3072x128 .f32) (harg1 : arg1.IsWhole) (arg2 : Memref sig .tc .vmem S768x128 .f32) (harg2 : arg2.IsWhole) (arg3 : Memref sig .tc .vmem S192x128 .f32) (harg3 : arg3.IsWhole) (arg4 : Memref sig .tc .vmem S48x128 .f32) (harg4 : arg4.IsWhole) (arg5 : Memref sig .tc .vmem S12x128 .f32) (harg5 : arg5.IsWhole) (arg6 : Memref sig .tc .vmem S6144x128 .f32) (harg6 : arg6.IsWhole) (arg7 : Memref sig .tc .vmem S1536x128 .f32) (harg7 : arg7.IsWhole) (arg8 : Memref sig .tc .vmem S384x128 .f32) (harg8 : arg8.IsWhole) (arg9 : Memref sig .tc .vmem S96x128 .f32) (harg9 : arg9.IsWhole) (arg10 : Memref sig .tc .vmem S24x128 .f32) (harg10 : arg10.IsWhole) (arg11 : Memref sig .tc .vmem S2046x128 .f32) (harg11 : arg11.IsWhole) (arg12 : Memref sig .tc .vmem S2046x128 .f32) (harg12 : arg12.IsWhole) (arg13 : Memref sig .tc .vmem S2046x128 .f32) (harg13 : arg13.IsWhole) (arg14 : Memref sig .tc .vmem S2046x128 .f32) (harg14 : arg14.IsWhole) (arg15 : Memref sig .tc .vmem S2046x128 .f32) (harg15 : arg15.IsWhole) (arg16 : Memref sig .tc .vmem S2046x128 .f32) (harg16 : arg16.IsWhole) (arg17 : Memref sig .tc .vmem S2046x128 .f32) (harg17 : arg17.IsWhole) (arg18 : Memref sig .tc .vmem S2046x128 .f32) (harg18 : arg18.IsWhole) (arg19 : Memref sig .tc .vmem S2046x128 .f32) (harg19 : arg19.IsWhole) (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32)

set_option maxHeartbeats 4000000 in
/-- The low y edges the region leaves. -/
theorem outY1 (r : Fin 2046) (b : Fin 128) :
    out0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 (ix2 r b) = decY1 x0 x1 x2 x3 x4 x5 x6 x7 x8 x9 x10 x11 x12 x13 x14 r b := by
  have h : ∀ y, out0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = decY1 x0 x1 x2 x3 x4 x5 x6 x7 x8 x9 x10 x11 x12 x13 x14 (y 0) (y 1) := fun y => by
    unfold out0_A_16
    refine View.read_writes_apply_of_pieces VO0_16 _ (fun y => decY1 x0 x1 x2 x3 x4 x5 x6 x7 x8 x9 x10 x11 x12 x13 x14 (y 0) (y 1)) _ ?_ y (cover0_A_16 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
    unfold kernelRun0_A
    dsimp only
    repeat' refine List.forall_mem_cons.2 ⟨?_, ?_⟩
    all_goals first
      | exact fun _ h => absurd h List.not_mem_nil
      | refine store_of (by decide) _ (decY1 x0 x1 x2 x3 x4 x5 x6 x7 x8 x9 x10 x11 x12 x13 x14) fun i b hr => ?_
        have hi := i.isLt
        sl_unfold_words
        simp only [View.readAt_eq_ld, Memref.IsWhole.read_unread]
        pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]
        unfold decY1
        dsimp only
        repeat first | rw [if_pos (by omega)] | rw [if_neg (by omega)]
        simp only [at2_eq (R := 3072), at2_eq (R := 768), at2_eq (R := 192), at2_eq (R := 48), at2_eq (R := 12), at2_eq (R := 6144), at2_eq (R := 1536), at2_eq (R := 384), at2_eq (R := 96), at2_eq (R := 24), Nat.zero_add]
        refine tileY1_of ?_ ?_
        all_goals (try unfold row); omega
  exact h _

end Cert.Rpn.Ker
end
-- ==== Proof.DecodeX2.lean ====
/- The high x edges the decode region writes: its fifteen stores, one per level and base anchor, are those of Decode.lean. -/
module

public import proofs.«01_k».proof.Proof.Stores
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.Tactic

variable (c : Dev nD) (arg0 : Memref sig .tc .smem S1x3 .f32) (harg0 : arg0.IsWhole) (arg1 : Memref sig .tc .vmem S3072x128 .f32) (harg1 : arg1.IsWhole) (arg2 : Memref sig .tc .vmem S768x128 .f32) (harg2 : arg2.IsWhole) (arg3 : Memref sig .tc .vmem S192x128 .f32) (harg3 : arg3.IsWhole) (arg4 : Memref sig .tc .vmem S48x128 .f32) (harg4 : arg4.IsWhole) (arg5 : Memref sig .tc .vmem S12x128 .f32) (harg5 : arg5.IsWhole) (arg6 : Memref sig .tc .vmem S6144x128 .f32) (harg6 : arg6.IsWhole) (arg7 : Memref sig .tc .vmem S1536x128 .f32) (harg7 : arg7.IsWhole) (arg8 : Memref sig .tc .vmem S384x128 .f32) (harg8 : arg8.IsWhole) (arg9 : Memref sig .tc .vmem S96x128 .f32) (harg9 : arg9.IsWhole) (arg10 : Memref sig .tc .vmem S24x128 .f32) (harg10 : arg10.IsWhole) (arg11 : Memref sig .tc .vmem S2046x128 .f32) (harg11 : arg11.IsWhole) (arg12 : Memref sig .tc .vmem S2046x128 .f32) (harg12 : arg12.IsWhole) (arg13 : Memref sig .tc .vmem S2046x128 .f32) (harg13 : arg13.IsWhole) (arg14 : Memref sig .tc .vmem S2046x128 .f32) (harg14 : arg14.IsWhole) (arg15 : Memref sig .tc .vmem S2046x128 .f32) (harg15 : arg15.IsWhole) (arg16 : Memref sig .tc .vmem S2046x128 .f32) (harg16 : arg16.IsWhole) (arg17 : Memref sig .tc .vmem S2046x128 .f32) (harg17 : arg17.IsWhole) (arg18 : Memref sig .tc .vmem S2046x128 .f32) (harg18 : arg18.IsWhole) (arg19 : Memref sig .tc .vmem S2046x128 .f32) (harg19 : arg19.IsWhole) (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32)

set_option maxHeartbeats 4000000 in
/-- The high x edges the region leaves. -/
theorem outX2 (r : Fin 2046) (b : Fin 128) :
    out0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 (ix2 r b) = decX2 x0 x1 x2 x3 x4 x5 x6 x7 x8 x9 x10 x11 x12 x13 x14 r b := by
  have h : ∀ y, out0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = decX2 x0 x1 x2 x3 x4 x5 x6 x7 x8 x9 x10 x11 x12 x13 x14 (y 0) (y 1) := fun y => by
    unfold out0_A_17
    refine View.read_writes_apply_of_pieces VO0_17 _ (fun y => decX2 x0 x1 x2 x3 x4 x5 x6 x7 x8 x9 x10 x11 x12 x13 x14 (y 0) (y 1)) _ ?_ y (cover0_A_17 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
    unfold kernelRun0_A
    dsimp only
    repeat' refine List.forall_mem_cons.2 ⟨?_, ?_⟩
    all_goals first
      | exact fun _ h => absurd h List.not_mem_nil
      | refine store_of (by decide) _ (decX2 x0 x1 x2 x3 x4 x5 x6 x7 x8 x9 x10 x11 x12 x13 x14) fun i b hr => ?_
        have hi := i.isLt
        sl_unfold_words
        simp only [View.readAt_eq_ld, Memref.IsWhole.read_unread]
        pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]
        unfold decX2
        dsimp only
        repeat first | rw [if_pos (by omega)] | rw [if_neg (by omega)]
        simp only [at2_eq (R := 3072), at2_eq (R := 768), at2_eq (R := 192), at2_eq (R := 48), at2_eq (R := 12), at2_eq (R := 6144), at2_eq (R := 1536), at2_eq (R := 384), at2_eq (R := 96), at2_eq (R := 24), Nat.zero_add]
        refine tileX2_of ?_ ?_
        all_goals (try unfold row); omega
  exact h _

end Cert.Rpn.Ker
end
-- ==== Proof.DecodeY2.lean ====
/- The high y edges the decode region writes: its fifteen stores, one per level and base anchor, are those of Decode.lean. -/
module

public import proofs.«01_k».proof.Proof.Stores
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.Tactic

variable (c : Dev nD) (arg0 : Memref sig .tc .smem S1x3 .f32) (harg0 : arg0.IsWhole) (arg1 : Memref sig .tc .vmem S3072x128 .f32) (harg1 : arg1.IsWhole) (arg2 : Memref sig .tc .vmem S768x128 .f32) (harg2 : arg2.IsWhole) (arg3 : Memref sig .tc .vmem S192x128 .f32) (harg3 : arg3.IsWhole) (arg4 : Memref sig .tc .vmem S48x128 .f32) (harg4 : arg4.IsWhole) (arg5 : Memref sig .tc .vmem S12x128 .f32) (harg5 : arg5.IsWhole) (arg6 : Memref sig .tc .vmem S6144x128 .f32) (harg6 : arg6.IsWhole) (arg7 : Memref sig .tc .vmem S1536x128 .f32) (harg7 : arg7.IsWhole) (arg8 : Memref sig .tc .vmem S384x128 .f32) (harg8 : arg8.IsWhole) (arg9 : Memref sig .tc .vmem S96x128 .f32) (harg9 : arg9.IsWhole) (arg10 : Memref sig .tc .vmem S24x128 .f32) (harg10 : arg10.IsWhole) (arg11 : Memref sig .tc .vmem S2046x128 .f32) (harg11 : arg11.IsWhole) (arg12 : Memref sig .tc .vmem S2046x128 .f32) (harg12 : arg12.IsWhole) (arg13 : Memref sig .tc .vmem S2046x128 .f32) (harg13 : arg13.IsWhole) (arg14 : Memref sig .tc .vmem S2046x128 .f32) (harg14 : arg14.IsWhole) (arg15 : Memref sig .tc .vmem S2046x128 .f32) (harg15 : arg15.IsWhole) (arg16 : Memref sig .tc .vmem S2046x128 .f32) (harg16 : arg16.IsWhole) (arg17 : Memref sig .tc .vmem S2046x128 .f32) (harg17 : arg17.IsWhole) (arg18 : Memref sig .tc .vmem S2046x128 .f32) (harg18 : arg18.IsWhole) (arg19 : Memref sig .tc .vmem S2046x128 .f32) (harg19 : arg19.IsWhole) (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32)

set_option maxHeartbeats 4000000 in
/-- The high y edges the region leaves. -/
theorem outY2 (r : Fin 2046) (b : Fin 128) :
    out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 (ix2 r b) = decY2 x0 x1 x2 x3 x4 x5 x6 x7 x8 x9 x10 x11 x12 x13 x14 r b := by
  have h : ∀ y, out0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = decY2 x0 x1 x2 x3 x4 x5 x6 x7 x8 x9 x10 x11 x12 x13 x14 (y 0) (y 1) := fun y => by
    unfold out0_A_18
    refine View.read_writes_apply_of_pieces VO0_18 _ (fun y => decY2 x0 x1 x2 x3 x4 x5 x6 x7 x8 x9 x10 x11 x12 x13 x14 (y 0) (y 1)) _ ?_ y (cover0_A_18 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
    unfold kernelRun0_A
    dsimp only
    repeat' refine List.forall_mem_cons.2 ⟨?_, ?_⟩
    all_goals first
      | exact fun _ h => absurd h List.not_mem_nil
      | refine store_of (by decide) _ (decY2 x0 x1 x2 x3 x4 x5 x6 x7 x8 x9 x10 x11 x12 x13 x14) fun i b hr => ?_
        have hi := i.isLt
        sl_unfold_words
        simp only [View.readAt_eq_ld, Memref.IsWhole.read_unread]
        pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]
        unfold decY2
        dsimp only
        repeat first | rw [if_pos (by omega)] | rw [if_neg (by omega)]
        simp only [at2_eq (R := 3072), at2_eq (R := 768), at2_eq (R := 192), at2_eq (R := 48), at2_eq (R := 12), at2_eq (R := 6144), at2_eq (R := 1536), at2_eq (R := 384), at2_eq (R := 96), at2_eq (R := 24), Nat.zero_add]
        refine tileY2_of ?_ ?_
        all_goals (try unfold row); omega
  exact h _

end Cert.Rpn.Ker
end
-- ==== Proof.DecodeS.lean ====
/- The scores the decode region writes: its fifteen stores, one per level and base anchor, are those of Decode.lean. -/
module

public import proofs.«01_k».proof.Proof.Stores
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.Tactic

variable (c : Dev nD) (arg0 : Memref sig .tc .smem S1x3 .f32) (harg0 : arg0.IsWhole) (arg1 : Memref sig .tc .vmem S3072x128 .f32) (harg1 : arg1.IsWhole) (arg2 : Memref sig .tc .vmem S768x128 .f32) (harg2 : arg2.IsWhole) (arg3 : Memref sig .tc .vmem S192x128 .f32) (harg3 : arg3.IsWhole) (arg4 : Memref sig .tc .vmem S48x128 .f32) (harg4 : arg4.IsWhole) (arg5 : Memref sig .tc .vmem S12x128 .f32) (harg5 : arg5.IsWhole) (arg6 : Memref sig .tc .vmem S6144x128 .f32) (harg6 : arg6.IsWhole) (arg7 : Memref sig .tc .vmem S1536x128 .f32) (harg7 : arg7.IsWhole) (arg8 : Memref sig .tc .vmem S384x128 .f32) (harg8 : arg8.IsWhole) (arg9 : Memref sig .tc .vmem S96x128 .f32) (harg9 : arg9.IsWhole) (arg10 : Memref sig .tc .vmem S24x128 .f32) (harg10 : arg10.IsWhole) (arg11 : Memref sig .tc .vmem S2046x128 .f32) (harg11 : arg11.IsWhole) (arg12 : Memref sig .tc .vmem S2046x128 .f32) (harg12 : arg12.IsWhole) (arg13 : Memref sig .tc .vmem S2046x128 .f32) (harg13 : arg13.IsWhole) (arg14 : Memref sig .tc .vmem S2046x128 .f32) (harg14 : arg14.IsWhole) (arg15 : Memref sig .tc .vmem S2046x128 .f32) (harg15 : arg15.IsWhole) (arg16 : Memref sig .tc .vmem S2046x128 .f32) (harg16 : arg16.IsWhole) (arg17 : Memref sig .tc .vmem S2046x128 .f32) (harg17 : arg17.IsWhole) (arg18 : Memref sig .tc .vmem S2046x128 .f32) (harg18 : arg18.IsWhole) (arg19 : Memref sig .tc .vmem S2046x128 .f32) (harg19 : arg19.IsWhole) (x0 : Vec Ideal S1x3 .f32) (x1 : Vec Ideal S3072x128 .f32) (x2 : Vec Ideal S768x128 .f32) (x3 : Vec Ideal S192x128 .f32) (x4 : Vec Ideal S48x128 .f32) (x5 : Vec Ideal S12x128 .f32) (x6 : Vec Ideal S6144x128 .f32) (x7 : Vec Ideal S1536x128 .f32) (x8 : Vec Ideal S384x128 .f32) (x9 : Vec Ideal S96x128 .f32) (x10 : Vec Ideal S24x128 .f32) (x11 : Vec Ideal S2046x128 .f32) (x12 : Vec Ideal S2046x128 .f32) (x13 : Vec Ideal S2046x128 .f32) (x14 : Vec Ideal S2046x128 .f32)

set_option maxHeartbeats 4000000 in
/-- The scores the region leaves. -/
theorem outS (r : Fin 2046) (b : Fin 128) :
    out0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 (ix2 r b) = decS x0 x1 x2 x3 x4 x5 x6 x7 x8 x9 x10 x11 x12 x13 x14 r b := by
  have h : ∀ y, out0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y = decS x0 x1 x2 x3 x4 x5 x6 x7 x8 x9 x10 x11 x12 x13 x14 (y 0) (y 1) := fun y => by
    unfold out0_A_19
    refine View.read_writes_apply_of_pieces VO0_19 _ (fun y => decS x0 x1 x2 x3 x4 x5 x6 x7 x8 x9 x10 x11 x12 x13 x14 (y 0) (y 1)) _ ?_ y (cover0_A_19 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 x14 y)
    unfold kernelRun0_A
    dsimp only
    repeat' refine List.forall_mem_cons.2 ⟨?_, ?_⟩
    all_goals first
      | exact fun _ h => absurd h List.not_mem_nil
      | refine store_of (by decide) _ (decS x0 x1 x2 x3 x4 x5 x6 x7 x8 x9 x10 x11 x12 x13 x14) fun i b hr => ?_
        have hi := i.isLt
        sl_unfold_words
        simp only [View.readAt_eq_ld, Memref.IsWhole.read_unread]
        pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240]
        unfold decS
        dsimp only
        repeat first | rw [if_pos (by omega)] | rw [if_neg (by omega)]
        simp only [at2_eq (R := 3072), at2_eq (R := 768), at2_eq (R := 192), at2_eq (R := 48), at2_eq (R := 12), at2_eq (R := 6144), at2_eq (R := 1536), at2_eq (R := 384), at2_eq (R := 96), at2_eq (R := 24), Nat.zero_add]
        refine tileS_of ?_ ?_ ?_ ?_ ?_
        all_goals (try unfold row); omega
  exact h _

end Cert.Rpn.Ker
end
-- ==== Proof.Region0.lean ====
/- The arrays the decode region leaves, over the contents it is entered with: its one grid point reads and writes whole arrays. -/
module

public import proofs.«01_k».proof.Proof.DecodeX1
public import proofs.«01_k».proof.Proof.DecodeY1
public import proofs.«01_k».proof.Proof.DecodeX2
public import proofs.«01_k».proof.Proof.DecodeY2
public import proofs.«01_k».proof.Proof.DecodeS

@[expose] public section

set_option maxRecDepth 16384

noncomputable section

namespace Cert.Rpn.Ker

open Cert.KernelIdeal Cert.KernelIdeal.Gen
open Idealize.ShloMosaic Idealize.ShloMosaic.TcCoe Idealize.ShloMosaic.Tactic

section Blocks

variable (V : (c : Dev nD) → (b : Ref sig .tc) → Buf (Elt Ideal) ((c : Thread nD τ).loc b)) (c : Dev nD)

/-- The blocks the one grid point reads are the arrays. -/
theorem block0_0 : (iblk0 V c 0 t0_0 : Vec Ideal S1x3 .f32) = V c main_arg10 := by
  funext j
  unfold iblk0
  blk_simp
  refine congrArg (V c main_arg10) (funext fun a => Fin.ext ?_)
  exact Pipeline.Window.rect_emb_val_of_index_zero win0_0 t0_0 a (by revert a; decide +kernel) j

theorem block0_1 : (iblk0 V c 1 t0_0 : Vec Ideal S3072x128 .f32) = V c main_v0 := by
  funext j
  unfold iblk0
  blk_simp
  refine congrArg (V c main_v0) (funext fun a => Fin.ext ?_)
  exact Pipeline.Window.rect_emb_val_of_index_zero win0_1 t0_0 a (by revert a; decide +kernel) j

theorem block0_2 : (iblk0 V c 2 t0_0 : Vec Ideal S768x128 .f32) = V c main_v1 := by
  funext j
  unfold iblk0
  blk_simp
  refine congrArg (V c main_v1) (funext fun a => Fin.ext ?_)
  exact Pipeline.Window.rect_emb_val_of_index_zero win0_2 t0_0 a (by revert a; decide +kernel) j

theorem block0_3 : (iblk0 V c 3 t0_0 : Vec Ideal S192x128 .f32) = V c main_v2 := by
  funext j
  unfold iblk0
  blk_simp
  refine congrArg (V c main_v2) (funext fun a => Fin.ext ?_)
  exact Pipeline.Window.rect_emb_val_of_index_zero win0_3 t0_0 a (by revert a; decide +kernel) j

theorem block0_4 : (iblk0 V c 4 t0_0 : Vec Ideal S48x128 .f32) = V c main_v3 := by
  funext j
  unfold iblk0
  blk_simp
  refine congrArg (V c main_v3) (funext fun a => Fin.ext ?_)
  exact Pipeline.Window.rect_emb_val_of_index_zero win0_4 t0_0 a (by revert a; decide +kernel) j

theorem block0_5 : (iblk0 V c 5 t0_0 : Vec Ideal S12x128 .f32) = V c main_v4 := by
  funext j
  unfold iblk0
  blk_simp
  refine congrArg (V c main_v4) (funext fun a => Fin.ext ?_)
  exact Pipeline.Window.rect_emb_val_of_index_zero win0_5 t0_0 a (by revert a; decide +kernel) j

theorem block0_6 : (iblk0 V c 6 t0_0 : Vec Ideal S6144x128 .f32) = V c main_v5 := by
  funext j
  unfold iblk0
  blk_simp
  refine congrArg (V c main_v5) (funext fun a => Fin.ext ?_)
  exact Pipeline.Window.rect_emb_val_of_index_zero win0_6 t0_0 a (by revert a; decide +kernel) j

theorem block0_7 : (iblk0 V c 7 t0_0 : Vec Ideal S1536x128 .f32) = V c main_v6 := by
  funext j
  unfold iblk0
  blk_simp
  refine congrArg (V c main_v6) (funext fun a => Fin.ext ?_)
  exact Pipeline.Window.rect_emb_val_of_index_zero win0_7 t0_0 a (by revert a; decide +kernel) j

theorem block0_8 : (iblk0 V c 8 t0_0 : Vec Ideal S384x128 .f32) = V c main_v7 := by
  funext j
  unfold iblk0
  blk_simp
  refine congrArg (V c main_v7) (funext fun a => Fin.ext ?_)
  exact Pipeline.Window.rect_emb_val_of_index_zero win0_8 t0_0 a (by revert a; decide +kernel) j

theorem block0_9 : (iblk0 V c 9 t0_0 : Vec Ideal S96x128 .f32) = V c main_v8 := by
  funext j
  unfold iblk0
  blk_simp
  refine congrArg (V c main_v8) (funext fun a => Fin.ext ?_)
  exact Pipeline.Window.rect_emb_val_of_index_zero win0_9 t0_0 a (by revert a; decide +kernel) j

theorem block0_10 : (iblk0 V c 10 t0_0 : Vec Ideal S24x128 .f32) = V c main_v9 := by
  funext j
  unfold iblk0
  blk_simp
  refine congrArg (V c main_v9) (funext fun a => Fin.ext ?_)
  exact Pipeline.Window.rect_emb_val_of_index_zero win0_10 t0_0 a (by revert a; decide +kernel) j

theorem block0_11 : (iblk0 V c 11 t0_0 : Vec Ideal S2046x128 .f32) = V c main_v251 := by
  funext j
  unfold iblk0
  blk_simp
  refine congrArg (V c main_v251) (funext fun a => Fin.ext ?_)
  exact Pipeline.Window.rect_emb_val_of_index_zero win0_11 t0_0 a (by revert a; decide +kernel) j

theorem block0_12 : (iblk0 V c 12 t0_0 : Vec Ideal S2046x128 .f32) = V c main_v253 := by
  funext j
  unfold iblk0
  blk_simp
  refine congrArg (V c main_v253) (funext fun a => Fin.ext ?_)
  exact Pipeline.Window.rect_emb_val_of_index_zero win0_12 t0_0 a (by revert a; decide +kernel) j

theorem block0_13 : (iblk0 V c 13 t0_0 : Vec Ideal S2046x128 .f32) = V c main_v255 := by
  funext j
  unfold iblk0
  blk_simp
  refine congrArg (V c main_v255) (funext fun a => Fin.ext ?_)
  exact Pipeline.Window.rect_emb_val_of_index_zero win0_13 t0_0 a (by revert a; decide +kernel) j

theorem block0_14 : (iblk0 V c 14 t0_0 : Vec Ideal S2046x128 .f32) = V c main_v257 := by
  funext j
  unfold iblk0
  blk_simp
  refine congrArg (V c main_v257) (funext fun a => Fin.ext ?_)
  exact Pipeline.Window.rect_emb_val_of_index_zero win0_14 t0_0 a (by revert a; decide +kernel) j

end Blocks

variable (m : (ℓ : Loc nD τ sig) → Buf (Elt Ideal) ℓ) (ρ : Dev nD → PrngReg) (c : Dev nD) (r : Fin 2046) (b : Fin 128)

/-- Each decoded array at a row and lane. -/
theorem region0_X1 : W2 m ρ c (Proc.devRef .tc main_v258_0) (ix2 r b)
    = decX1 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) r b := by
  have h : W2 m ρ c (Proc.devRef .tc main_v258_0) = fun y => decX1 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) (y 0) (y 1) := by
    refine (W2_arr m ρ c 15).trans ?_
    refine (dat0 (V1 m ρ) c).arrAt_eq_of_after_last 15 t0_0 (by decide +kernel) _ fun (j : S2046x128.Idx) => ?_
    blk_simp
    rw [after0_15]
    obtain ⟨r, b, rfl⟩ : ∃ r b, j = ix2 r b := ⟨j 0, j 1, eq_ix2 j⟩
    unfold outsAt0
    refine (outX1 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (ms0_19 t0_0) (hs0_19 t0_0) (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) r b).trans ?_
    rw [block0_0, block0_1, block0_2, block0_3, block0_4, block0_5, block0_6, block0_7, block0_8, block0_9, block0_10, block0_11, block0_12, block0_13, block0_14]
    rfl
  rw [h]
  rfl

theorem region0_Y1 : W2 m ρ c (Proc.devRef .tc main_v258_1) (ix2 r b)
    = decY1 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) r b := by
  have h : W2 m ρ c (Proc.devRef .tc main_v258_1) = fun y => decY1 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) (y 0) (y 1) := by
    refine (W2_arr m ρ c 16).trans ?_
    refine (dat0 (V1 m ρ) c).arrAt_eq_of_after_last 16 t0_0 (by decide +kernel) _ fun (j : S2046x128.Idx) => ?_
    blk_simp
    rw [after0_16]
    obtain ⟨r, b, rfl⟩ : ∃ r b, j = ix2 r b := ⟨j 0, j 1, eq_ix2 j⟩
    unfold outsAt0
    refine (outY1 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (ms0_19 t0_0) (hs0_19 t0_0) (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) r b).trans ?_
    rw [block0_0, block0_1, block0_2, block0_3, block0_4, block0_5, block0_6, block0_7, block0_8, block0_9, block0_10, block0_11, block0_12, block0_13, block0_14]
    rfl
  rw [h]
  rfl

theorem region0_X2 : W2 m ρ c (Proc.devRef .tc main_v258_2) (ix2 r b)
    = decX2 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) r b := by
  have h : W2 m ρ c (Proc.devRef .tc main_v258_2) = fun y => decX2 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) (y 0) (y 1) := by
    refine (W2_arr m ρ c 17).trans ?_
    refine (dat0 (V1 m ρ) c).arrAt_eq_of_after_last 17 t0_0 (by decide +kernel) _ fun (j : S2046x128.Idx) => ?_
    blk_simp
    rw [after0_17]
    obtain ⟨r, b, rfl⟩ : ∃ r b, j = ix2 r b := ⟨j 0, j 1, eq_ix2 j⟩
    unfold outsAt0
    refine (outX2 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (ms0_19 t0_0) (hs0_19 t0_0) (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) r b).trans ?_
    rw [block0_0, block0_1, block0_2, block0_3, block0_4, block0_5, block0_6, block0_7, block0_8, block0_9, block0_10, block0_11, block0_12, block0_13, block0_14]
    rfl
  rw [h]
  rfl

theorem region0_Y2 : W2 m ρ c (Proc.devRef .tc main_v258_3) (ix2 r b)
    = decY2 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) r b := by
  have h : W2 m ρ c (Proc.devRef .tc main_v258_3) = fun y => decY2 (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) (y 0) (y 1) := by
    refine (W2_arr m ρ c 18).trans ?_
    refine (dat0 (V1 m ρ) c).arrAt_eq_of_after_last 18 t0_0 (by decide +kernel) _ fun (j : S2046x128.Idx) => ?_
    blk_simp
    rw [after0_18]
    obtain ⟨r, b, rfl⟩ : ∃ r b, j = ix2 r b := ⟨j 0, j 1, eq_ix2 j⟩
    unfold outsAt0
    refine (outY2 c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (ms0_19 t0_0) (hs0_19 t0_0) (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) r b).trans ?_
    rw [block0_0, block0_1, block0_2, block0_3, block0_4, block0_5, block0_6, block0_7, block0_8, block0_9, block0_10, block0_11, block0_12, block0_13, block0_14]
    rfl
  rw [h]
  rfl

theorem region0_S : W2 m ρ c (Proc.devRef .tc main_v258_4) (ix2 r b)
    = decS (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) r b := by
  have h : W2 m ρ c (Proc.devRef .tc main_v258_4) = fun y => decS (W1 m ρ c (Proc.devRef .tc main_arg10)) (W1 m ρ c (Proc.devRef .tc main_v0)) (W1 m ρ c (Proc.devRef .tc main_v1)) (W1 m ρ c (Proc.devRef .tc main_v2)) (W1 m ρ c (Proc.devRef .tc main_v3)) (W1 m ρ c (Proc.devRef .tc main_v4)) (W1 m ρ c (Proc.devRef .tc main_v5)) (W1 m ρ c (Proc.devRef .tc main_v6)) (W1 m ρ c (Proc.devRef .tc main_v7)) (W1 m ρ c (Proc.devRef .tc main_v8)) (W1 m ρ c (Proc.devRef .tc main_v9)) (W1 m ρ c (Proc.devRef .tc main_v251)) (W1 m ρ c (Proc.devRef .tc main_v253)) (W1 m ρ c (Proc.devRef .tc main_v255)) (W1 m ρ c (Proc.devRef .tc main_v257)) (y 0) (y 1) := by
    refine (W2_arr m ρ c 19).trans ?_
    refine (dat0 (V1 m ρ) c).arrAt_eq_of_after_last 19 t0_0 (by decide +kernel) _ fun (j : S2046x128.Idx) => ?_
    blk_simp
    rw [after0_19]
    obtain ⟨r, b, rfl⟩ : ∃ r b, j = ix2 r b := ⟨j 0, j 1, eq_ix2 j⟩
    unfold outsAt0
    refine (outS c (ms0_0 t0_0) (hs0_0 t0_0) (ms0_1 t0_0) (hs0_1 t0_0) (ms0_2 t0_0) (hs0_2 t0_0) (ms0_3 t0_0) (hs0_3 t0_0) (ms0_4 t0_0) (hs0_4 t0_0) (ms0_5 t0_0) (hs0_5 t0_0) (ms0_6 t0_0) (hs0_6 t0_0) (ms0_7 t0_0) (hs0_7 t0_0) (ms0_8 t0_0) (hs0_8 t0_0) (ms0_9 t0_0) (hs0_9 t0_0) (ms0_10 t0_0) (hs0_10 t0_0) (ms0_11 t0_0) (hs0_11 t0_0) (ms0_12 t0_0) (hs0_12 t0_0) (ms0_13 t0_0) (hs0_13 t0_0) (ms0_14 t0_0) (hs0_14 t0_0) (ms0_15 t0_0) (hs0_15 t0_0) (ms0_16 t0_0) (hs0_16 t0_0) (ms0_17 t0_0) (hs0_17 t0_0) (ms0_18 t0_0) (hs0_18 t0_0) (ms0_19 t0_0) (hs0_19 t0_0) (iblk0 (V1 m ρ) c 0 t0_0) (iblk0 (V1 m ρ) c 1 t0_0) (iblk0 (V1 m ρ) c 2 t0_0) (iblk0 (V1 m ρ) c 3 t0_0) (iblk0 (V1 m ρ) c 4 t0_0) (iblk0 (V1 m ρ) c 5 t0_0) (iblk0 (V1 m ρ) c 6 t0_0) (iblk0 (V1 m ρ) c 7 t0_0) (iblk0 (V1 m ρ) c 8 t0_0) (iblk0 (V1 m ρ) c 9 t0_0) (iblk0 (V1 m ρ) c 10 t0_0) (iblk0 (V1 m ρ) c 11 t0_0) (iblk0 (V1 m ρ) c 12 t0_0) (iblk0 (V1 m ρ) c 13 t0_0) (iblk0 (V1 m ρ) c 14 t0_0) r b).trans ?_
    rw [block0_0, block0_1, block0_2, block0_3, block0_4, block0_5, block0_6, block0_7, block0_8, block0_9, block0_10, block0_11, block0_12, block0_13, block0_14]
    rfl
  rw [h]
  rfl

end Cert.Rpn.Ker
end
-- ==== Proof.Tile.lean ====
/- The decoded tile's scalars from the scalars they read. -/
module

public import proofs.«01_k».proof.Proof.Decode

@[expose] public section

noncomputable section

namespace Cert.Rpn.Ker

open Cert.KernelIdeal
open Idealize.ShloMosaic

section Congr

variable {R R' : ℕ} [NeZero R] [NeZero R'] {im : Vec Ideal S1x3 .f32} {bb : Vec Ideal ⟨2, ![R, 128]⟩ .f32} {cls : Vec Ideal ⟨2, ![R', 128]⟩ .f32}
  {n u : ℕ} {b : Fin 128} {w h cx cy M D E W C X₁ Y₁ X₂ Y₂ S : Ideal .f32}

theorem tileX1_congr (hm : im (ix2 0 1) = M) (hd : at2 bb (row n 0 u) b = D) (he : at2 bb (row n 2 u) b = E) (hw : w = W) (hc : cx = C) :
    tileX1 im bb n u b w cx = lo M D E W C := by
  unfold tileX1; rw [hm, hd, he, hw, hc]

theorem tileY1_congr (hm : im (ix2 0 0) = M) (hd : at2 bb (row n 1 u) b = D) (he : at2 bb (row n 3 u) b = E) (hw : h = W) (hc : cy = C) :
    tileY1 im bb n u b h cy = lo M D E W C := by
  unfold tileY1; rw [hm, hd, he, hw, hc]

theorem tileX2_congr (hm : im (ix2 0 1) = M) (hd : at2 bb (row n 0 u) b = D) (he : at2 bb (row n 2 u) b = E) (hw : w = W) (hc : cx = C) :
    tileX2 im bb n u b w cx = hi M D E W C := by
  unfold tileX2; rw [hm, hd, he, hw, hc]

theorem tileY2_congr (hm : im (ix2 0 0) = M) (hd : at2 bb (row n 1 u) b = D) (he : at2 bb (row n 3 u) b = E) (hw : h = W) (hc : cy = C) :
    tileY2 im bb n u b h cy = hi M D E W C := by
  unfold tileY2; rw [hm, hd, he, hw, hc]

theorem tileS_congr (h₁ : tileX1 im bb n u b w cx = X₁) (h₂ : tileY1 im bb n u b h cy = Y₁) (h₃ : tileX2 im bb n u b w cx = X₂)
    (h₄ : tileY2 im bb n u b h cy = Y₂) (h₅ : at2 cls (3 * n + u) b = S) : tileS im bb cls n u b w h cx cy = score X₁ Y₁ X₂ Y₂ S := by
  unfold tileS; rw [h₁, h₂, h₃, h₄, h₅]

end Congr

end Cert.Rpn.Ker
end
-- ==== Proof.KerTable0.lean ====
/- Level 0 of the host tables the decode region reads: anchor sizes and centres by plane position, and the two heads. -/
module

public import proofs.«01_k».proof.Proof.Decode
public import proofs.«01_k».proof.Proof.Gen.KernelIdeal.Launch
public import Idealize.ShloMosaic.Lib.StableHlo.ReadAt

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (V : Valuation τ sig (Elt Ideal))

/-- The widths of level 0's anchors. -/
theorem wT_level0 (r : Fin 2046) (b : Fin 128) (k : ℕ) (hk : r.val * 128 + b.val = k) (hk' : k < 196608) :
    after hostOps0 V (Proc.devRef .tc main_v251) (ix2 r b) = wd lit0 (k / 65536) 0 (shift 1082130432#32 (k % 256)) := by
  after_reads_at
  rw [dif_pos (by omega)]
  have e : r.val * 128 + b.val = k := by omega
  simp only [e]
  obtain ⟨q, rfl⟩ : ∃ q : Fin 196608, k = q.val := ⟨⟨k, hk'⟩, rfl⟩
  simp only [Fin.eta]
  clear hk' e hk
  after_reads_at
  simp only [base_eq]
  rfl

/-- The heights of level 0's anchors. -/
theorem hT_level0 (r : Fin 2046) (b : Fin 128) (k : ℕ) (hk : r.val * 128 + b.val = k) (hk' : k < 196608) :
    after hostOps0 V (Proc.devRef .tc main_v253) (ix2 r b) = wd lit0 (k / 65536) 1 (shift 1082130432#32 (k / 256 % 256)) := by
  after_reads_at
  rw [dif_pos (by omega)]
  have e : r.val * 128 + b.val = k := by omega
  simp only [e]
  obtain ⟨q, rfl⟩ : ∃ q : Fin 196608, k = q.val := ⟨⟨k, hk'⟩, rfl⟩
  simp only [Fin.eta]
  clear hk' e hk
  after_reads_at
  simp only [base_eq]
  rfl

/-- The centres in x of level 0's anchors. -/
theorem xT_level0 (r : Fin 2046) (b : Fin 128) (k : ℕ) (hk : r.val * 128 + b.val = k) (hk' : k < 196608) :
    after hostOps0 V (Proc.devRef .tc main_v255) (ix2 r b) = ct lit0 (k / 65536) 0 (shift 1082130432#32 (k % 256)) := by
  after_reads_at
  rw [dif_pos (by omega)]
  have e : r.val * 128 + b.val = k := by omega
  simp only [e]
  obtain ⟨q, rfl⟩ : ∃ q : Fin 196608, k = q.val := ⟨⟨k, hk'⟩, rfl⟩
  simp only [Fin.eta]
  clear hk' e hk
  after_reads_at
  simp only [base_eq]
  rfl

/-- The centres in y of level 0's anchors. -/
theorem yT_level0 (r : Fin 2046) (b : Fin 128) (k : ℕ) (hk : r.val * 128 + b.val = k) (hk' : k < 196608) :
    after hostOps0 V (Proc.devRef .tc main_v257) (ix2 r b) = ct lit0 (k / 65536) 1 (shift 1082130432#32 (k / 256 % 256)) := by
  after_reads_at
  rw [dif_pos (by omega)]
  have e : r.val * 128 + b.val = k := by omega
  simp only [e]
  obtain ⟨q, rfl⟩ : ∃ q : Fin 196608, k = q.val := ⟨⟨k, hk'⟩, rfl⟩
  simp only [Fin.eta]
  clear hk' e hk
  after_reads_at
  simp only [base_eq]
  rfl

/-- Level 0's deltas, read as planes of rows. -/
theorem bb_level0 (r : ℕ) (hr : r < 6144) (b : Fin 128) : at2 (R := 6144) (after hostOps0 V (Proc.devRef .tc main_v5)) r b
    = px (C := 12) (s := 256) (V (Proc.devRef .tc main_arg5)) ((r * 128 + b.val) / 65536) ((r * 128 + b.val) / 256 % 256) ((r * 128 + b.val) % 256) := by
  obtain ⟨q, rfl⟩ : ∃ q : Fin 6144, r = q.val := ⟨⟨r, hr⟩, rfl⟩
  rw [← at2_eq (R := 6144)]
  after_reads_at
  simp only [px_eq (C := 12) (s := 256)]
  have hb := b.isLt
  congr 1 <;> omega

/-- Level 0's scores, read as planes of rows. -/
theorem cls_level0 (r : ℕ) (hr : r < 3072) (b : Fin 128) : at2 (R := 3072) (after hostOps0 V (Proc.devRef .tc main_v0)) r b
    = px (C := 6) (s := 256) (V (Proc.devRef .tc main_arg0)) ((r * 128 + b.val) / 65536) ((r * 128 + b.val) / 256 % 256) ((r * 128 + b.val) % 256) := by
  obtain ⟨q, rfl⟩ : ∃ q : Fin 3072, r = q.val := ⟨⟨r, hr⟩, rfl⟩
  rw [← at2_eq (R := 3072)]
  after_reads_at
  simp only [px_eq (C := 6) (s := 256)]
  have hb := b.isLt
  congr 1 <;> omega

end Cert.Rpn.Ker
end
-- ==== Proof.KerLevel0.lean ====
/- Level 0 of the decoded arrays: each holds the level's boxes and scores, anchor by anchor, row by row. -/
module

public import proofs.«01_k».proof.Proof.Region0
public import proofs.«01_k».proof.Proof.Tile
public import proofs.«01_k».proof.Proof.KerTable0

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- A delta of level 0 at an output row. -/
theorem delta_level0 (u k j ch : ℕ) (b : Fin 128) (hk : u * 128 + b.val = k) (hk' : k < 196608) (hj : j < 4) (hc : ch = k / 65536 * 4 + j) :
    at2 (R := 6144) (W1 m ρ c (Proc.devRef .tc main_v5)) (row 512 j u) b
      = px (C := 12) (s := 256) (W0 m ρ c (Proc.devRef .tc main_arg5)) ch (k / 256 % 256) (k % 256) := by
  have hb := b.isLt
  refine (bb_level0 (W0 m ρ c) (row 512 j u) (by unfold row; omega) b).trans ?_
  congr 1 <;> (unfold row; omega)

/-- A class score of level 0 at an output row. -/
theorem clsc_level0 (u k : ℕ) (b : Fin 128) (hk : u * 128 + b.val = k) (hk' : k < 196608) :
    at2 (R := 3072) (W1 m ρ c (Proc.devRef .tc main_v0)) (3 * 512 + u) b
      = px (C := 6) (s := 256) (W0 m ρ c (Proc.devRef .tc main_arg0)) (3 + k / 65536) (k / 256 % 256) (k % 256) := by
  have hb := b.isLt
  refine (cls_level0 (W0 m ρ c) (3 * 512 + u) (by omega) b).trans ?_
  congr 1 <;> omega

theorem image_level0 : W1 m ρ c (Proc.devRef .tc main_arg10) = W0 m ρ c (Proc.devRef .tc main_arg10) :=
  W1_of m ρ c main_arg10 (by decide)

variable (r : Fin 2046) (b : Fin 128) (k : ℕ) (hk : r.val * 128 + b.val = k) (hk' : k < 196608)
include hk hk'

theorem x1_level0 : W2 m ρ c (Proc.devRef .tc main_v258_0) (ix2 r b)
    = x1 (s := 256) (W0 m ρ c (Proc.devRef .tc main_arg5)) (W0 m ρ c (Proc.devRef .tc main_arg10)) lit0 1082130432#32 (k / 65536) (k / 256 % 256) (k % 256) := by
  have hb := b.isLt
  refine (region0_X1 m ρ c r b).trans ?_
  unfold decX1
  rw [if_pos (by omega)]
  exact tileX1_congr (congrFun (image_level0 m ρ c) (ix2 0 1)) (delta_level0 m ρ c r.val k 0 _ b (by omega) hk' (by omega) rfl) (delta_level0 m ρ c r.val k 2 _ b (by omega) hk' (by omega) rfl) (wT_level0 (W0 m ρ c) r b k hk hk') (xT_level0 (W0 m ρ c) r b k hk hk')

theorem y1_level0 : W2 m ρ c (Proc.devRef .tc main_v258_1) (ix2 r b)
    = y1 (s := 256) (W0 m ρ c (Proc.devRef .tc main_arg5)) (W0 m ρ c (Proc.devRef .tc main_arg10)) lit0 1082130432#32 (k / 65536) (k / 256 % 256) (k % 256) := by
  have hb := b.isLt
  refine (region0_Y1 m ρ c r b).trans ?_
  unfold decY1
  rw [if_pos (by omega)]
  exact tileY1_congr (congrFun (image_level0 m ρ c) (ix2 0 0)) (delta_level0 m ρ c r.val k 1 _ b (by omega) hk' (by omega) rfl) (delta_level0 m ρ c r.val k 3 _ b (by omega) hk' (by omega) rfl) (hT_level0 (W0 m ρ c) r b k hk hk') (yT_level0 (W0 m ρ c) r b k hk hk')

theorem x2_level0 : W2 m ρ c (Proc.devRef .tc main_v258_2) (ix2 r b)
    = x2 (s := 256) (W0 m ρ c (Proc.devRef .tc main_arg5)) (W0 m ρ c (Proc.devRef .tc main_arg10)) lit0 1082130432#32 (k / 65536) (k / 256 % 256) (k % 256) := by
  have hb := b.isLt
  refine (region0_X2 m ρ c r b).trans ?_
  unfold decX2
  rw [if_pos (by omega)]
  exact tileX2_congr (congrFun (image_level0 m ρ c) (ix2 0 1)) (delta_level0 m ρ c r.val k 0 _ b (by omega) hk' (by omega) rfl) (delta_level0 m ρ c r.val k 2 _ b (by omega) hk' (by omega) rfl) (wT_level0 (W0 m ρ c) r b k hk hk') (xT_level0 (W0 m ρ c) r b k hk hk')

theorem y2_level0 : W2 m ρ c (Proc.devRef .tc main_v258_3) (ix2 r b)
    = y2 (s := 256) (W0 m ρ c (Proc.devRef .tc main_arg5)) (W0 m ρ c (Proc.devRef .tc main_arg10)) lit0 1082130432#32 (k / 65536) (k / 256 % 256) (k % 256) := by
  have hb := b.isLt
  refine (region0_Y2 m ρ c r b).trans ?_
  unfold decY2
  rw [if_pos (by omega)]
  exact tileY2_congr (congrFun (image_level0 m ρ c) (ix2 0 0)) (delta_level0 m ρ c r.val k 1 _ b (by omega) hk' (by omega) rfl) (delta_level0 m ρ c r.val k 3 _ b (by omega) hk' (by omega) rfl) (hT_level0 (W0 m ρ c) r b k hk hk') (yT_level0 (W0 m ρ c) r b k hk hk')

theorem sc_level0 : W2 m ρ c (Proc.devRef .tc main_v258_4) (ix2 r b)
    = sc (s := 256) (W0 m ρ c (Proc.devRef .tc main_arg5)) (W0 m ρ c (Proc.devRef .tc main_arg0)) (W0 m ρ c (Proc.devRef .tc main_arg10)) lit0 1082130432#32 (k / 65536) (k / 256 % 256) (k % 256) := by
  have hb := b.isLt
  refine (region0_S m ρ c r b).trans ?_
  unfold decS
  rw [if_pos (by omega)]
  exact tileS_congr (tileX1_congr (congrFun (image_level0 m ρ c) (ix2 0 1)) (delta_level0 m ρ c r.val k 0 _ b (by omega) hk' (by omega) rfl) (delta_level0 m ρ c r.val k 2 _ b (by omega) hk' (by omega) rfl) (wT_level0 (W0 m ρ c) r b k hk hk') (xT_level0 (W0 m ρ c) r b k hk hk')) (tileY1_congr (congrFun (image_level0 m ρ c) (ix2 0 0)) (delta_level0 m ρ c r.val k 1 _ b (by omega) hk' (by omega) rfl) (delta_level0 m ρ c r.val k 3 _ b (by omega) hk' (by omega) rfl) (hT_level0 (W0 m ρ c) r b k hk hk') (yT_level0 (W0 m ρ c) r b k hk hk')) (tileX2_congr (congrFun (image_level0 m ρ c) (ix2 0 1)) (delta_level0 m ρ c r.val k 0 _ b (by omega) hk' (by omega) rfl) (delta_level0 m ρ c r.val k 2 _ b (by omega) hk' (by omega) rfl) (wT_level0 (W0 m ρ c) r b k hk hk') (xT_level0 (W0 m ρ c) r b k hk hk')) (tileY2_congr (congrFun (image_level0 m ρ c) (ix2 0 0)) (delta_level0 m ρ c r.val k 1 _ b (by omega) hk' (by omega) rfl) (delta_level0 m ρ c r.val k 3 _ b (by omega) hk' (by omega) rfl) (hT_level0 (W0 m ρ c) r b k hk hk') (yT_level0 (W0 m ρ c) r b k hk hk')) (clsc_level0 m ρ c r.val k b (by omega) hk')

end Cert.Rpn.Ker
end
-- ==== Proof.KerTable1.lean ====
/- Level 1 of the host tables the decode region reads: anchor sizes and centres by plane position, and the two heads. -/
module

public import proofs.«01_k».proof.Proof.Decode
public import proofs.«01_k».proof.Proof.Gen.KernelIdeal.Launch
public import Idealize.ShloMosaic.Lib.StableHlo.ReadAt

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (V : Valuation τ sig (Elt Ideal))

/-- The widths of level 1's anchors. -/
theorem wT_level1 (r : Fin 2046) (b : Fin 128) (k : ℕ) (hk : r.val * 128 + b.val = 196608 + k) (hk' : k < 49152) :
    after hostOps0 V (Proc.devRef .tc main_v251) (ix2 r b) = wd lit1 (k / 16384) 0 (shift 1090519040#32 (k % 128)) := by
  after_reads_at
  rw [dif_neg (by omega), dif_pos (by omega)]
  have e : r.val * 128 + b.val - 196608 = k := by omega
  simp only [e]
  obtain ⟨q, rfl⟩ : ∃ q : Fin 49152, k = q.val := ⟨⟨k, hk'⟩, rfl⟩
  simp only [Fin.eta]
  clear hk' e hk
  after_reads_at
  simp only [base_eq]
  rfl

/-- The heights of level 1's anchors. -/
theorem hT_level1 (r : Fin 2046) (b : Fin 128) (k : ℕ) (hk : r.val * 128 + b.val = 196608 + k) (hk' : k < 49152) :
    after hostOps0 V (Proc.devRef .tc main_v253) (ix2 r b) = wd lit1 (k / 16384) 1 (shift 1090519040#32 (k / 128 % 128)) := by
  after_reads_at
  rw [dif_neg (by omega), dif_pos (by omega)]
  have e : r.val * 128 + b.val - 196608 = k := by omega
  simp only [e]
  obtain ⟨q, rfl⟩ : ∃ q : Fin 49152, k = q.val := ⟨⟨k, hk'⟩, rfl⟩
  simp only [Fin.eta]
  clear hk' e hk
  after_reads_at
  simp only [base_eq]
  rfl

/-- The centres in x of level 1's anchors. -/
theorem xT_level1 (r : Fin 2046) (b : Fin 128) (k : ℕ) (hk : r.val * 128 + b.val = 196608 + k) (hk' : k < 49152) :
    after hostOps0 V (Proc.devRef .tc main_v255) (ix2 r b) = ct lit1 (k / 16384) 0 (shift 1090519040#32 (k % 128)) := by
  after_reads_at
  rw [dif_neg (by omega), dif_pos (by omega)]
  have e : r.val * 128 + b.val - 196608 = k := by omega
  simp only [e]
  obtain ⟨q, rfl⟩ : ∃ q : Fin 49152, k = q.val := ⟨⟨k, hk'⟩, rfl⟩
  simp only [Fin.eta]
  clear hk' e hk
  after_reads_at
  simp only [base_eq]
  rfl

/-- The centres in y of level 1's anchors. -/
theorem yT_level1 (r : Fin 2046) (b : Fin 128) (k : ℕ) (hk : r.val * 128 + b.val = 196608 + k) (hk' : k < 49152) :
    after hostOps0 V (Proc.devRef .tc main_v257) (ix2 r b) = ct lit1 (k / 16384) 1 (shift 1090519040#32 (k / 128 % 128)) := by
  after_reads_at
  rw [dif_neg (by omega), dif_pos (by omega)]
  have e : r.val * 128 + b.val - 196608 = k := by omega
  simp only [e]
  obtain ⟨q, rfl⟩ : ∃ q : Fin 49152, k = q.val := ⟨⟨k, hk'⟩, rfl⟩
  simp only [Fin.eta]
  clear hk' e hk
  after_reads_at
  simp only [base_eq]
  rfl

/-- Level 1's deltas, read as planes of rows. -/
theorem bb_level1 (r : ℕ) (hr : r < 1536) (b : Fin 128) : at2 (R := 1536) (after hostOps0 V (Proc.devRef .tc main_v6)) r b
    = px (C := 12) (s := 128) (V (Proc.devRef .tc main_arg6)) ((r * 128 + b.val) / 16384) ((r * 128 + b.val) / 128 % 128) ((r * 128 + b.val) % 128) := by
  obtain ⟨q, rfl⟩ : ∃ q : Fin 1536, r = q.val := ⟨⟨r, hr⟩, rfl⟩
  rw [← at2_eq (R := 1536)]
  after_reads_at
  simp only [px_eq (C := 12) (s := 128)]
  have hb := b.isLt
  congr 1 <;> omega

/-- Level 1's scores, read as planes of rows. -/
theorem cls_level1 (r : ℕ) (hr : r < 768) (b : Fin 128) : at2 (R := 768) (after hostOps0 V (Proc.devRef .tc main_v1)) r b
    = px (C := 6) (s := 128) (V (Proc.devRef .tc main_arg1)) ((r * 128 + b.val) / 16384) ((r * 128 + b.val) / 128 % 128) ((r * 128 + b.val) % 128) := by
  obtain ⟨q, rfl⟩ : ∃ q : Fin 768, r = q.val := ⟨⟨r, hr⟩, rfl⟩
  rw [← at2_eq (R := 768)]
  after_reads_at
  simp only [px_eq (C := 6) (s := 128)]
  have hb := b.isLt
  congr 1 <;> omega

end Cert.Rpn.Ker
end
-- ==== Proof.KerLevel1.lean ====
/- Level 1 of the decoded arrays: each holds the level's boxes and scores, anchor by anchor, row by row. -/
module

public import proofs.«01_k».proof.Proof.Region0
public import proofs.«01_k».proof.Proof.Tile
public import proofs.«01_k».proof.Proof.KerTable1

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- A delta of level 1 at an output row. -/
theorem delta_level1 (u k j ch : ℕ) (b : Fin 128) (hk : u * 128 + b.val = k) (hk' : k < 49152) (hj : j < 4) (hc : ch = k / 16384 * 4 + j) :
    at2 (R := 1536) (W1 m ρ c (Proc.devRef .tc main_v6)) (row 128 j u) b
      = px (C := 12) (s := 128) (W0 m ρ c (Proc.devRef .tc main_arg6)) ch (k / 128 % 128) (k % 128) := by
  have hb := b.isLt
  refine (bb_level1 (W0 m ρ c) (row 128 j u) (by unfold row; omega) b).trans ?_
  congr 1 <;> (unfold row; omega)

/-- A class score of level 1 at an output row. -/
theorem clsc_level1 (u k : ℕ) (b : Fin 128) (hk : u * 128 + b.val = k) (hk' : k < 49152) :
    at2 (R := 768) (W1 m ρ c (Proc.devRef .tc main_v1)) (3 * 128 + u) b
      = px (C := 6) (s := 128) (W0 m ρ c (Proc.devRef .tc main_arg1)) (3 + k / 16384) (k / 128 % 128) (k % 128) := by
  have hb := b.isLt
  refine (cls_level1 (W0 m ρ c) (3 * 128 + u) (by omega) b).trans ?_
  congr 1 <;> omega

theorem image_level1 : W1 m ρ c (Proc.devRef .tc main_arg10) = W0 m ρ c (Proc.devRef .tc main_arg10) :=
  W1_of m ρ c main_arg10 (by decide)

variable (r : Fin 2046) (b : Fin 128) (k : ℕ) (hk : r.val * 128 + b.val = 196608 + k) (hk' : k < 49152)
include hk hk'

theorem x1_level1 : W2 m ρ c (Proc.devRef .tc main_v258_0) (ix2 r b)
    = x1 (s := 128) (W0 m ρ c (Proc.devRef .tc main_arg6)) (W0 m ρ c (Proc.devRef .tc main_arg10)) lit1 1090519040#32 (k / 16384) (k / 128 % 128) (k % 128) := by
  have hb := b.isLt
  refine (region0_X1 m ρ c r b).trans ?_
  unfold decX1
  rw [if_neg (by omega), if_pos (by omega)]
  exact tileX1_congr (congrFun (image_level1 m ρ c) (ix2 0 1)) (delta_level1 m ρ c (r.val - 1536) k 0 _ b (by omega) hk' (by omega) rfl) (delta_level1 m ρ c (r.val - 1536) k 2 _ b (by omega) hk' (by omega) rfl) (wT_level1 (W0 m ρ c) r b k hk hk') (xT_level1 (W0 m ρ c) r b k hk hk')

theorem y1_level1 : W2 m ρ c (Proc.devRef .tc main_v258_1) (ix2 r b)
    = y1 (s := 128) (W0 m ρ c (Proc.devRef .tc main_arg6)) (W0 m ρ c (Proc.devRef .tc main_arg10)) lit1 1090519040#32 (k / 16384) (k / 128 % 128) (k % 128) := by
  have hb := b.isLt
  refine (region0_Y1 m ρ c r b).trans ?_
  unfold decY1
  rw [if_neg (by omega), if_pos (by omega)]
  exact tileY1_congr (congrFun (image_level1 m ρ c) (ix2 0 0)) (delta_level1 m ρ c (r.val - 1536) k 1 _ b (by omega) hk' (by omega) rfl) (delta_level1 m ρ c (r.val - 1536) k 3 _ b (by omega) hk' (by omega) rfl) (hT_level1 (W0 m ρ c) r b k hk hk') (yT_level1 (W0 m ρ c) r b k hk hk')

theorem x2_level1 : W2 m ρ c (Proc.devRef .tc main_v258_2) (ix2 r b)
    = x2 (s := 128) (W0 m ρ c (Proc.devRef .tc main_arg6)) (W0 m ρ c (Proc.devRef .tc main_arg10)) lit1 1090519040#32 (k / 16384) (k / 128 % 128) (k % 128) := by
  have hb := b.isLt
  refine (region0_X2 m ρ c r b).trans ?_
  unfold decX2
  rw [if_neg (by omega), if_pos (by omega)]
  exact tileX2_congr (congrFun (image_level1 m ρ c) (ix2 0 1)) (delta_level1 m ρ c (r.val - 1536) k 0 _ b (by omega) hk' (by omega) rfl) (delta_level1 m ρ c (r.val - 1536) k 2 _ b (by omega) hk' (by omega) rfl) (wT_level1 (W0 m ρ c) r b k hk hk') (xT_level1 (W0 m ρ c) r b k hk hk')

theorem y2_level1 : W2 m ρ c (Proc.devRef .tc main_v258_3) (ix2 r b)
    = y2 (s := 128) (W0 m ρ c (Proc.devRef .tc main_arg6)) (W0 m ρ c (Proc.devRef .tc main_arg10)) lit1 1090519040#32 (k / 16384) (k / 128 % 128) (k % 128) := by
  have hb := b.isLt
  refine (region0_Y2 m ρ c r b).trans ?_
  unfold decY2
  rw [if_neg (by omega), if_pos (by omega)]
  exact tileY2_congr (congrFun (image_level1 m ρ c) (ix2 0 0)) (delta_level1 m ρ c (r.val - 1536) k 1 _ b (by omega) hk' (by omega) rfl) (delta_level1 m ρ c (r.val - 1536) k 3 _ b (by omega) hk' (by omega) rfl) (hT_level1 (W0 m ρ c) r b k hk hk') (yT_level1 (W0 m ρ c) r b k hk hk')

theorem sc_level1 : W2 m ρ c (Proc.devRef .tc main_v258_4) (ix2 r b)
    = sc (s := 128) (W0 m ρ c (Proc.devRef .tc main_arg6)) (W0 m ρ c (Proc.devRef .tc main_arg1)) (W0 m ρ c (Proc.devRef .tc main_arg10)) lit1 1090519040#32 (k / 16384) (k / 128 % 128) (k % 128) := by
  have hb := b.isLt
  refine (region0_S m ρ c r b).trans ?_
  unfold decS
  rw [if_neg (by omega), if_pos (by omega)]
  exact tileS_congr (tileX1_congr (congrFun (image_level1 m ρ c) (ix2 0 1)) (delta_level1 m ρ c (r.val - 1536) k 0 _ b (by omega) hk' (by omega) rfl) (delta_level1 m ρ c (r.val - 1536) k 2 _ b (by omega) hk' (by omega) rfl) (wT_level1 (W0 m ρ c) r b k hk hk') (xT_level1 (W0 m ρ c) r b k hk hk')) (tileY1_congr (congrFun (image_level1 m ρ c) (ix2 0 0)) (delta_level1 m ρ c (r.val - 1536) k 1 _ b (by omega) hk' (by omega) rfl) (delta_level1 m ρ c (r.val - 1536) k 3 _ b (by omega) hk' (by omega) rfl) (hT_level1 (W0 m ρ c) r b k hk hk') (yT_level1 (W0 m ρ c) r b k hk hk')) (tileX2_congr (congrFun (image_level1 m ρ c) (ix2 0 1)) (delta_level1 m ρ c (r.val - 1536) k 0 _ b (by omega) hk' (by omega) rfl) (delta_level1 m ρ c (r.val - 1536) k 2 _ b (by omega) hk' (by omega) rfl) (wT_level1 (W0 m ρ c) r b k hk hk') (xT_level1 (W0 m ρ c) r b k hk hk')) (tileY2_congr (congrFun (image_level1 m ρ c) (ix2 0 0)) (delta_level1 m ρ c (r.val - 1536) k 1 _ b (by omega) hk' (by omega) rfl) (delta_level1 m ρ c (r.val - 1536) k 3 _ b (by omega) hk' (by omega) rfl) (hT_level1 (W0 m ρ c) r b k hk hk') (yT_level1 (W0 m ρ c) r b k hk hk')) (clsc_level1 m ρ c (r.val - 1536) k b (by omega) hk')

end Cert.Rpn.Ker
end
-- ==== Proof.KerTable2.lean ====
/- Level 2 of the host tables the decode region reads: anchor sizes and centres by plane position, and the two heads. -/
module

public import proofs.«01_k».proof.Proof.Decode
public import proofs.«01_k».proof.Proof.Gen.KernelIdeal.Launch
public import Idealize.ShloMosaic.Lib.StableHlo.ReadAt

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (V : Valuation τ sig (Elt Ideal))

/-- The widths of level 2's anchors. -/
theorem wT_level2 (r : Fin 2046) (b : Fin 128) (k : ℕ) (hk : r.val * 128 + b.val = 245760 + k) (hk' : k < 12288) :
    after hostOps0 V (Proc.devRef .tc main_v251) (ix2 r b) = wd lit2 (k / 4096) 0 (shift 1098907648#32 (k % 64)) := by
  after_reads_at
  rw [dif_neg (by omega), dif_neg (by omega), dif_pos (by omega)]
  have e : r.val * 128 + b.val - 196608 - 49152 = k := by omega
  simp only [e]
  obtain ⟨q, rfl⟩ : ∃ q : Fin 12288, k = q.val := ⟨⟨k, hk'⟩, rfl⟩
  simp only [Fin.eta]
  clear hk' e hk
  after_reads_at
  simp only [base_eq]
  rfl

/-- The heights of level 2's anchors. -/
theorem hT_level2 (r : Fin 2046) (b : Fin 128) (k : ℕ) (hk : r.val * 128 + b.val = 245760 + k) (hk' : k < 12288) :
    after hostOps0 V (Proc.devRef .tc main_v253) (ix2 r b) = wd lit2 (k / 4096) 1 (shift 1098907648#32 (k / 64 % 64)) := by
  after_reads_at
  rw [dif_neg (by omega), dif_neg (by omega), dif_pos (by omega)]
  have e : r.val * 128 + b.val - 196608 - 49152 = k := by omega
  simp only [e]
  obtain ⟨q, rfl⟩ : ∃ q : Fin 12288, k = q.val := ⟨⟨k, hk'⟩, rfl⟩
  simp only [Fin.eta]
  clear hk' e hk
  after_reads_at
  simp only [base_eq]
  rfl

/-- The centres in x of level 2's anchors. -/
theorem xT_level2 (r : Fin 2046) (b : Fin 128) (k : ℕ) (hk : r.val * 128 + b.val = 245760 + k) (hk' : k < 12288) :
    after hostOps0 V (Proc.devRef .tc main_v255) (ix2 r b) = ct lit2 (k / 4096) 0 (shift 1098907648#32 (k % 64)) := by
  after_reads_at
  rw [dif_neg (by omega), dif_neg (by omega), dif_pos (by omega)]
  have e : r.val * 128 + b.val - 196608 - 49152 = k := by omega
  simp only [e]
  obtain ⟨q, rfl⟩ : ∃ q : Fin 12288, k = q.val := ⟨⟨k, hk'⟩, rfl⟩
  simp only [Fin.eta]
  clear hk' e hk
  after_reads_at
  simp only [base_eq]
  rfl

/-- The centres in y of level 2's anchors. -/
theorem yT_level2 (r : Fin 2046) (b : Fin 128) (k : ℕ) (hk : r.val * 128 + b.val = 245760 + k) (hk' : k < 12288) :
    after hostOps0 V (Proc.devRef .tc main_v257) (ix2 r b) = ct lit2 (k / 4096) 1 (shift 1098907648#32 (k / 64 % 64)) := by
  after_reads_at
  rw [dif_neg (by omega), dif_neg (by omega), dif_pos (by omega)]
  have e : r.val * 128 + b.val - 196608 - 49152 = k := by omega
  simp only [e]
  obtain ⟨q, rfl⟩ : ∃ q : Fin 12288, k = q.val := ⟨⟨k, hk'⟩, rfl⟩
  simp only [Fin.eta]
  clear hk' e hk
  after_reads_at
  simp only [base_eq]
  rfl

/-- Level 2's deltas, read as planes of rows. -/
theorem bb_level2 (r : ℕ) (hr : r < 384) (b : Fin 128) : at2 (R := 384) (after hostOps0 V (Proc.devRef .tc main_v7)) r b
    = px (C := 12) (s := 64) (V (Proc.devRef .tc main_arg7)) ((r * 128 + b.val) / 4096) ((r * 128 + b.val) / 64 % 64) ((r * 128 + b.val) % 64) := by
  obtain ⟨q, rfl⟩ : ∃ q : Fin 384, r = q.val := ⟨⟨r, hr⟩, rfl⟩
  rw [← at2_eq (R := 384)]
  after_reads_at
  simp only [px_eq (C := 12) (s := 64)]
  have hb := b.isLt
  congr 1 <;> omega

/-- Level 2's scores, read as planes of rows. -/
theorem cls_level2 (r : ℕ) (hr : r < 192) (b : Fin 128) : at2 (R := 192) (after hostOps0 V (Proc.devRef .tc main_v2)) r b
    = px (C := 6) (s := 64) (V (Proc.devRef .tc main_arg2)) ((r * 128 + b.val) / 4096) ((r * 128 + b.val) / 64 % 64) ((r * 128 + b.val) % 64) := by
  obtain ⟨q, rfl⟩ : ∃ q : Fin 192, r = q.val := ⟨⟨r, hr⟩, rfl⟩
  rw [← at2_eq (R := 192)]
  after_reads_at
  simp only [px_eq (C := 6) (s := 64)]
  have hb := b.isLt
  congr 1 <;> omega

end Cert.Rpn.Ker
end
-- ==== Proof.KerLevel2.lean ====
/- Level 2 of the decoded arrays: each holds the level's boxes and scores, anchor by anchor, row by row. -/
module

public import proofs.«01_k».proof.Proof.Region0
public import proofs.«01_k».proof.Proof.Tile
public import proofs.«01_k».proof.Proof.KerTable2

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- A delta of level 2 at an output row. -/
theorem delta_level2 (u k j ch : ℕ) (b : Fin 128) (hk : u * 128 + b.val = k) (hk' : k < 12288) (hj : j < 4) (hc : ch = k / 4096 * 4 + j) :
    at2 (R := 384) (W1 m ρ c (Proc.devRef .tc main_v7)) (row 32 j u) b
      = px (C := 12) (s := 64) (W0 m ρ c (Proc.devRef .tc main_arg7)) ch (k / 64 % 64) (k % 64) := by
  have hb := b.isLt
  refine (bb_level2 (W0 m ρ c) (row 32 j u) (by unfold row; omega) b).trans ?_
  congr 1 <;> (unfold row; omega)

/-- A class score of level 2 at an output row. -/
theorem clsc_level2 (u k : ℕ) (b : Fin 128) (hk : u * 128 + b.val = k) (hk' : k < 12288) :
    at2 (R := 192) (W1 m ρ c (Proc.devRef .tc main_v2)) (3 * 32 + u) b
      = px (C := 6) (s := 64) (W0 m ρ c (Proc.devRef .tc main_arg2)) (3 + k / 4096) (k / 64 % 64) (k % 64) := by
  have hb := b.isLt
  refine (cls_level2 (W0 m ρ c) (3 * 32 + u) (by omega) b).trans ?_
  congr 1 <;> omega

theorem image_level2 : W1 m ρ c (Proc.devRef .tc main_arg10) = W0 m ρ c (Proc.devRef .tc main_arg10) :=
  W1_of m ρ c main_arg10 (by decide)

variable (r : Fin 2046) (b : Fin 128) (k : ℕ) (hk : r.val * 128 + b.val = 245760 + k) (hk' : k < 12288)
include hk hk'

theorem x1_level2 : W2 m ρ c (Proc.devRef .tc main_v258_0) (ix2 r b)
    = x1 (s := 64) (W0 m ρ c (Proc.devRef .tc main_arg7)) (W0 m ρ c (Proc.devRef .tc main_arg10)) lit2 1098907648#32 (k / 4096) (k / 64 % 64) (k % 64) := by
  have hb := b.isLt
  refine (region0_X1 m ρ c r b).trans ?_
  unfold decX1
  rw [if_neg (by omega), if_neg (by omega), if_pos (by omega)]
  exact tileX1_congr (congrFun (image_level2 m ρ c) (ix2 0 1)) (delta_level2 m ρ c (r.val - 1920) k 0 _ b (by omega) hk' (by omega) rfl) (delta_level2 m ρ c (r.val - 1920) k 2 _ b (by omega) hk' (by omega) rfl) (wT_level2 (W0 m ρ c) r b k hk hk') (xT_level2 (W0 m ρ c) r b k hk hk')

theorem y1_level2 : W2 m ρ c (Proc.devRef .tc main_v258_1) (ix2 r b)
    = y1 (s := 64) (W0 m ρ c (Proc.devRef .tc main_arg7)) (W0 m ρ c (Proc.devRef .tc main_arg10)) lit2 1098907648#32 (k / 4096) (k / 64 % 64) (k % 64) := by
  have hb := b.isLt
  refine (region0_Y1 m ρ c r b).trans ?_
  unfold decY1
  rw [if_neg (by omega), if_neg (by omega), if_pos (by omega)]
  exact tileY1_congr (congrFun (image_level2 m ρ c) (ix2 0 0)) (delta_level2 m ρ c (r.val - 1920) k 1 _ b (by omega) hk' (by omega) rfl) (delta_level2 m ρ c (r.val - 1920) k 3 _ b (by omega) hk' (by omega) rfl) (hT_level2 (W0 m ρ c) r b k hk hk') (yT_level2 (W0 m ρ c) r b k hk hk')

theorem x2_level2 : W2 m ρ c (Proc.devRef .tc main_v258_2) (ix2 r b)
    = x2 (s := 64) (W0 m ρ c (Proc.devRef .tc main_arg7)) (W0 m ρ c (Proc.devRef .tc main_arg10)) lit2 1098907648#32 (k / 4096) (k / 64 % 64) (k % 64) := by
  have hb := b.isLt
  refine (region0_X2 m ρ c r b).trans ?_
  unfold decX2
  rw [if_neg (by omega), if_neg (by omega), if_pos (by omega)]
  exact tileX2_congr (congrFun (image_level2 m ρ c) (ix2 0 1)) (delta_level2 m ρ c (r.val - 1920) k 0 _ b (by omega) hk' (by omega) rfl) (delta_level2 m ρ c (r.val - 1920) k 2 _ b (by omega) hk' (by omega) rfl) (wT_level2 (W0 m ρ c) r b k hk hk') (xT_level2 (W0 m ρ c) r b k hk hk')

theorem y2_level2 : W2 m ρ c (Proc.devRef .tc main_v258_3) (ix2 r b)
    = y2 (s := 64) (W0 m ρ c (Proc.devRef .tc main_arg7)) (W0 m ρ c (Proc.devRef .tc main_arg10)) lit2 1098907648#32 (k / 4096) (k / 64 % 64) (k % 64) := by
  have hb := b.isLt
  refine (region0_Y2 m ρ c r b).trans ?_
  unfold decY2
  rw [if_neg (by omega), if_neg (by omega), if_pos (by omega)]
  exact tileY2_congr (congrFun (image_level2 m ρ c) (ix2 0 0)) (delta_level2 m ρ c (r.val - 1920) k 1 _ b (by omega) hk' (by omega) rfl) (delta_level2 m ρ c (r.val - 1920) k 3 _ b (by omega) hk' (by omega) rfl) (hT_level2 (W0 m ρ c) r b k hk hk') (yT_level2 (W0 m ρ c) r b k hk hk')

theorem sc_level2 : W2 m ρ c (Proc.devRef .tc main_v258_4) (ix2 r b)
    = sc (s := 64) (W0 m ρ c (Proc.devRef .tc main_arg7)) (W0 m ρ c (Proc.devRef .tc main_arg2)) (W0 m ρ c (Proc.devRef .tc main_arg10)) lit2 1098907648#32 (k / 4096) (k / 64 % 64) (k % 64) := by
  have hb := b.isLt
  refine (region0_S m ρ c r b).trans ?_
  unfold decS
  rw [if_neg (by omega), if_neg (by omega), if_pos (by omega)]
  exact tileS_congr (tileX1_congr (congrFun (image_level2 m ρ c) (ix2 0 1)) (delta_level2 m ρ c (r.val - 1920) k 0 _ b (by omega) hk' (by omega) rfl) (delta_level2 m ρ c (r.val - 1920) k 2 _ b (by omega) hk' (by omega) rfl) (wT_level2 (W0 m ρ c) r b k hk hk') (xT_level2 (W0 m ρ c) r b k hk hk')) (tileY1_congr (congrFun (image_level2 m ρ c) (ix2 0 0)) (delta_level2 m ρ c (r.val - 1920) k 1 _ b (by omega) hk' (by omega) rfl) (delta_level2 m ρ c (r.val - 1920) k 3 _ b (by omega) hk' (by omega) rfl) (hT_level2 (W0 m ρ c) r b k hk hk') (yT_level2 (W0 m ρ c) r b k hk hk')) (tileX2_congr (congrFun (image_level2 m ρ c) (ix2 0 1)) (delta_level2 m ρ c (r.val - 1920) k 0 _ b (by omega) hk' (by omega) rfl) (delta_level2 m ρ c (r.val - 1920) k 2 _ b (by omega) hk' (by omega) rfl) (wT_level2 (W0 m ρ c) r b k hk hk') (xT_level2 (W0 m ρ c) r b k hk hk')) (tileY2_congr (congrFun (image_level2 m ρ c) (ix2 0 0)) (delta_level2 m ρ c (r.val - 1920) k 1 _ b (by omega) hk' (by omega) rfl) (delta_level2 m ρ c (r.val - 1920) k 3 _ b (by omega) hk' (by omega) rfl) (hT_level2 (W0 m ρ c) r b k hk hk') (yT_level2 (W0 m ρ c) r b k hk hk')) (clsc_level2 m ρ c (r.val - 1920) k b (by omega) hk')

end Cert.Rpn.Ker
end
-- ==== Proof.KerTable3.lean ====
/- Level 3 of the host tables the decode region reads: anchor sizes and centres by plane position, and the two heads. -/
module

public import proofs.«01_k».proof.Proof.Decode
public import proofs.«01_k».proof.Proof.Gen.KernelIdeal.Launch
public import Idealize.ShloMosaic.Lib.StableHlo.ReadAt

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (V : Valuation τ sig (Elt Ideal))

/-- The widths of level 3's anchors. -/
theorem wT_level3 (r : Fin 2046) (b : Fin 128) (k : ℕ) (hk : r.val * 128 + b.val = 258048 + k) (hk' : k < 3072) :
    after hostOps0 V (Proc.devRef .tc main_v251) (ix2 r b) = wd lit3 (k / 1024) 0 (shift 1107296256#32 (k % 32)) := by
  after_reads_at
  rw [dif_neg (by omega), dif_neg (by omega), dif_neg (by omega), dif_pos (by omega)]
  have e : r.val * 128 + b.val - 196608 - 49152 - 12288 = k := by omega
  simp only [e]
  obtain ⟨q, rfl⟩ : ∃ q : Fin 3072, k = q.val := ⟨⟨k, hk'⟩, rfl⟩
  simp only [Fin.eta]
  clear hk' e hk
  after_reads_at
  simp only [base_eq]
  rfl

/-- The heights of level 3's anchors. -/
theorem hT_level3 (r : Fin 2046) (b : Fin 128) (k : ℕ) (hk : r.val * 128 + b.val = 258048 + k) (hk' : k < 3072) :
    after hostOps0 V (Proc.devRef .tc main_v253) (ix2 r b) = wd lit3 (k / 1024) 1 (shift 1107296256#32 (k / 32 % 32)) := by
  after_reads_at
  rw [dif_neg (by omega), dif_neg (by omega), dif_neg (by omega), dif_pos (by omega)]
  have e : r.val * 128 + b.val - 196608 - 49152 - 12288 = k := by omega
  simp only [e]
  obtain ⟨q, rfl⟩ : ∃ q : Fin 3072, k = q.val := ⟨⟨k, hk'⟩, rfl⟩
  simp only [Fin.eta]
  clear hk' e hk
  after_reads_at
  simp only [base_eq]
  rfl

/-- The centres in x of level 3's anchors. -/
theorem xT_level3 (r : Fin 2046) (b : Fin 128) (k : ℕ) (hk : r.val * 128 + b.val = 258048 + k) (hk' : k < 3072) :
    after hostOps0 V (Proc.devRef .tc main_v255) (ix2 r b) = ct lit3 (k / 1024) 0 (shift 1107296256#32 (k % 32)) := by
  after_reads_at
  rw [dif_neg (by omega), dif_neg (by omega), dif_neg (by omega), dif_pos (by omega)]
  have e : r.val * 128 + b.val - 196608 - 49152 - 12288 = k := by omega
  simp only [e]
  obtain ⟨q, rfl⟩ : ∃ q : Fin 3072, k = q.val := ⟨⟨k, hk'⟩, rfl⟩
  simp only [Fin.eta]
  clear hk' e hk
  after_reads_at
  simp only [base_eq]
  rfl

/-- The centres in y of level 3's anchors. -/
theorem yT_level3 (r : Fin 2046) (b : Fin 128) (k : ℕ) (hk : r.val * 128 + b.val = 258048 + k) (hk' : k < 3072) :
    after hostOps0 V (Proc.devRef .tc main_v257) (ix2 r b) = ct lit3 (k / 1024) 1 (shift 1107296256#32 (k / 32 % 32)) := by
  after_reads_at
  rw [dif_neg (by omega), dif_neg (by omega), dif_neg (by omega), dif_pos (by omega)]
  have e : r.val * 128 + b.val - 196608 - 49152 - 12288 = k := by omega
  simp only [e]
  obtain ⟨q, rfl⟩ : ∃ q : Fin 3072, k = q.val := ⟨⟨k, hk'⟩, rfl⟩
  simp only [Fin.eta]
  clear hk' e hk
  after_reads_at
  simp only [base_eq]
  rfl

/-- Level 3's deltas, read as planes of rows. -/
theorem bb_level3 (r : ℕ) (hr : r < 96) (b : Fin 128) : at2 (R := 96) (after hostOps0 V (Proc.devRef .tc main_v8)) r b
    = px (C := 12) (s := 32) (V (Proc.devRef .tc main_arg8)) ((r * 128 + b.val) / 1024) ((r * 128 + b.val) / 32 % 32) ((r * 128 + b.val) % 32) := by
  obtain ⟨q, rfl⟩ : ∃ q : Fin 96, r = q.val := ⟨⟨r, hr⟩, rfl⟩
  rw [← at2_eq (R := 96)]
  after_reads_at
  simp only [px_eq (C := 12) (s := 32)]
  have hb := b.isLt
  congr 1 <;> omega

/-- Level 3's scores, read as planes of rows. -/
theorem cls_level3 (r : ℕ) (hr : r < 48) (b : Fin 128) : at2 (R := 48) (after hostOps0 V (Proc.devRef .tc main_v3)) r b
    = px (C := 6) (s := 32) (V (Proc.devRef .tc main_arg3)) ((r * 128 + b.val) / 1024) ((r * 128 + b.val) / 32 % 32) ((r * 128 + b.val) % 32) := by
  obtain ⟨q, rfl⟩ : ∃ q : Fin 48, r = q.val := ⟨⟨r, hr⟩, rfl⟩
  rw [← at2_eq (R := 48)]
  after_reads_at
  simp only [px_eq (C := 6) (s := 32)]
  have hb := b.isLt
  congr 1 <;> omega

end Cert.Rpn.Ker
end
-- ==== Proof.KerLevel3.lean ====
/- Level 3 of the decoded arrays: each holds the level's boxes and scores, anchor by anchor, row by row. -/
module

public import proofs.«01_k».proof.Proof.Region0
public import proofs.«01_k».proof.Proof.Tile
public import proofs.«01_k».proof.Proof.KerTable3

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- A delta of level 3 at an output row. -/
theorem delta_level3 (u k j ch : ℕ) (b : Fin 128) (hk : u * 128 + b.val = k) (hk' : k < 3072) (hj : j < 4) (hc : ch = k / 1024 * 4 + j) :
    at2 (R := 96) (W1 m ρ c (Proc.devRef .tc main_v8)) (row 8 j u) b
      = px (C := 12) (s := 32) (W0 m ρ c (Proc.devRef .tc main_arg8)) ch (k / 32 % 32) (k % 32) := by
  have hb := b.isLt
  refine (bb_level3 (W0 m ρ c) (row 8 j u) (by unfold row; omega) b).trans ?_
  congr 1 <;> (unfold row; omega)

/-- A class score of level 3 at an output row. -/
theorem clsc_level3 (u k : ℕ) (b : Fin 128) (hk : u * 128 + b.val = k) (hk' : k < 3072) :
    at2 (R := 48) (W1 m ρ c (Proc.devRef .tc main_v3)) (3 * 8 + u) b
      = px (C := 6) (s := 32) (W0 m ρ c (Proc.devRef .tc main_arg3)) (3 + k / 1024) (k / 32 % 32) (k % 32) := by
  have hb := b.isLt
  refine (cls_level3 (W0 m ρ c) (3 * 8 + u) (by omega) b).trans ?_
  congr 1 <;> omega

theorem image_level3 : W1 m ρ c (Proc.devRef .tc main_arg10) = W0 m ρ c (Proc.devRef .tc main_arg10) :=
  W1_of m ρ c main_arg10 (by decide)

variable (r : Fin 2046) (b : Fin 128) (k : ℕ) (hk : r.val * 128 + b.val = 258048 + k) (hk' : k < 3072)
include hk hk'

theorem x1_level3 : W2 m ρ c (Proc.devRef .tc main_v258_0) (ix2 r b)
    = x1 (s := 32) (W0 m ρ c (Proc.devRef .tc main_arg8)) (W0 m ρ c (Proc.devRef .tc main_arg10)) lit3 1107296256#32 (k / 1024) (k / 32 % 32) (k % 32) := by
  have hb := b.isLt
  refine (region0_X1 m ρ c r b).trans ?_
  unfold decX1
  rw [if_neg (by omega), if_neg (by omega), if_neg (by omega), if_pos (by omega)]
  exact tileX1_congr (congrFun (image_level3 m ρ c) (ix2 0 1)) (delta_level3 m ρ c (r.val - 2016) k 0 _ b (by omega) hk' (by omega) rfl) (delta_level3 m ρ c (r.val - 2016) k 2 _ b (by omega) hk' (by omega) rfl) (wT_level3 (W0 m ρ c) r b k hk hk') (xT_level3 (W0 m ρ c) r b k hk hk')

theorem y1_level3 : W2 m ρ c (Proc.devRef .tc main_v258_1) (ix2 r b)
    = y1 (s := 32) (W0 m ρ c (Proc.devRef .tc main_arg8)) (W0 m ρ c (Proc.devRef .tc main_arg10)) lit3 1107296256#32 (k / 1024) (k / 32 % 32) (k % 32) := by
  have hb := b.isLt
  refine (region0_Y1 m ρ c r b).trans ?_
  unfold decY1
  rw [if_neg (by omega), if_neg (by omega), if_neg (by omega), if_pos (by omega)]
  exact tileY1_congr (congrFun (image_level3 m ρ c) (ix2 0 0)) (delta_level3 m ρ c (r.val - 2016) k 1 _ b (by omega) hk' (by omega) rfl) (delta_level3 m ρ c (r.val - 2016) k 3 _ b (by omega) hk' (by omega) rfl) (hT_level3 (W0 m ρ c) r b k hk hk') (yT_level3 (W0 m ρ c) r b k hk hk')

theorem x2_level3 : W2 m ρ c (Proc.devRef .tc main_v258_2) (ix2 r b)
    = x2 (s := 32) (W0 m ρ c (Proc.devRef .tc main_arg8)) (W0 m ρ c (Proc.devRef .tc main_arg10)) lit3 1107296256#32 (k / 1024) (k / 32 % 32) (k % 32) := by
  have hb := b.isLt
  refine (region0_X2 m ρ c r b).trans ?_
  unfold decX2
  rw [if_neg (by omega), if_neg (by omega), if_neg (by omega), if_pos (by omega)]
  exact tileX2_congr (congrFun (image_level3 m ρ c) (ix2 0 1)) (delta_level3 m ρ c (r.val - 2016) k 0 _ b (by omega) hk' (by omega) rfl) (delta_level3 m ρ c (r.val - 2016) k 2 _ b (by omega) hk' (by omega) rfl) (wT_level3 (W0 m ρ c) r b k hk hk') (xT_level3 (W0 m ρ c) r b k hk hk')

theorem y2_level3 : W2 m ρ c (Proc.devRef .tc main_v258_3) (ix2 r b)
    = y2 (s := 32) (W0 m ρ c (Proc.devRef .tc main_arg8)) (W0 m ρ c (Proc.devRef .tc main_arg10)) lit3 1107296256#32 (k / 1024) (k / 32 % 32) (k % 32) := by
  have hb := b.isLt
  refine (region0_Y2 m ρ c r b).trans ?_
  unfold decY2
  rw [if_neg (by omega), if_neg (by omega), if_neg (by omega), if_pos (by omega)]
  exact tileY2_congr (congrFun (image_level3 m ρ c) (ix2 0 0)) (delta_level3 m ρ c (r.val - 2016) k 1 _ b (by omega) hk' (by omega) rfl) (delta_level3 m ρ c (r.val - 2016) k 3 _ b (by omega) hk' (by omega) rfl) (hT_level3 (W0 m ρ c) r b k hk hk') (yT_level3 (W0 m ρ c) r b k hk hk')

theorem sc_level3 : W2 m ρ c (Proc.devRef .tc main_v258_4) (ix2 r b)
    = sc (s := 32) (W0 m ρ c (Proc.devRef .tc main_arg8)) (W0 m ρ c (Proc.devRef .tc main_arg3)) (W0 m ρ c (Proc.devRef .tc main_arg10)) lit3 1107296256#32 (k / 1024) (k / 32 % 32) (k % 32) := by
  have hb := b.isLt
  refine (region0_S m ρ c r b).trans ?_
  unfold decS
  rw [if_neg (by omega), if_neg (by omega), if_neg (by omega), if_pos (by omega)]
  exact tileS_congr (tileX1_congr (congrFun (image_level3 m ρ c) (ix2 0 1)) (delta_level3 m ρ c (r.val - 2016) k 0 _ b (by omega) hk' (by omega) rfl) (delta_level3 m ρ c (r.val - 2016) k 2 _ b (by omega) hk' (by omega) rfl) (wT_level3 (W0 m ρ c) r b k hk hk') (xT_level3 (W0 m ρ c) r b k hk hk')) (tileY1_congr (congrFun (image_level3 m ρ c) (ix2 0 0)) (delta_level3 m ρ c (r.val - 2016) k 1 _ b (by omega) hk' (by omega) rfl) (delta_level3 m ρ c (r.val - 2016) k 3 _ b (by omega) hk' (by omega) rfl) (hT_level3 (W0 m ρ c) r b k hk hk') (yT_level3 (W0 m ρ c) r b k hk hk')) (tileX2_congr (congrFun (image_level3 m ρ c) (ix2 0 1)) (delta_level3 m ρ c (r.val - 2016) k 0 _ b (by omega) hk' (by omega) rfl) (delta_level3 m ρ c (r.val - 2016) k 2 _ b (by omega) hk' (by omega) rfl) (wT_level3 (W0 m ρ c) r b k hk hk') (xT_level3 (W0 m ρ c) r b k hk hk')) (tileY2_congr (congrFun (image_level3 m ρ c) (ix2 0 0)) (delta_level3 m ρ c (r.val - 2016) k 1 _ b (by omega) hk' (by omega) rfl) (delta_level3 m ρ c (r.val - 2016) k 3 _ b (by omega) hk' (by omega) rfl) (hT_level3 (W0 m ρ c) r b k hk hk') (yT_level3 (W0 m ρ c) r b k hk hk')) (clsc_level3 m ρ c (r.val - 2016) k b (by omega) hk')

end Cert.Rpn.Ker
end
-- ==== Proof.KerTable4.lean ====
/- Level 4 of the host tables the decode region reads: anchor sizes and centres by plane position, and the two heads. -/
module

public import proofs.«01_k».proof.Proof.Decode
public import proofs.«01_k».proof.Proof.Gen.KernelIdeal.Launch
public import Idealize.ShloMosaic.Lib.StableHlo.ReadAt

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (V : Valuation τ sig (Elt Ideal))

/-- The widths of level 4's anchors. -/
theorem wT_level4 (r : Fin 2046) (b : Fin 128) (k : ℕ) (hk : r.val * 128 + b.val = 261120 + k) (hk' : k < 768) :
    after hostOps0 V (Proc.devRef .tc main_v251) (ix2 r b) = wd lit4 (k / 256) 0 (shift 1115684864#32 (k % 16)) := by
  after_reads_at
  rw [dif_neg (by omega), dif_neg (by omega), dif_neg (by omega), dif_neg (by omega)]
  have e : r.val * 128 + b.val - 196608 - 49152 - 12288 - 3072 = k := by omega
  simp only [e]
  obtain ⟨q, rfl⟩ : ∃ q : Fin 768, k = q.val := ⟨⟨k, hk'⟩, rfl⟩
  simp only [Fin.eta]
  clear hk' e hk
  after_reads_at
  simp only [base_eq]
  rfl

/-- The heights of level 4's anchors. -/
theorem hT_level4 (r : Fin 2046) (b : Fin 128) (k : ℕ) (hk : r.val * 128 + b.val = 261120 + k) (hk' : k < 768) :
    after hostOps0 V (Proc.devRef .tc main_v253) (ix2 r b) = wd lit4 (k / 256) 1 (shift 1115684864#32 (k / 16 % 16)) := by
  after_reads_at
  rw [dif_neg (by omega), dif_neg (by omega), dif_neg (by omega), dif_neg (by omega)]
  have e : r.val * 128 + b.val - 196608 - 49152 - 12288 - 3072 = k := by omega
  simp only [e]
  obtain ⟨q, rfl⟩ : ∃ q : Fin 768, k = q.val := ⟨⟨k, hk'⟩, rfl⟩
  simp only [Fin.eta]
  clear hk' e hk
  after_reads_at
  simp only [base_eq]
  rfl

/-- The centres in x of level 4's anchors. -/
theorem xT_level4 (r : Fin 2046) (b : Fin 128) (k : ℕ) (hk : r.val * 128 + b.val = 261120 + k) (hk' : k < 768) :
    after hostOps0 V (Proc.devRef .tc main_v255) (ix2 r b) = ct lit4 (k / 256) 0 (shift 1115684864#32 (k % 16)) := by
  after_reads_at
  rw [dif_neg (by omega), dif_neg (by omega), dif_neg (by omega), dif_neg (by omega)]
  have e : r.val * 128 + b.val - 196608 - 49152 - 12288 - 3072 = k := by omega
  simp only [e]
  obtain ⟨q, rfl⟩ : ∃ q : Fin 768, k = q.val := ⟨⟨k, hk'⟩, rfl⟩
  simp only [Fin.eta]
  clear hk' e hk
  after_reads_at
  simp only [base_eq]
  rfl

/-- The centres in y of level 4's anchors. -/
theorem yT_level4 (r : Fin 2046) (b : Fin 128) (k : ℕ) (hk : r.val * 128 + b.val = 261120 + k) (hk' : k < 768) :
    after hostOps0 V (Proc.devRef .tc main_v257) (ix2 r b) = ct lit4 (k / 256) 1 (shift 1115684864#32 (k / 16 % 16)) := by
  after_reads_at
  rw [dif_neg (by omega), dif_neg (by omega), dif_neg (by omega), dif_neg (by omega)]
  have e : r.val * 128 + b.val - 196608 - 49152 - 12288 - 3072 = k := by omega
  simp only [e]
  obtain ⟨q, rfl⟩ : ∃ q : Fin 768, k = q.val := ⟨⟨k, hk'⟩, rfl⟩
  simp only [Fin.eta]
  clear hk' e hk
  after_reads_at
  simp only [base_eq]
  rfl

/-- Level 4's deltas, read as planes of rows. -/
theorem bb_level4 (r : ℕ) (hr : r < 24) (b : Fin 128) : at2 (R := 24) (after hostOps0 V (Proc.devRef .tc main_v9)) r b
    = px (C := 12) (s := 16) (V (Proc.devRef .tc main_arg9)) ((r * 128 + b.val) / 256) ((r * 128 + b.val) / 16 % 16) ((r * 128 + b.val) % 16) := by
  obtain ⟨q, rfl⟩ : ∃ q : Fin 24, r = q.val := ⟨⟨r, hr⟩, rfl⟩
  rw [← at2_eq (R := 24)]
  after_reads_at
  simp only [px_eq (C := 12) (s := 16)]
  have hb := b.isLt
  congr 1 <;> omega

/-- Level 4's scores, read as planes of rows. -/
theorem cls_level4 (r : ℕ) (hr : r < 12) (b : Fin 128) : at2 (R := 12) (after hostOps0 V (Proc.devRef .tc main_v4)) r b
    = px (C := 6) (s := 16) (V (Proc.devRef .tc main_arg4)) ((r * 128 + b.val) / 256) ((r * 128 + b.val) / 16 % 16) ((r * 128 + b.val) % 16) := by
  obtain ⟨q, rfl⟩ : ∃ q : Fin 12, r = q.val := ⟨⟨r, hr⟩, rfl⟩
  rw [← at2_eq (R := 12)]
  after_reads_at
  simp only [px_eq (C := 6) (s := 16)]
  have hb := b.isLt
  congr 1 <;> omega

end Cert.Rpn.Ker
end
-- ==== Proof.KerLevel4.lean ====
/- Level 4 of the decoded arrays: each holds the level's boxes and scores, anchor by anchor, row by row. -/
module

public import proofs.«01_k».proof.Proof.Region0
public import proofs.«01_k».proof.Proof.Tile
public import proofs.«01_k».proof.Proof.KerTable4

@[expose] public section

set_option maxRecDepth 16384

noncomputable section

namespace Cert.Rpn.Ker

open Cert.KernelIdeal Cert.KernelIdeal.Gen
open Idealize.ShloMosaic Idealize.ShloMosaic.TcCoe Idealize.ShloMosaic.StableHlo

variable (m : (ℓ : Loc nD τ sig) → Buf (Elt Ideal) ℓ) (ρ : Dev nD → PrngReg) (c : Dev nD)

/-- A delta of level 4 at an output row. -/
theorem delta_level4 (u k j ch : ℕ) (b : Fin 128) (hk : u * 128 + b.val = k) (hk' : k < 768) (hj : j < 4) (hc : ch = k / 256 * 4 + j) :
    at2 (R := 24) (W1 m ρ c (Proc.devRef .tc main_v9)) (row 2 j u) b
      = px (C := 12) (s := 16) (W0 m ρ c (Proc.devRef .tc main_arg9)) ch (k / 16 % 16) (k % 16) := by
  have hb := b.isLt
  refine (bb_level4 (W0 m ρ c) (row 2 j u) (by unfold row; omega) b).trans ?_
  congr 1 <;> (unfold row; omega)

/-- A class score of level 4 at an output row. -/
theorem clsc_level4 (u k : ℕ) (b : Fin 128) (hk : u * 128 + b.val = k) (hk' : k < 768) :
    at2 (R := 12) (W1 m ρ c (Proc.devRef .tc main_v4)) (3 * 2 + u) b
      = px (C := 6) (s := 16) (W0 m ρ c (Proc.devRef .tc main_arg4)) (3 + k / 256) (k / 16 % 16) (k % 16) := by
  have hb := b.isLt
  refine (cls_level4 (W0 m ρ c) (3 * 2 + u) (by omega) b).trans ?_
  congr 1 <;> omega

theorem image_level4 : W1 m ρ c (Proc.devRef .tc main_arg10) = W0 m ρ c (Proc.devRef .tc main_arg10) :=
  W1_of m ρ c main_arg10 (by decide)

variable (r : Fin 2046) (b : Fin 128) (k : ℕ) (hk : r.val * 128 + b.val = 261120 + k) (hk' : k < 768)
include hk hk'

theorem x1_level4 : W2 m ρ c (Proc.devRef .tc main_v258_0) (ix2 r b)
    = x1 (s := 16) (W0 m ρ c (Proc.devRef .tc main_arg9)) (W0 m ρ c (Proc.devRef .tc main_arg10)) lit4 1115684864#32 (k / 256) (k / 16 % 16) (k % 16) := by
  have hb := b.isLt
  refine (region0_X1 m ρ c r b).trans ?_
  unfold decX1
  rw [if_neg (by omega), if_neg (by omega), if_neg (by omega), if_neg (by omega)]
  exact tileX1_congr (congrFun (image_level4 m ρ c) (ix2 0 1)) (delta_level4 m ρ c (r.val - 2040) k 0 _ b (by omega) hk' (by omega) rfl) (delta_level4 m ρ c (r.val - 2040) k 2 _ b (by omega) hk' (by omega) rfl) (wT_level4 (W0 m ρ c) r b k hk hk') (xT_level4 (W0 m ρ c) r b k hk hk')

theorem y1_level4 : W2 m ρ c (Proc.devRef .tc main_v258_1) (ix2 r b)
    = y1 (s := 16) (W0 m ρ c (Proc.devRef .tc main_arg9)) (W0 m ρ c (Proc.devRef .tc main_arg10)) lit4 1115684864#32 (k / 256) (k / 16 % 16) (k % 16) := by
  have hb := b.isLt
  refine (region0_Y1 m ρ c r b).trans ?_
  unfold decY1
  rw [if_neg (by omega), if_neg (by omega), if_neg (by omega), if_neg (by omega)]
  exact tileY1_congr (congrFun (image_level4 m ρ c) (ix2 0 0)) (delta_level4 m ρ c (r.val - 2040) k 1 _ b (by omega) hk' (by omega) rfl) (delta_level4 m ρ c (r.val - 2040) k 3 _ b (by omega) hk' (by omega) rfl) (hT_level4 (W0 m ρ c) r b k hk hk') (yT_level4 (W0 m ρ c) r b k hk hk')

theorem x2_level4 : W2 m ρ c (Proc.devRef .tc main_v258_2) (ix2 r b)
    = x2 (s := 16) (W0 m ρ c (Proc.devRef .tc main_arg9)) (W0 m ρ c (Proc.devRef .tc main_arg10)) lit4 1115684864#32 (k / 256) (k / 16 % 16) (k % 16) := by
  have hb := b.isLt
  refine (region0_X2 m ρ c r b).trans ?_
  unfold decX2
  rw [if_neg (by omega), if_neg (by omega), if_neg (by omega), if_neg (by omega)]
  exact tileX2_congr (congrFun (image_level4 m ρ c) (ix2 0 1)) (delta_level4 m ρ c (r.val - 2040) k 0 _ b (by omega) hk' (by omega) rfl) (delta_level4 m ρ c (r.val - 2040) k 2 _ b (by omega) hk' (by omega) rfl) (wT_level4 (W0 m ρ c) r b k hk hk') (xT_level4 (W0 m ρ c) r b k hk hk')

theorem y2_level4 : W2 m ρ c (Proc.devRef .tc main_v258_3) (ix2 r b)
    = y2 (s := 16) (W0 m ρ c (Proc.devRef .tc main_arg9)) (W0 m ρ c (Proc.devRef .tc main_arg10)) lit4 1115684864#32 (k / 256) (k / 16 % 16) (k % 16) := by
  have hb := b.isLt
  refine (region0_Y2 m ρ c r b).trans ?_
  unfold decY2
  rw [if_neg (by omega), if_neg (by omega), if_neg (by omega), if_neg (by omega)]
  exact tileY2_congr (congrFun (image_level4 m ρ c) (ix2 0 0)) (delta_level4 m ρ c (r.val - 2040) k 1 _ b (by omega) hk' (by omega) rfl) (delta_level4 m ρ c (r.val - 2040) k 3 _ b (by omega) hk' (by omega) rfl) (hT_level4 (W0 m ρ c) r b k hk hk') (yT_level4 (W0 m ρ c) r b k hk hk')

theorem sc_level4 : W2 m ρ c (Proc.devRef .tc main_v258_4) (ix2 r b)
    = sc (s := 16) (W0 m ρ c (Proc.devRef .tc main_arg9)) (W0 m ρ c (Proc.devRef .tc main_arg4)) (W0 m ρ c (Proc.devRef .tc main_arg10)) lit4 1115684864#32 (k / 256) (k / 16 % 16) (k % 16) := by
  have hb := b.isLt
  refine (region0_S m ρ c r b).trans ?_
  unfold decS
  rw [if_neg (by omega), if_neg (by omega), if_neg (by omega), if_neg (by omega)]
  exact tileS_congr (tileX1_congr (congrFun (image_level4 m ρ c) (ix2 0 1)) (delta_level4 m ρ c (r.val - 2040) k 0 _ b (by omega) hk' (by omega) rfl) (delta_level4 m ρ c (r.val - 2040) k 2 _ b (by omega) hk' (by omega) rfl) (wT_level4 (W0 m ρ c) r b k hk hk') (xT_level4 (W0 m ρ c) r b k hk hk')) (tileY1_congr (congrFun (image_level4 m ρ c) (ix2 0 0)) (delta_level4 m ρ c (r.val - 2040) k 1 _ b (by omega) hk' (by omega) rfl) (delta_level4 m ρ c (r.val - 2040) k 3 _ b (by omega) hk' (by omega) rfl) (hT_level4 (W0 m ρ c) r b k hk hk') (yT_level4 (W0 m ρ c) r b k hk hk')) (tileX2_congr (congrFun (image_level4 m ρ c) (ix2 0 1)) (delta_level4 m ρ c (r.val - 2040) k 0 _ b (by omega) hk' (by omega) rfl) (delta_level4 m ρ c (r.val - 2040) k 2 _ b (by omega) hk' (by omega) rfl) (wT_level4 (W0 m ρ c) r b k hk hk') (xT_level4 (W0 m ρ c) r b k hk hk')) (tileY2_congr (congrFun (image_level4 m ρ c) (ix2 0 0)) (delta_level4 m ρ c (r.val - 2040) k 1 _ b (by omega) hk' (by omega) rfl) (delta_level4 m ρ c (r.val - 2040) k 3 _ b (by omega) hk' (by omega) rfl) (hT_level4 (W0 m ρ c) r b k hk hk') (yT_level4 (W0 m ρ c) r b k hk hk')) (clsc_level4 m ρ c (r.val - 2040) k b (by omega) hk')

end Cert.Rpn.Ker
end
-- ==== Proof.KerOrder.lean ====
/- The decoded arrays, read in the reference's order. -/
module

public import proofs.«01_k».proof.Proof.Order
public import proofs.«01_k».proof.Proof.KerLevel0
public import proofs.«01_k».proof.Proof.KerLevel1
public import proofs.«01_k».proof.Proof.KerLevel2
public import proofs.«01_k».proof.Proof.KerLevel3
public import proofs.«01_k».proof.Proof.KerLevel4

@[expose] public section

set_option maxRecDepth 16384

noncomputable section

namespace Cert.Rpn.Ker

open Cert.KernelIdeal Cert.KernelIdeal.Gen
open Idealize.ShloMosaic Idealize.ShloMosaic.TcCoe Idealize.ShloMosaic.StableHlo

/-- The arguments, of contents that hold them. -/
def args (V : Valuation τ sig (Elt Ideal)) : Args where
  s0 := V (Proc.devRef .tc main_arg0)
  s1 := V (Proc.devRef .tc main_arg1)
  s2 := V (Proc.devRef .tc main_arg2)
  s3 := V (Proc.devRef .tc main_arg3)
  s4 := V (Proc.devRef .tc main_arg4)
  b0 := V (Proc.devRef .tc main_arg5)
  b1 := V (Proc.devRef .tc main_arg6)
  b2 := V (Proc.devRef .tc main_arg7)
  b3 := V (Proc.devRef .tc main_arg8)
  b4 := V (Proc.devRef .tc main_arg9)
  im := V (Proc.devRef .tc main_arg10)

variable (m : (ℓ : Loc nD τ sig) → Buf (Elt Ideal) ℓ) (ρ : Dev nD → PrngReg) (c : Dev nD)
  (r : Fin 2046) (b : Fin 128) (p : ℕ) (hp : p < 261888) (h : r.val * 128 + b.val = perm p)
include hp h

theorem X1_at : W2 m ρ c (Proc.devRef .tc main_v258_0) (ix2 r b) = (args (W0 m ρ c)).X1 p := by
  unfold perm at h
  unfold Args.X1 pick
  by_cases h0 : p < 196608
  · rw [if_pos h0] at h ⊢
    refine (x1_level0 m ρ c r b (p % 3 * 65536 + p / 3) (by omega) (by omega)).trans ?_
    have e₁ : (p % 3 * 65536 + p / 3) / 65536 = p % 3 := by omega
    have e₂ : (p % 3 * 65536 + p / 3) / 256 % 256 = p / 768 := by
      rw [show p / 768 = p / 3 / 256 from (Nat.div_div_eq_div_mul _ 3 256).symm,
        show (p % 3 * 65536 + p / 3) / 256 = p % 3 * 256 + p / 3 / 256 from by omega]
      have : p / 3 / 256 < 256 := by omega
      omega
    have e₃ : (p % 3 * 65536 + p / 3) % 256 = p / 3 % 256 := by omega
    rw [e₁, e₂, e₃]
    rfl
  rw [if_neg h0] at h ⊢
  by_cases h1 : p < 245760
  · rw [if_pos h1] at h ⊢
    refine (x1_level1 m ρ c r b ((p - 196608) % 3 * 16384 + (p - 196608) / 3) (by omega) (by omega)).trans ?_
    have e₁ : ((p - 196608) % 3 * 16384 + (p - 196608) / 3) / 16384 = (p - 196608) % 3 := by omega
    have e₂ : ((p - 196608) % 3 * 16384 + (p - 196608) / 3) / 128 % 128 = (p - 196608) / 384 := by
      rw [show (p - 196608) / 384 = (p - 196608) / 3 / 128 from (Nat.div_div_eq_div_mul _ 3 128).symm,
        show ((p - 196608) % 3 * 16384 + (p - 196608) / 3) / 128 = (p - 196608) % 3 * 128 + (p - 196608) / 3 / 128 from by omega]
      have : (p - 196608) / 3 / 128 < 128 := by omega
      omega
    have e₃ : ((p - 196608) % 3 * 16384 + (p - 196608) / 3) % 128 = (p - 196608) / 3 % 128 := by omega
    rw [e₁, e₂, e₃]
    rfl
  rw [if_neg h1] at h ⊢
  by_cases h2 : p < 258048
  · rw [if_pos h2] at h ⊢
    refine (x1_level2 m ρ c r b ((p - 245760) % 3 * 4096 + (p - 245760) / 3) (by omega) (by omega)).trans ?_
    have e₁ : ((p - 245760) % 3 * 4096 + (p - 245760) / 3) / 4096 = (p - 245760) % 3 := by omega
    have e₂ : ((p - 245760) % 3 * 4096 + (p - 245760) / 3) / 64 % 64 = (p - 245760) / 192 := by
      rw [show (p - 245760) / 192 = (p - 245760) / 3 / 64 from (Nat.div_div_eq_div_mul _ 3 64).symm,
        show ((p - 245760) % 3 * 4096 + (p - 245760) / 3) / 64 = (p - 245760) % 3 * 64 + (p - 245760) / 3 / 64 from by omega]
      have : (p - 245760) / 3 / 64 < 64 := by omega
      omega
    have e₃ : ((p - 245760) % 3 * 4096 + (p - 245760) / 3) % 64 = (p - 245760) / 3 % 64 := by omega
    rw [e₁, e₂, e₃]
    rfl
  rw [if_neg h2] at h ⊢
  by_cases h3 : p < 261120
  · rw [if_pos h3] at h ⊢
    refine (x1_level3 m ρ c r b ((p - 258048) % 3 * 1024 + (p - 258048) / 3) (by omega) (by omega)).trans ?_
    have e₁ : ((p - 258048) % 3 * 1024 + (p - 258048) / 3) / 1024 = (p - 258048) % 3 := by omega
    have e₂ : ((p - 258048) % 3 * 1024 + (p - 258048) / 3) / 32 % 32 = (p - 258048) / 96 := by
      rw [show (p - 258048) / 96 = (p - 258048) / 3 / 32 from (Nat.div_div_eq_div_mul _ 3 32).symm,
        show ((p - 258048) % 3 * 1024 + (p - 258048) / 3) / 32 = (p - 258048) % 3 * 32 + (p - 258048) / 3 / 32 from by omega]
      have : (p - 258048) / 3 / 32 < 32 := by omega
      omega
    have e₃ : ((p - 258048) % 3 * 1024 + (p - 258048) / 3) % 32 = (p - 258048) / 3 % 32 := by omega
    rw [e₁, e₂, e₃]
    rfl
  rw [if_neg h3] at h ⊢
  refine (x1_level4 m ρ c r b ((p - 261120) % 3 * 256 + (p - 261120) / 3) (by omega) (by omega)).trans ?_
  have e₁ : ((p - 261120) % 3 * 256 + (p - 261120) / 3) / 256 = (p - 261120) % 3 := by omega
  have e₂ : ((p - 261120) % 3 * 256 + (p - 261120) / 3) / 16 % 16 = (p - 261120) / 48 := by
    rw [show (p - 261120) / 48 = (p - 261120) / 3 / 16 from (Nat.div_div_eq_div_mul _ 3 16).symm,
      show ((p - 261120) % 3 * 256 + (p - 261120) / 3) / 16 = (p - 261120) % 3 * 16 + (p - 261120) / 3 / 16 from by omega]
    have : (p - 261120) / 3 / 16 < 16 := by omega
    omega
  have e₃ : ((p - 261120) % 3 * 256 + (p - 261120) / 3) % 16 = (p - 261120) / 3 % 16 := by omega
  rw [e₁, e₂, e₃]
  rfl

theorem Y1_at : W2 m ρ c (Proc.devRef .tc main_v258_1) (ix2 r b) = (args (W0 m ρ c)).Y1 p := by
  unfold perm at h
  unfold Args.Y1 pick
  by_cases h0 : p < 196608
  · rw [if_pos h0] at h ⊢
    refine (y1_level0 m ρ c r b (p % 3 * 65536 + p / 3) (by omega) (by omega)).trans ?_
    have e₁ : (p % 3 * 65536 + p / 3) / 65536 = p % 3 := by omega
    have e₂ : (p % 3 * 65536 + p / 3) / 256 % 256 = p / 768 := by
      rw [show p / 768 = p / 3 / 256 from (Nat.div_div_eq_div_mul _ 3 256).symm,
        show (p % 3 * 65536 + p / 3) / 256 = p % 3 * 256 + p / 3 / 256 from by omega]
      have : p / 3 / 256 < 256 := by omega
      omega
    have e₃ : (p % 3 * 65536 + p / 3) % 256 = p / 3 % 256 := by omega
    rw [e₁, e₂, e₃]
    rfl
  rw [if_neg h0] at h ⊢
  by_cases h1 : p < 245760
  · rw [if_pos h1] at h ⊢
    refine (y1_level1 m ρ c r b ((p - 196608) % 3 * 16384 + (p - 196608) / 3) (by omega) (by omega)).trans ?_
    have e₁ : ((p - 196608) % 3 * 16384 + (p - 196608) / 3) / 16384 = (p - 196608) % 3 := by omega
    have e₂ : ((p - 196608) % 3 * 16384 + (p - 196608) / 3) / 128 % 128 = (p - 196608) / 384 := by
      rw [show (p - 196608) / 384 = (p - 196608) / 3 / 128 from (Nat.div_div_eq_div_mul _ 3 128).symm,
        show ((p - 196608) % 3 * 16384 + (p - 196608) / 3) / 128 = (p - 196608) % 3 * 128 + (p - 196608) / 3 / 128 from by omega]
      have : (p - 196608) / 3 / 128 < 128 := by omega
      omega
    have e₃ : ((p - 196608) % 3 * 16384 + (p - 196608) / 3) % 128 = (p - 196608) / 3 % 128 := by omega
    rw [e₁, e₂, e₃]
    rfl
  rw [if_neg h1] at h ⊢
  by_cases h2 : p < 258048
  · rw [if_pos h2] at h ⊢
    refine (y1_level2 m ρ c r b ((p - 245760) % 3 * 4096 + (p - 245760) / 3) (by omega) (by omega)).trans ?_
    have e₁ : ((p - 245760) % 3 * 4096 + (p - 245760) / 3) / 4096 = (p - 245760) % 3 := by omega
    have e₂ : ((p - 245760) % 3 * 4096 + (p - 245760) / 3) / 64 % 64 = (p - 245760) / 192 := by
      rw [show (p - 245760) / 192 = (p - 245760) / 3 / 64 from (Nat.div_div_eq_div_mul _ 3 64).symm,
        show ((p - 245760) % 3 * 4096 + (p - 245760) / 3) / 64 = (p - 245760) % 3 * 64 + (p - 245760) / 3 / 64 from by omega]
      have : (p - 245760) / 3 / 64 < 64 := by omega
      omega
    have e₃ : ((p - 245760) % 3 * 4096 + (p - 245760) / 3) % 64 = (p - 245760) / 3 % 64 := by omega
    rw [e₁, e₂, e₃]
    rfl
  rw [if_neg h2] at h ⊢
  by_cases h3 : p < 261120
  · rw [if_pos h3] at h ⊢
    refine (y1_level3 m ρ c r b ((p - 258048) % 3 * 1024 + (p - 258048) / 3) (by omega) (by omega)).trans ?_
    have e₁ : ((p - 258048) % 3 * 1024 + (p - 258048) / 3) / 1024 = (p - 258048) % 3 := by omega
    have e₂ : ((p - 258048) % 3 * 1024 + (p - 258048) / 3) / 32 % 32 = (p - 258048) / 96 := by
      rw [show (p - 258048) / 96 = (p - 258048) / 3 / 32 from (Nat.div_div_eq_div_mul _ 3 32).symm,
        show ((p - 258048) % 3 * 1024 + (p - 258048) / 3) / 32 = (p - 258048) % 3 * 32 + (p - 258048) / 3 / 32 from by omega]
      have : (p - 258048) / 3 / 32 < 32 := by omega
      omega
    have e₃ : ((p - 258048) % 3 * 1024 + (p - 258048) / 3) % 32 = (p - 258048) / 3 % 32 := by omega
    rw [e₁, e₂, e₃]
    rfl
  rw [if_neg h3] at h ⊢
  refine (y1_level4 m ρ c r b ((p - 261120) % 3 * 256 + (p - 261120) / 3) (by omega) (by omega)).trans ?_
  have e₁ : ((p - 261120) % 3 * 256 + (p - 261120) / 3) / 256 = (p - 261120) % 3 := by omega
  have e₂ : ((p - 261120) % 3 * 256 + (p - 261120) / 3) / 16 % 16 = (p - 261120) / 48 := by
    rw [show (p - 261120) / 48 = (p - 261120) / 3 / 16 from (Nat.div_div_eq_div_mul _ 3 16).symm,
      show ((p - 261120) % 3 * 256 + (p - 261120) / 3) / 16 = (p - 261120) % 3 * 16 + (p - 261120) / 3 / 16 from by omega]
    have : (p - 261120) / 3 / 16 < 16 := by omega
    omega
  have e₃ : ((p - 261120) % 3 * 256 + (p - 261120) / 3) % 16 = (p - 261120) / 3 % 16 := by omega
  rw [e₁, e₂, e₃]
  rfl

theorem X2_at : W2 m ρ c (Proc.devRef .tc main_v258_2) (ix2 r b) = (args (W0 m ρ c)).X2 p := by
  unfold perm at h
  unfold Args.X2 pick
  by_cases h0 : p < 196608
  · rw [if_pos h0] at h ⊢
    refine (x2_level0 m ρ c r b (p % 3 * 65536 + p / 3) (by omega) (by omega)).trans ?_
    have e₁ : (p % 3 * 65536 + p / 3) / 65536 = p % 3 := by omega
    have e₂ : (p % 3 * 65536 + p / 3) / 256 % 256 = p / 768 := by
      rw [show p / 768 = p / 3 / 256 from (Nat.div_div_eq_div_mul _ 3 256).symm,
        show (p % 3 * 65536 + p / 3) / 256 = p % 3 * 256 + p / 3 / 256 from by omega]
      have : p / 3 / 256 < 256 := by omega
      omega
    have e₃ : (p % 3 * 65536 + p / 3) % 256 = p / 3 % 256 := by omega
    rw [e₁, e₂, e₃]
    rfl
  rw [if_neg h0] at h ⊢
  by_cases h1 : p < 245760
  · rw [if_pos h1] at h ⊢
    refine (x2_level1 m ρ c r b ((p - 196608) % 3 * 16384 + (p - 196608) / 3) (by omega) (by omega)).trans ?_
    have e₁ : ((p - 196608) % 3 * 16384 + (p - 196608) / 3) / 16384 = (p - 196608) % 3 := by omega
    have e₂ : ((p - 196608) % 3 * 16384 + (p - 196608) / 3) / 128 % 128 = (p - 196608) / 384 := by
      rw [show (p - 196608) / 384 = (p - 196608) / 3 / 128 from (Nat.div_div_eq_div_mul _ 3 128).symm,
        show ((p - 196608) % 3 * 16384 + (p - 196608) / 3) / 128 = (p - 196608) % 3 * 128 + (p - 196608) / 3 / 128 from by omega]
      have : (p - 196608) / 3 / 128 < 128 := by omega
      omega
    have e₃ : ((p - 196608) % 3 * 16384 + (p - 196608) / 3) % 128 = (p - 196608) / 3 % 128 := by omega
    rw [e₁, e₂, e₃]
    rfl
  rw [if_neg h1] at h ⊢
  by_cases h2 : p < 258048
  · rw [if_pos h2] at h ⊢
    refine (x2_level2 m ρ c r b ((p - 245760) % 3 * 4096 + (p - 245760) / 3) (by omega) (by omega)).trans ?_
    have e₁ : ((p - 245760) % 3 * 4096 + (p - 245760) / 3) / 4096 = (p - 245760) % 3 := by omega
    have e₂ : ((p - 245760) % 3 * 4096 + (p - 245760) / 3) / 64 % 64 = (p - 245760) / 192 := by
      rw [show (p - 245760) / 192 = (p - 245760) / 3 / 64 from (Nat.div_div_eq_div_mul _ 3 64).symm,
        show ((p - 245760) % 3 * 4096 + (p - 245760) / 3) / 64 = (p - 245760) % 3 * 64 + (p - 245760) / 3 / 64 from by omega]
      have : (p - 245760) / 3 / 64 < 64 := by omega
      omega
    have e₃ : ((p - 245760) % 3 * 4096 + (p - 245760) / 3) % 64 = (p - 245760) / 3 % 64 := by omega
    rw [e₁, e₂, e₃]
    rfl
  rw [if_neg h2] at h ⊢
  by_cases h3 : p < 261120
  · rw [if_pos h3] at h ⊢
    refine (x2_level3 m ρ c r b ((p - 258048) % 3 * 1024 + (p - 258048) / 3) (by omega) (by omega)).trans ?_
    have e₁ : ((p - 258048) % 3 * 1024 + (p - 258048) / 3) / 1024 = (p - 258048) % 3 := by omega
    have e₂ : ((p - 258048) % 3 * 1024 + (p - 258048) / 3) / 32 % 32 = (p - 258048) / 96 := by
      rw [show (p - 258048) / 96 = (p - 258048) / 3 / 32 from (Nat.div_div_eq_div_mul _ 3 32).symm,
        show ((p - 258048) % 3 * 1024 + (p - 258048) / 3) / 32 = (p - 258048) % 3 * 32 + (p - 258048) / 3 / 32 from by omega]
      have : (p - 258048) / 3 / 32 < 32 := by omega
      omega
    have e₃ : ((p - 258048) % 3 * 1024 + (p - 258048) / 3) % 32 = (p - 258048) / 3 % 32 := by omega
    rw [e₁, e₂, e₃]
    rfl
  rw [if_neg h3] at h ⊢
  refine (x2_level4 m ρ c r b ((p - 261120) % 3 * 256 + (p - 261120) / 3) (by omega) (by omega)).trans ?_
  have e₁ : ((p - 261120) % 3 * 256 + (p - 261120) / 3) / 256 = (p - 261120) % 3 := by omega
  have e₂ : ((p - 261120) % 3 * 256 + (p - 261120) / 3) / 16 % 16 = (p - 261120) / 48 := by
    rw [show (p - 261120) / 48 = (p - 261120) / 3 / 16 from (Nat.div_div_eq_div_mul _ 3 16).symm,
      show ((p - 261120) % 3 * 256 + (p - 261120) / 3) / 16 = (p - 261120) % 3 * 16 + (p - 261120) / 3 / 16 from by omega]
    have : (p - 261120) / 3 / 16 < 16 := by omega
    omega
  have e₃ : ((p - 261120) % 3 * 256 + (p - 261120) / 3) % 16 = (p - 261120) / 3 % 16 := by omega
  rw [e₁, e₂, e₃]
  rfl

theorem Y2_at : W2 m ρ c (Proc.devRef .tc main_v258_3) (ix2 r b) = (args (W0 m ρ c)).Y2 p := by
  unfold perm at h
  unfold Args.Y2 pick
  by_cases h0 : p < 196608
  · rw [if_pos h0] at h ⊢
    refine (y2_level0 m ρ c r b (p % 3 * 65536 + p / 3) (by omega) (by omega)).trans ?_
    have e₁ : (p % 3 * 65536 + p / 3) / 65536 = p % 3 := by omega
    have e₂ : (p % 3 * 65536 + p / 3) / 256 % 256 = p / 768 := by
      rw [show p / 768 = p / 3 / 256 from (Nat.div_div_eq_div_mul _ 3 256).symm,
        show (p % 3 * 65536 + p / 3) / 256 = p % 3 * 256 + p / 3 / 256 from by omega]
      have : p / 3 / 256 < 256 := by omega
      omega
    have e₃ : (p % 3 * 65536 + p / 3) % 256 = p / 3 % 256 := by omega
    rw [e₁, e₂, e₃]
    rfl
  rw [if_neg h0] at h ⊢
  by_cases h1 : p < 245760
  · rw [if_pos h1] at h ⊢
    refine (y2_level1 m ρ c r b ((p - 196608) % 3 * 16384 + (p - 196608) / 3) (by omega) (by omega)).trans ?_
    have e₁ : ((p - 196608) % 3 * 16384 + (p - 196608) / 3) / 16384 = (p - 196608) % 3 := by omega
    have e₂ : ((p - 196608) % 3 * 16384 + (p - 196608) / 3) / 128 % 128 = (p - 196608) / 384 := by
      rw [show (p - 196608) / 384 = (p - 196608) / 3 / 128 from (Nat.div_div_eq_div_mul _ 3 128).symm,
        show ((p - 196608) % 3 * 16384 + (p - 196608) / 3) / 128 = (p - 196608) % 3 * 128 + (p - 196608) / 3 / 128 from by omega]
      have : (p - 196608) / 3 / 128 < 128 := by omega
      omega
    have e₃ : ((p - 196608) % 3 * 16384 + (p - 196608) / 3) % 128 = (p - 196608) / 3 % 128 := by omega
    rw [e₁, e₂, e₃]
    rfl
  rw [if_neg h1] at h ⊢
  by_cases h2 : p < 258048
  · rw [if_pos h2] at h ⊢
    refine (y2_level2 m ρ c r b ((p - 245760) % 3 * 4096 + (p - 245760) / 3) (by omega) (by omega)).trans ?_
    have e₁ : ((p - 245760) % 3 * 4096 + (p - 245760) / 3) / 4096 = (p - 245760) % 3 := by omega
    have e₂ : ((p - 245760) % 3 * 4096 + (p - 245760) / 3) / 64 % 64 = (p - 245760) / 192 := by
      rw [show (p - 245760) / 192 = (p - 245760) / 3 / 64 from (Nat.div_div_eq_div_mul _ 3 64).symm,
        show ((p - 245760) % 3 * 4096 + (p - 245760) / 3) / 64 = (p - 245760) % 3 * 64 + (p - 245760) / 3 / 64 from by omega]
      have : (p - 245760) / 3 / 64 < 64 := by omega
      omega
    have e₃ : ((p - 245760) % 3 * 4096 + (p - 245760) / 3) % 64 = (p - 245760) / 3 % 64 := by omega
    rw [e₁, e₂, e₃]
    rfl
  rw [if_neg h2] at h ⊢
  by_cases h3 : p < 261120
  · rw [if_pos h3] at h ⊢
    refine (y2_level3 m ρ c r b ((p - 258048) % 3 * 1024 + (p - 258048) / 3) (by omega) (by omega)).trans ?_
    have e₁ : ((p - 258048) % 3 * 1024 + (p - 258048) / 3) / 1024 = (p - 258048) % 3 := by omega
    have e₂ : ((p - 258048) % 3 * 1024 + (p - 258048) / 3) / 32 % 32 = (p - 258048) / 96 := by
      rw [show (p - 258048) / 96 = (p - 258048) / 3 / 32 from (Nat.div_div_eq_div_mul _ 3 32).symm,
        show ((p - 258048) % 3 * 1024 + (p - 258048) / 3) / 32 = (p - 258048) % 3 * 32 + (p - 258048) / 3 / 32 from by omega]
      have : (p - 258048) / 3 / 32 < 32 := by omega
      omega
    have e₃ : ((p - 258048) % 3 * 1024 + (p - 258048) / 3) % 32 = (p - 258048) / 3 % 32 := by omega
    rw [e₁, e₂, e₃]
    rfl
  rw [if_neg h3] at h ⊢
  refine (y2_level4 m ρ c r b ((p - 261120) % 3 * 256 + (p - 261120) / 3) (by omega) (by omega)).trans ?_
  have e₁ : ((p - 261120) % 3 * 256 + (p - 261120) / 3) / 256 = (p - 261120) % 3 := by omega
  have e₂ : ((p - 261120) % 3 * 256 + (p - 261120) / 3) / 16 % 16 = (p - 261120) / 48 := by
    rw [show (p - 261120) / 48 = (p - 261120) / 3 / 16 from (Nat.div_div_eq_div_mul _ 3 16).symm,
      show ((p - 261120) % 3 * 256 + (p - 261120) / 3) / 16 = (p - 261120) % 3 * 16 + (p - 261120) / 3 / 16 from by omega]
    have : (p - 261120) / 3 / 16 < 16 := by omega
    omega
  have e₃ : ((p - 261120) % 3 * 256 + (p - 261120) / 3) % 16 = (p - 261120) / 3 % 16 := by omega
  rw [e₁, e₂, e₃]
  rfl

theorem SC_at : W2 m ρ c (Proc.devRef .tc main_v258_4) (ix2 r b) = (args (W0 m ρ c)).SC p := by
  unfold perm at h
  unfold Args.SC pick
  by_cases h0 : p < 196608
  · rw [if_pos h0] at h ⊢
    refine (sc_level0 m ρ c r b (p % 3 * 65536 + p / 3) (by omega) (by omega)).trans ?_
    have e₁ : (p % 3 * 65536 + p / 3) / 65536 = p % 3 := by omega
    have e₂ : (p % 3 * 65536 + p / 3) / 256 % 256 = p / 768 := by
      rw [show p / 768 = p / 3 / 256 from (Nat.div_div_eq_div_mul _ 3 256).symm,
        show (p % 3 * 65536 + p / 3) / 256 = p % 3 * 256 + p / 3 / 256 from by omega]
      have : p / 3 / 256 < 256 := by omega
      omega
    have e₃ : (p % 3 * 65536 + p / 3) % 256 = p / 3 % 256 := by omega
    rw [e₁, e₂, e₃]
    rfl
  rw [if_neg h0] at h ⊢
  by_cases h1 : p < 245760
  · rw [if_pos h1] at h ⊢
    refine (sc_level1 m ρ c r b ((p - 196608) % 3 * 16384 + (p - 196608) / 3) (by omega) (by omega)).trans ?_
    have e₁ : ((p - 196608) % 3 * 16384 + (p - 196608) / 3) / 16384 = (p - 196608) % 3 := by omega
    have e₂ : ((p - 196608) % 3 * 16384 + (p - 196608) / 3) / 128 % 128 = (p - 196608) / 384 := by
      rw [show (p - 196608) / 384 = (p - 196608) / 3 / 128 from (Nat.div_div_eq_div_mul _ 3 128).symm,
        show ((p - 196608) % 3 * 16384 + (p - 196608) / 3) / 128 = (p - 196608) % 3 * 128 + (p - 196608) / 3 / 128 from by omega]
      have : (p - 196608) / 3 / 128 < 128 := by omega
      omega
    have e₃ : ((p - 196608) % 3 * 16384 + (p - 196608) / 3) % 128 = (p - 196608) / 3 % 128 := by omega
    rw [e₁, e₂, e₃]
    rfl
  rw [if_neg h1] at h ⊢
  by_cases h2 : p < 258048
  · rw [if_pos h2] at h ⊢
    refine (sc_level2 m ρ c r b ((p - 245760) % 3 * 4096 + (p - 245760) / 3) (by omega) (by omega)).trans ?_
    have e₁ : ((p - 245760) % 3 * 4096 + (p - 245760) / 3) / 4096 = (p - 245760) % 3 := by omega
    have e₂ : ((p - 245760) % 3 * 4096 + (p - 245760) / 3) / 64 % 64 = (p - 245760) / 192 := by
      rw [show (p - 245760) / 192 = (p - 245760) / 3 / 64 from (Nat.div_div_eq_div_mul _ 3 64).symm,
        show ((p - 245760) % 3 * 4096 + (p - 245760) / 3) / 64 = (p - 245760) % 3 * 64 + (p - 245760) / 3 / 64 from by omega]
      have : (p - 245760) / 3 / 64 < 64 := by omega
      omega
    have e₃ : ((p - 245760) % 3 * 4096 + (p - 245760) / 3) % 64 = (p - 245760) / 3 % 64 := by omega
    rw [e₁, e₂, e₃]
    rfl
  rw [if_neg h2] at h ⊢
  by_cases h3 : p < 261120
  · rw [if_pos h3] at h ⊢
    refine (sc_level3 m ρ c r b ((p - 258048) % 3 * 1024 + (p - 258048) / 3) (by omega) (by omega)).trans ?_
    have e₁ : ((p - 258048) % 3 * 1024 + (p - 258048) / 3) / 1024 = (p - 258048) % 3 := by omega
    have e₂ : ((p - 258048) % 3 * 1024 + (p - 258048) / 3) / 32 % 32 = (p - 258048) / 96 := by
      rw [show (p - 258048) / 96 = (p - 258048) / 3 / 32 from (Nat.div_div_eq_div_mul _ 3 32).symm,
        show ((p - 258048) % 3 * 1024 + (p - 258048) / 3) / 32 = (p - 258048) % 3 * 32 + (p - 258048) / 3 / 32 from by omega]
      have : (p - 258048) / 3 / 32 < 32 := by omega
      omega
    have e₃ : ((p - 258048) % 3 * 1024 + (p - 258048) / 3) % 32 = (p - 258048) / 3 % 32 := by omega
    rw [e₁, e₂, e₃]
    rfl
  rw [if_neg h3] at h ⊢
  refine (sc_level4 m ρ c r b ((p - 261120) % 3 * 256 + (p - 261120) / 3) (by omega) (by omega)).trans ?_
  have e₁ : ((p - 261120) % 3 * 256 + (p - 261120) / 3) / 256 = (p - 261120) % 3 := by omega
  have e₂ : ((p - 261120) % 3 * 256 + (p - 261120) / 3) / 16 % 16 = (p - 261120) / 48 := by
    rw [show (p - 261120) / 48 = (p - 261120) / 3 / 16 from (Nat.div_div_eq_div_mul _ 3 16).symm,
      show ((p - 261120) % 3 * 256 + (p - 261120) / 3) / 16 = (p - 261120) % 3 * 16 + (p - 261120) / 3 / 16 from by omega]
    have : (p - 261120) / 3 / 16 < 16 := by omega
    omega
  have e₃ : ((p - 261120) % 3 * 256 + (p - 261120) / 3) % 16 = (p - 261120) / 3 % 16 := by omega
  rw [e₁, e₂, e₃]
  rfl

end Cert.Rpn.Ker
end
-- ==== Proof.KerScores.lean ====
/- The scores in the reference's order, as the host lists them before the selection. -/
module

public import proofs.«01_k».proof.Proof.KerOrder
public import Idealize.ShloMosaic.Lib.StableHlo.ReadAt

@[expose] public section

set_option maxRecDepth 16384

noncomputable section

namespace Cert.Rpn.Ker

open Cert.KernelIdeal Cert.KernelIdeal.Gen
open Idealize.ShloMosaic Idealize.ShloMosaic.TcCoe Idealize.ShloMosaic.StableHlo

/-- Place `p` of the list is the decoded score at place `perm p`. -/
theorem list_at (V : Valuation τ sig (Elt Ideal)) (p : Fin 261888) (r : Fin 2046) (b : Fin 128) (h : r.val * 128 + b.val = perm p.val) :
    after hostOps1 V (Proc.devRef .tc main_v279) (ix1 p) = V (Proc.devRef .tc main_v258_4) (ix2 r b) := by
  have hb := b.isLt
  have hp := p.isLt
  unfold perm at h
  after_reads_at
  by_cases h0 : p.val < 196608
  · rw [if_pos h0] at h
    rw [dif_pos (by omega)]
    obtain ⟨q, hq⟩ : ∃ q : Fin 196608, q.val = p.val := ⟨⟨p.val, by omega⟩, rfl⟩
    simp only [← hq, Fin.eta]
    rw [show p.val = q.val from by omega] at h
    after_reads_at
    refine congrArg (V (Proc.devRef .tc main_v258_4)) (congrArg₂ ix2 (Fin.ext ?_) (Fin.ext ?_)) <;> dsimp only <;> omega
  rw [if_neg h0] at h
  by_cases h1 : p.val < 245760
  · rw [if_pos h1] at h
    rw [dif_neg (by omega), dif_pos (by omega)]
    obtain ⟨q, hq⟩ : ∃ q : Fin 49152, q.val = p.val - 196608 := ⟨⟨p.val - 196608, by omega⟩, rfl⟩
    simp only [← hq, Fin.eta]
    rw [show p.val - 196608 = q.val from by omega] at h
    after_reads_at
    refine congrArg (V (Proc.devRef .tc main_v258_4)) (congrArg₂ ix2 (Fin.ext ?_) (Fin.ext ?_)) <;> dsimp only <;> omega
  rw [if_neg h1] at h
  by_cases h2 : p.val < 258048
  · rw [if_pos h2] at h
    rw [dif_neg (by omega), dif_neg (by omega), dif_pos (by omega)]
    obtain ⟨q, hq⟩ : ∃ q : Fin 12288, q.val = p.val - 196608 - 49152 := ⟨⟨p.val - 196608 - 49152, by omega⟩, rfl⟩
    simp only [← hq, Fin.eta]
    rw [show p.val - 245760 = q.val from by omega] at h
    after_reads_at
    refine congrArg (V (Proc.devRef .tc main_v258_4)) (congrArg₂ ix2 (Fin.ext ?_) (Fin.ext ?_)) <;> dsimp only <;> omega
  rw [if_neg h2] at h
  by_cases h3 : p.val < 261120
  · rw [if_pos h3] at h
    rw [dif_neg (by omega), dif_neg (by omega), dif_neg (by omega), dif_pos (by omega)]
    obtain ⟨q, hq⟩ : ∃ q : Fin 3072, q.val = p.val - 196608 - 49152 - 12288 := ⟨⟨p.val - 196608 - 49152 - 12288, by omega⟩, rfl⟩
    simp only [← hq, Fin.eta]
    rw [show p.val - 258048 = q.val from by omega] at h
    after_reads_at
    refine congrArg (V (Proc.devRef .tc main_v258_4)) (congrArg₂ ix2 (Fin.ext ?_) (Fin.ext ?_)) <;> dsimp only <;> omega
  rw [if_neg h3] at h
  rw [dif_neg (by omega), dif_neg (by omega), dif_neg (by omega), dif_neg (by omega)]
  obtain ⟨q, hq⟩ : ∃ q : Fin 768, q.val = p.val - 196608 - 49152 - 12288 - 3072 := ⟨⟨p.val - 196608 - 49152 - 12288 - 3072, by omega⟩, rfl⟩
  simp only [← hq, Fin.eta]
  rw [show p.val - 261120 = q.val from by omega] at h
  after_reads_at
  refine congrArg (V (Proc.devRef .tc main_v258_4)) (congrArg₂ ix2 (Fin.ext ?_) (Fin.ext ?_)) <;> dsimp only <;> omega

/-- The list of scores. -/
theorem scores_at (m : (ℓ : Loc nD τ sig) → Buf (Elt Ideal) ℓ) (ρ : Dev nD → PrngReg) (c : Dev nD) (p : Fin 261888) :
    W3 m ρ c (Proc.devRef .tc main_v279) (ix1 p) = (args (W0 m ρ c)).SC p.val := by
  have hp := perm_lt p.val p.isLt
  have h : (⟨perm p.val / 128, by omega⟩ : Fin 2046).val * 128 + (⟨perm p.val % 128, by omega⟩ : Fin 128).val = perm p.val := by
    dsimp only; omega
  exact (list_at (W2 m ρ c) p _ _ h).trans (SC_at m ρ c _ _ p.val p.isLt h)

end Cert.Rpn.Ker
end
-- ==== Proof.Nms.lean ====
/- The suppression of overlapping boxes, on lists of box edges: which of the first 2000 boxes are kept before each trip. -/
module

public import proofs.«01_k».proof.Proof.Spec

@[expose] public section

noncomputable section

namespace Cert.Rpn

open Idealize.ShloMosaic

/-- The overlap above which a box suppresses a later one. -/
abbrev limit : Ideal .f32 := Ideal.ofBits .f32 1060320051#32

/-- Lists of box edges. -/
structure Boxes where
  (x1 y1 x2 y2 : ℕ → Ideal .f32)

namespace Boxes

variable (B : Boxes)

/-- A box's area. -/
def area (j : ℕ) : Ideal .f32 := (B.x2 j - B.x1 j + 1) * (B.y2 j - B.y1 j + 1)

/-- The area two boxes share. -/
def inter (i j : ℕ) : Ideal .f32 :=
  max 0 (min (B.x2 i) (B.x2 j) - max (B.x1 i) (B.x1 j) + 1) * max 0 (min (B.y2 i) (B.y2 j) - max (B.y1 i) (B.y1 j) + 1)

/-- Whether two boxes overlap by more than the limit. -/
def over (i j : ℕ) : Bool := decide (limit < Ideal.div (B.inter i j) (B.area i + B.area j - B.inter i j))

/-- Whether box `j` is kept before trip `k`: trip `i` drops each later box that box `i`, if itself kept, overlaps. -/
def keep : ℕ → ℕ → Bool
  | 0, _ => true
  | k + 1, j => keep k j && !(B.over k j && decide (k < j) && keep k k)

theorem keep_succ (k j : ℕ) : B.keep (k + 1) j = (B.keep k j && !(B.over k j && decide (k < j) && B.keep k k)) := rfl

end Boxes

end Cert.Rpn
end
-- ==== Proof.Take.lean ====
/- Two readings the programs share: a gather of single entries or of rows by a column of indices, and where a top-k's indices lie. -/
module

public import Idealize.ShloMosaic.Lib.Pointwise
public import Idealize.ShloMosaic.Lib.ValueIdx

@[expose] public section

noncomputable section

namespace Cert.Rpn

open Idealize.ShloMosaic

variable {α : Type}

/-- Entries `x[idx]` of a flat array, by a column of indices. -/
theorem take_apply {N R : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (i : Fin R) :
    Host.gather (⟨[], [0], [], [], [0], 1, ![1], wf⟩ : GatherDims ⟨1, ![N]⟩ ⟨2, ![R, 1]⟩ ⟨1, ![R]⟩) x idx (ix1 i)
      = x (ix1 ⟨min (idx (ix2 i 0)).toInt.toNat (N - 1), by omega⟩) := by
  unfold Host.gather
  congr 1
  funext a
  obtain rfl : a = 0 := Subsingleton.elim _ _
  refine Fin.ext ?_
  set d : GatherDims ⟨1, ![N]⟩ ⟨2, ![R, 1]⟩ ⟨1, ![R]⟩ := ⟨[], [0], [], [], [0], 1, ![1], wf⟩
  show d.start (ix1 i) idx 0 + d.batchCoord (ix1 i) 0 + d.offCoord (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ d.startIndexMap from List.mem_singleton.mpr rfl)]
  have hsi : d.siIdx (ix1 i) ⟨List.idxOf (0 : Fin 1) d.startIndexMap,
      List.idxOf_lt_length_iff.2 (List.mem_singleton.mpr rfl)⟩ = ix2 i 0 := by
    funext b; refine Fin.ext ?_
    match b with
    | ⟨0, _⟩ => rfl
    | ⟨1, _⟩ => rfl
  rw [hsi]
  rfl

/-- Rows `x[idx]` of an array, by a column of indices. -/
theorem takeRows_apply {N R C : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (i : Fin R) (j : Fin C) :
    Host.gather (⟨[1], [0], [], [], [0], 1, ![1, C], wf⟩ : GatherDims ⟨2, ![N, C]⟩ ⟨2, ![R, 1]⟩ ⟨2, ![R, C]⟩) x idx (ix2 i j)
      = x (ix2 ⟨min (idx (ix2 i 0)).toInt.toNat (N - 1), by omega⟩ j) := by
  unfold Host.gather
  congr 1
  funext a
  refine Fin.ext ?_
  set d : GatherDims ⟨2, ![N, C]⟩ ⟨2, ![R, 1]⟩ ⟨2, ![R, C]⟩ := ⟨[1], [0], [], [], [0], 1, ![1, C], wf⟩
  show d.start (ix2 i j) idx a + d.batchCoord (ix2 i j) a + d.offCoord (ix2 i j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix2 i j) ⟨List.idxOf (0 : Fin 2) d.startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]
    rfl
  · unfold GatherDims.start
    rw [dif_neg (show (1 : Fin 2) ∉ d.startIndexMap from by simp [d])]
    simp only [Nat.zero_add, Nat.add_zero]
    unfold GatherDims.offCoord
    rw [dif_pos (show (1 : Fin 2) ∈ d.sKept from (GatherDims.mem_sKept _ _).mpr ⟨by simp [d], by simp [d]⟩)]
    rfl

/-- An index that is not negative is not moved. -/
theorem norm_index (n N : ℕ) (d : BitVec 32) (hn : n < N) (hN : N ≤ 2 ^ 31) :
    min (Scalar.select (IntOp.cmpi .slt (BitVec.ofNat 32 n) 0#32) (IntOp.addi (BitVec.ofNat 32 n) d) (BitVec.ofNat 32 n)).toInt.toNat (N - 1) = n := by
  have h : (BitVec.ofNat 32 n).toInt = n := by rw [BitVec.toInt_ofNat']; simp only [Int.bmod]; omega
  have e : IntOp.cmpi .slt (BitVec.ofNat 32 n) 0#32 = 0#1 := by
    show BitVec.ofBool (BitVec.slt (BitVec.ofNat 32 n) 0#32) = 0#1
    rw [show BitVec.slt (BitVec.ofNat 32 n) 0#32 = false from by
      unfold BitVec.slt; rw [h]; exact decide_eq_false (by simp)]
    rfl
  rw [e]
  show min (BitVec.ofNat 32 n).toInt.toNat (N - 1) = n
  rw [h, Int.toNat_natCast]
  omega

/-- A list as a column. -/
theorem col_apply {R : ℕ} (v : (⟨1, ![R]⟩ : Shape).Idx → α) (h) (i : Fin R) : broadcastInDim ⟨2, ![R, 1]⟩ ![0] h v (ix2 i 0) = v (ix1 i) := by
  have hi := i.isLt
  unfold broadcastInDim
  refine congrArg v (funext fun a => Fin.ext ?_)
  obtain rfl : a = 0 := Subsingleton.elim _ _
  by_cases hR : R = 1
  · refine (congrArg Fin.val (dif_pos hR)).trans ?_
    show 0 = i.val
    omega
  · exact congrArg Fin.val (dif_neg hR)

/-- Entries of a flat array by indices that are places of it, as the host writes the read. -/
theorem take_norm {N R : ℕ} (hN : N ≤ 2 ^ 31)
    (wf : GatherDims.WF ⟨1, ![N]⟩ ⟨2, ![R, 1]⟩ ⟨1, ![R]⟩ [] [0] [] [0] [] 1 ![1])
    (x : (⟨1, ![N]⟩ : Shape).Idx → α) (I : IVec ⟨1, ![R]⟩ 32) (d : BitVec 32) (h1 h2 h3) (i : Fin R) (n : ℕ) (hn : n < N) (h : I (ix1 i) = BitVec.ofNat 32 n) :
    Host.gather (⟨[], [0], [], [], [0], 1, ![1], wf⟩ : GatherDims ⟨1, ![N]⟩ ⟨2, ![R, 1]⟩ ⟨1, ![R]⟩) x
      (broadcastInDim ⟨2, ![R, 1]⟩ ![0] h1 (select (cmpi .slt I (broadcastInDim ⟨1, ![R]⟩ ![] h2 (constantI ⟨0, ![]⟩ 32 0#32)))
        (addi I (broadcastInDim ⟨1, ![R]⟩ ![] h3 (constantI ⟨0, ![]⟩ 32 d))) I)) (ix1 i)
      = x (ix1 ⟨n, hn⟩) := by
  refine (take_apply (by omega) wf x _ i).trans (congrArg x (congrArg ix1 (Fin.ext ?_)))
  dsimp only
  rw [col_apply]
  pointwise
  rw [h]
  exact norm_index n N d hn hN

/-- Rows of an array by indices that are places of it, as the host writes the read. -/
theorem takeRows_norm {N R C : ℕ} (hN : N ≤ 2 ^ 31)
    (wf : GatherDims.WF ⟨2, ![N, C]⟩ ⟨2, ![R, 1]⟩ ⟨2, ![R, C]⟩ [1] [0] [] [0] [] 1 ![1, C])
    (x : (⟨2, ![N, C]⟩ : Shape).Idx → α) (I : IVec ⟨1, ![R]⟩ 32) (d : BitVec 32) (h1 h2 h3) (i : Fin R) (j : Fin C) (n : ℕ) (hn : n < N) (h : I (ix1 i) = BitVec.ofNat 32 n) :
    Host.gather (⟨[1], [0], [], [], [0], 1, ![1, C], wf⟩ : GatherDims ⟨2, ![N, C]⟩ ⟨2, ![R, 1]⟩ ⟨2, ![R, C]⟩) x
      (broadcastInDim ⟨2, ![R, 1]⟩ ![0] h1 (select (cmpi .slt I (broadcastInDim ⟨1, ![R]⟩ ![] h2 (constantI ⟨0, ![]⟩ 32 0#32)))
        (addi I (broadcastInDim ⟨1, ![R]⟩ ![] h3 (constantI ⟨0, ![]⟩ 32 d))) I)) (ix2 i j)
      = x (ix2 ⟨n, hn⟩ j) := by
  refine (takeRows_apply (by omega) wf x _ i j).trans (congrArg x (congrArg (ix2 · j) (Fin.ext ?_)))
  dsimp only
  rw [col_apply]
  pointwise
  rw [h]
  exact norm_index n N d hn hN

/-- A top-k's index is a place of its operand. -/
theorem topK_index {N k : ℕ} (gt : α → α → BitVec 1) (x : (⟨1, ![N]⟩ : Shape).Idx → α)
    (h : (⟨1, ![N]⟩ : Shape).Slices (fun _ => 0) ⟨1, ![k]⟩) (i : Fin k) :
    ∃ q : Fin N, (Host.topK ⟨1, ![k]⟩ 0 gt x h).2 (ix1 i) = BitVec.ofNat 32 q.val := by
  unfold Host.topK
  simp only [Host.sort2, extractStridedSlice]
  rw [dif_pos (by decide : (0 : ℕ) < 1)]
  exact ⟨_, rfl⟩

end Cert.Rpn
end
-- ==== Proof.Select.lean ====
/- What both programs compute once every anchor is decoded: the 2000 best scores, the boxes they belong to, which of these are
   kept, and the 1000 best of the kept ones. -/
module

public import proofs.«01_k».proof.Proof.Order
public import proofs.«01_k».proof.Proof.Nms
public import proofs.«01_k».proof.Proof.Take

@[expose] public section

noncomputable section

namespace Cert.Rpn

open Idealize.ShloMosaic

theorem fits1 : (⟨1, ![261888]⟩ : Shape).Slices (fun _ => 0) ⟨1, ![2000]⟩ := by decide
theorem fits2 : (⟨1, ![2000]⟩ : Shape).Slices (fun _ => 0) ⟨1, ![1000]⟩ := by decide

/-- The 2000 best of all scores, and where they lie. -/
def topVals (x : FVec Ideal ⟨1, ![261888]⟩ .f32) : FVec Ideal ⟨1, ![2000]⟩ .f32 :=
  (Host.topK (α := Ideal .f32) ⟨1, ![2000]⟩ 0 (FloatOps.cmpfTotal .gt) x fits1).1
def topInds (x : FVec Ideal ⟨1, ![261888]⟩ .f32) : IVec ⟨1, ![2000]⟩ 32 :=
  (Host.topK (α := Ideal .f32) ⟨1, ![2000]⟩ 0 (FloatOps.cmpfTotal .gt) x fits1).2

/-- The 1000 best of the 2000, and where they lie. -/
def topVals2 (x : FVec Ideal ⟨1, ![2000]⟩ .f32) : FVec Ideal ⟨1, ![1000]⟩ .f32 :=
  (Host.topK (α := Ideal .f32) ⟨1, ![1000]⟩ 0 (FloatOps.cmpfTotal .gt) x fits2).1
def topInds2 (x : FVec Ideal ⟨1, ![2000]⟩ .f32) : IVec ⟨1, ![1000]⟩ 32 :=
  (Host.topK (α := Ideal .f32) ⟨1, ![1000]⟩ 0 (FloatOps.cmpfTotal .gt) x fits2).2

theorem topInds_at (x : FVec Ideal ⟨1, ![261888]⟩ .f32) (i : Fin 2000) :
    (topInds x (ix1 i)).toNat < 261888 ∧ topInds x (ix1 i) = BitVec.ofNat 32 (topInds x (ix1 i)).toNat := by
  obtain ⟨q, hq⟩ := topK_index (α := Ideal .f32) (FloatOps.cmpfTotal .gt) x fits1 i
  have e : topInds x (ix1 i) = BitVec.ofNat 32 q.val := hq
  have hl := q.isLt
  rw [e, BitVec.toNat_ofNat, Nat.mod_eq_of_lt (by omega)]
  exact ⟨hl, rfl⟩

theorem topInds2_at (x : FVec Ideal ⟨1, ![2000]⟩ .f32) (i : Fin 1000) :
    (topInds2 x (ix1 i)).toNat < 2000 ∧ topInds2 x (ix1 i) = BitVec.ofNat 32 (topInds2 x (ix1 i)).toNat := by
  obtain ⟨q, hq⟩ := topK_index (α := Ideal .f32) (FloatOps.cmpfTotal .gt) x fits2 i
  have e : topInds2 x (ix1 i) = BitVec.ofNat 32 q.val := hq
  have hl := q.isLt
  rw [e, BitVec.toNat_ofNat, Nat.mod_eq_of_lt (by omega)]
  exact ⟨hl, rfl⟩

/-- A row: a zero, and four numbers. -/
def row (a b c d : Ideal .f32) (k : Fin 5) : Ideal .f32 :=
  if k.val = 0 then 0 else if k.val = 1 then a else if k.val = 2 then b else if k.val = 3 then c else d

/-- A row by its cells. -/
theorem eq_row (a b c d : Ideal .f32) (f : Fin 5 → Ideal .f32) (h0 : f 0 = 0) (h1 : f 1 = a) (h2 : f 2 = b) (h3 : f 3 = c) (h4 : f 4 = d) (k : Fin 5) :
    f k = row a b c d k := by
  match k with
  | ⟨0, _⟩ => exact h0
  | ⟨1, _⟩ => exact h1
  | ⟨2, _⟩ => exact h2
  | ⟨3, _⟩ => exact h3
  | ⟨4, _⟩ => exact h4

namespace Args

variable (A : Args)

/-- All scores, in the reference's order. -/
def scores : FVec Ideal ⟨1, ![261888]⟩ .f32 := fun y => A.SC (y 0).val

/-- The place of the `j`-th best. -/
def best (j : ℕ) : ℕ := if h : j < 2000 then (topInds A.scores (ix1 ⟨j, h⟩)).toNat else 0

theorem best_lt (j : ℕ) : A.best j < 261888 := by
  unfold best
  split_ifs with h
  · exact (topInds_at A.scores ⟨j, h⟩).1
  · omega

theorem best_at (i : Fin 2000) : topInds A.scores (ix1 i) = BitVec.ofNat 32 (A.best i.val) := by
  have e : A.best i.val = (topInds A.scores (ix1 i)).toNat := dif_pos i.isLt
  rw [e]
  exact (topInds_at A.scores i).2

/-- The boxes of the 2000 best. -/
def boxes : Boxes := ⟨fun j => A.X1 (A.best j), fun j => A.Y1 (A.best j), fun j => A.X2 (A.best j), fun j => A.Y2 (A.best j)⟩

/-- The 2000 best scores, those of dropped boxes replaced by a large negative number. -/
def kept : FVec Ideal ⟨1, ![2000]⟩ .f32 := fun y =>
  if A.boxes.keep 2000 (y 0).val = true then topVals A.scores y else Ideal.ofBits .f32 0xCE6E6B28#32

/-- The place, among the 2000, of the `j`-th best kept. -/
def last (j : Fin 1000) : ℕ := (topInds2 A.kept (ix1 j)).toNat

theorem last_lt (j : Fin 1000) : A.last j < 2000 := (topInds2_at A.kept j).1
theorem last_at (j : Fin 1000) : topInds2 A.kept (ix1 j) = BitVec.ofNat 32 (A.last j) := (topInds2_at A.kept j).2

/-- The scores both programs return. -/
def resScores : FVec Ideal ⟨1, ![1000]⟩ .f32 := topVals2 A.kept

/-- The boxes both programs return: in each row a zero, and the box's edges. -/
def resBoxes : FVec Ideal ⟨2, ![1000, 5]⟩ .f32 := fun y =>
  row (A.boxes.x1 (A.last (y 0))) (A.boxes.y1 (A.last (y 0))) (A.boxes.x2 (A.last (y 0))) (A.boxes.y2 (A.last (y 0))) (y 1)

theorem resBoxes_at (i : Fin 1000) (k : Fin 5) : A.resBoxes (ix2 i k)
    = row (A.boxes.x1 (A.last i)) (A.boxes.y1 (A.last i)) (A.boxes.x2 (A.last i)) (A.boxes.y2 (A.last i)) k := rfl

/-- An array of the rows is the result. -/
theorem eq_resBoxes (f : FVec Ideal ⟨2, ![1000, 5]⟩ .f32) (h0 : ∀ i : Fin 1000, f (ix2 i 0) = 0)
    (h1 : ∀ i : Fin 1000, f (ix2 i 1) = A.boxes.x1 (A.last i)) (h2 : ∀ i : Fin 1000, f (ix2 i 2) = A.boxes.y1 (A.last i))
    (h3 : ∀ i : Fin 1000, f (ix2 i 3) = A.boxes.x2 (A.last i)) (h4 : ∀ i : Fin 1000, f (ix2 i 4) = A.boxes.y2 (A.last i)) : f = A.resBoxes := by
  funext y
  obtain ⟨i, k, rfl⟩ : ∃ i k, y = ix2 i k := ⟨y 0, y 1, eq_ix2 y⟩
  exact (eq_row _ _ _ _ (fun k => f (ix2 i k)) (h0 i) (h1 i) (h2 i) (h3 i) (h4 i) k).trans (A.resBoxes_at i k).symm

end Args

end Cert.Rpn
end
-- ==== Proof.KerIndex.lean ====
/- Where the kernel looks for the boxes of the best scores: the place `q` of the reference's order, taken to `perm q` by the
   level it lies in, the level's first place and the level's plane. -/
module

public import proofs.«01_k».proof.Proof.KerScores
public import proofs.«01_k».proof.Proof.Select
public import Idealize.ShloMosaic.Lib.Routing.Words
public import Idealize.ShloMosaic.Lib.IndicatorCount

@[expose] public section

set_option maxRecDepth 16384

noncomputable section

namespace Cert.Rpn.Ker

open Cert.KernelIdeal Cert.KernelIdeal.Gen
open Idealize.ShloMosaic Idealize.ShloMosaic.TcCoe Idealize.ShloMosaic.StableHlo Idealize.ShloMosaic.WordCmp

/-- A level's first place; a level's plane; the level of a place. -/
def start (l : ℕ) : ℕ := if l = 0 then 0 else if l = 1 then 196608 else if l = 2 then 245760 else if l = 3 then 258048 else if l = 4 then 261120 else 261888
def plane (l : ℕ) : ℕ := if l = 0 then 65536 else if l = 1 then 16384 else if l = 2 then 4096 else if l = 3 then 1024 else 256
def level (q : ℕ) : ℕ := if q < 196608 then 0 else if q < 245760 then 1 else if q < 258048 then 2 else if q < 261120 then 3 else 4

theorem perm_eq (q : ℕ) : perm q = start (level q) + (q - start (level q)) % 3 * plane (level q) + (q - start (level q)) / 3 := by
  unfold perm level
  split_ifs
  all_goals
    simp only [start, plane, reduceIte, OfNat.ofNat_ne_zero, OfNat.ofNat_ne_one, one_ne_zero, Nat.reduceEqDiff]
    omega

theorem level_lt (q : ℕ) : level q < 5 := by unfold level; split_ifs <;> omega
theorem start_le (q : ℕ) : start (level q) ≤ q := by
  unfold level
  split_ifs
  all_goals
    simp only [start, reduceIte, OfNat.ofNat_ne_zero, OfNat.ofNat_ne_one, one_ne_zero, Nat.reduceEqDiff]
    omega

/-- The remainder of a small number by three, as the host writes it. -/
theorem mod_three (a : ℕ) (ha : a < 2 ^ 31) (w d : BitVec 32) (hw : w = BitVec.ofNat 32 a) (hd : d = 3#32) :
    Scalar.select (IntOp.andi (IntOp.cmpi .ne (IntOp.cmpi .slt (IntOp.remsi .host w (Scalar.select (IntOp.cmpi .eq d 0#32) (1#32) d)) 0#32)
        (IntOp.cmpi .slt (Scalar.select (IntOp.cmpi .eq d 0#32) (1#32) d) 0#32))
        (IntOp.cmpi .ne (IntOp.remsi .host w (Scalar.select (IntOp.cmpi .eq d 0#32) (1#32) d)) 0#32))
      (IntOp.addi (IntOp.remsi .host w (Scalar.select (IntOp.cmpi .eq d 0#32) (1#32) d)) (Scalar.select (IntOp.cmpi .eq d 0#32) (1#32) d))
      (IntOp.remsi .host w (Scalar.select (IntOp.cmpi .eq d 0#32) (1#32) d)) = BitVec.ofNat 32 (a % 3) := by
  subst hw hd
  rw [show Scalar.select (IntOp.cmpi .eq (3#32) 0#32) (1#32) (3#32) = 3#32 from by decide, Routing.remsi_word .host (b := 3) ha (by omega) (by omega)]
  have : a % 3 = 0 ∨ a % 3 = 1 ∨ a % 3 = 2 := by omega
  rcases this with e | e | e <;> rw [e] <;> decide

/-- The quotient of a small number by three, as the host writes it. -/
theorem div_three (a : ℕ) (ha : a < 2 ^ 31) (w d : BitVec 32) (hw : w = BitVec.ofNat 32 a) (hd : d = 3#32) :
    Scalar.select (IntOp.andi (IntOp.cmpi .ne (if w = 0 then (0 : BitVec 32) else if BitVec.msb w = true then -1 else 1)
        (if d = 0 then (0 : BitVec 32) else if BitVec.msb d = true then -1 else 1))
        (IntOp.cmpi .ne (IntOp.remsi .host w d) 0#32))
      (IntOp.subi (IntOp.divsi .host w d) 1#32) (IntOp.divsi .host w d) = BitVec.ofNat 32 (a / 3) := by
  subst hw hd
  rw [Routing.remsi_word .host (b := 3) ha (by omega) (by omega), Routing.divsi_word .host (b := 3) ha (by omega) (by omega)]
  have hz : IntOp.andi (IntOp.cmpi .ne (if BitVec.ofNat 32 a = 0 then (0 : BitVec 32) else if BitVec.msb (BitVec.ofNat 32 a) = true then -1 else 1)
      (if (3#32) = 0 then (0 : BitVec 32) else if BitVec.msb (3#32) = true then -1 else 1)) (IntOp.cmpi .ne (BitVec.ofNat 32 (a % 3)) 0#32) = 0#1 := by
    by_cases e : a % 3 = 0
    · rw [e]
      split_ifs <;> decide
    · have h0 : ¬ BitVec.ofNat 32 a = 0 := by
        intro h
        have := congrArg BitVec.toNat h
        rw [BitVec.toNat_ofNat, Nat.mod_eq_of_lt (by omega)] at this
        change a = 0 at this
        omega
      have hm : ¬ BitVec.msb (BitVec.ofNat 32 a) = true := by
        rw [BitVec.msb_eq_decide, BitVec.toNat_ofNat, Nat.mod_eq_of_lt (by omega)]
        simp only [decide_eq_true_eq]
        omega
      rw [if_neg h0, if_neg hm]
      have : a % 3 = 1 ∨ a % 3 = 2 := by omega
      rcases this with e | e <;> rw [e] <;> decide
  rw [hz]
  rfl

section Reads

variable (V : Valuation τ sig (Elt Ideal))

theorem values_eq : (after hostOps1 V (Proc.devRef .tc main_values) : FVec Ideal S2000 .f32)
    = topVals (after hostOps1 V (Proc.devRef .tc main_v279)) := by
  unfold topVals
  after_reads_simp
theorem indices_eq : (after hostOps1 V (Proc.devRef .tc main_indices) : IVec S2000 32)
    = topInds (after hostOps1 V (Proc.devRef .tc main_v279)) := by
  unfold topInds
  after_reads_simp

theorem level_eq (i : Fin 2000) : after hostOps1 V (Proc.devRef .tc main_v286) (ix1 i)
    = Finset.fold IntOp.addi 0#32 (fun x => BitVec.setWidth 32 (IntOp.cmpi .sge (after hostOps1 V (Proc.devRef .tc main_indices) (ix1 i)) (V (Proc.devRef .tc main_c) (ix1 x)))) Finset.univ := by
  after_reads_at
theorem first_eq : (after hostOps1 V (Proc.devRef .tc main_v293) : IVec S2000 32)
    = Host.gather gather_S6_S2000x1_S2000_n_0_n_n_0_1_1 (V (Proc.devRef .tc main_c_4) : IVec S6 32) (broadcastInDim S2000x1 ![0] bcast_S2000_S2000x1_0
      (select (cmpi .slt (after hostOps1 V (Proc.devRef .tc main_v286) : IVec S2000 32) (broadcastInDim S2000 ![] bcast_S_S2000 (constantI S_ 32 0#32)))
        (addi (after hostOps1 V (Proc.devRef .tc main_v286) : IVec S2000 32) (broadcastInDim S2000 ![] bcast_S_S2000 (constantI S_ 32 6#32)))
        (after hostOps1 V (Proc.devRef .tc main_v286) : IVec S2000 32))) := by
  after_reads_simp
theorem plane_eq : (after hostOps1 V (Proc.devRef .tc main_v300) : IVec S2000 32)
    = Host.gather gather_S5_S2000x1_S2000_n_0_n_n_0_1_1 (V (Proc.devRef .tc main_c_5) : IVec S5 32) (broadcastInDim S2000x1 ![0] bcast_S2000_S2000x1_0
      (select (cmpi .slt (after hostOps1 V (Proc.devRef .tc main_v286) : IVec S2000 32) (broadcastInDim S2000 ![] bcast_S_S2000 (constantI S_ 32 0#32)))
        (addi (after hostOps1 V (Proc.devRef .tc main_v286) : IVec S2000 32) (broadcastInDim S2000 ![] bcast_S_S2000 (constantI S_ 32 5#32)))
        (after hostOps1 V (Proc.devRef .tc main_v286) : IVec S2000 32))) := by
  after_reads_simp
theorem first_at (i : Fin 2000) (l : ℕ) (hl : l < 6) (h : after hostOps1 V (Proc.devRef .tc main_v286) (ix1 i) = BitVec.ofNat 32 l) :
    after hostOps1 V (Proc.devRef .tc main_v293) (ix1 i) = V (Proc.devRef .tc main_c_4) (ix1 ⟨l, hl⟩) :=
  (congrFun (first_eq V) (ix1 i)).trans (take_norm (by decide) _ _ _ _ _ _ _ i l hl h)
theorem plane_at (i : Fin 2000) (l : ℕ) (hl : l < 5) (h : after hostOps1 V (Proc.devRef .tc main_v286) (ix1 i) = BitVec.ofNat 32 l) :
    after hostOps1 V (Proc.devRef .tc main_v300) (ix1 i) = V (Proc.devRef .tc main_c_5) (ix1 ⟨l, hl⟩) :=
  (congrFun (plane_eq V) (ix1 i)).trans (take_norm (by decide) _ _ _ _ _ _ _ i l hl h)
theorem sub_eq (i : Fin 2000) : after hostOps1 V (Proc.devRef .tc main_v301) (ix1 i)
    = IntOp.subi (after hostOps1 V (Proc.devRef .tc main_indices) (ix1 i)) (after hostOps1 V (Proc.devRef .tc main_v293) (ix1 i)) := by
  after_reads_at

theorem mod_at (i : Fin 2000) (a : ℕ) (ha : a < 2 ^ 31) (h : V (Proc.devRef .tc main_v301) (ix1 i) = BitVec.ofNat 32 a)
    (h3 : V (Proc.devRef .tc main_c_46) ix0 = 3#32) : after hostOps1_1 V (Proc.devRef .tc main_v302) (ix1 i) = BitVec.ofNat 32 (a % 3) := by
  after_reads_at
  exact mod_three a ha _ _ h h3

theorem div_at (i : Fin 2000) (a : ℕ) (ha : a < 2 ^ 31) (h : V (Proc.devRef .tc main_v301) (ix1 i) = BitVec.ofNat 32 a)
    (h3 : V (Proc.devRef .tc main_c_47) ix0 = 3#32) : after hostOps1_3 V (Proc.devRef .tc main_v305) (ix1 i) = BitVec.ofNat 32 (a / 3) := by
  after_reads_at
  exact div_three a ha _ _ h h3

theorem base_at (i : Fin 2000) : after hostOps1_2 V (Proc.devRef .tc main_v304) (ix1 i)
    = IntOp.addi (V (Proc.devRef .tc main_v293) (ix1 i)) (IntOp.muli (V (Proc.devRef .tc main_v302) (ix1 i)) (V (Proc.devRef .tc main_v300) (ix1 i))) := by
  after_reads_at

theorem place_at (i : Fin 2000) : after hostOps1_4 V (Proc.devRef .tc main_v306) (ix1 i)
    = IntOp.addi (V (Proc.devRef .tc main_v304) (ix1 i)) (V (Proc.devRef .tc main_v305) (ix1 i)) := by
  after_reads_at

theorem three_46 : after hostOps1 V (Proc.devRef .tc main_c_46) ix0 = 3#32 := by after_reads_at
theorem three_47 : after hostOps1_2 V (Proc.devRef .tc main_c_47) ix0 = 3#32 := by after_reads_at
theorem c_0 : (after hostOps0 V (Proc.devRef .tc main_c) : IVec S5 32) = fun i => lit5 (S5.rowMajor i) := by
  after_reads_simp
  rfl
theorem c_4 : (after hostOps0 V (Proc.devRef .tc main_c_4) : IVec S6 32) = fun i => lit6 (S6.rowMajor i) := by
  after_reads_simp
  rfl
theorem c_5 : (after hostOps0 V (Proc.devRef .tc main_c_5) : IVec S5 32) = fun i => lit7 (S5.rowMajor i) := by
  after_reads_simp
  rfl

end Reads

theorem lit_first (x : Fin 6) : lit6 (S6.rowMajor (ix1 x)) = BitVec.ofNat 32 (start x.val) := by revert x; decide
theorem lit_bound (x : Fin 5) : lit5 (S5.rowMajor (ix1 x)) = BitVec.ofNat 32 (start (x.val + 1)) := by revert x; decide
theorem lit_plane (x : Fin 5) : lit7 (S5.rowMajor (ix1 x)) = BitVec.ofNat 32 (plane x.val) := by revert x; decide

theorem count_level (q : ℕ) (hq : q < 261888) :
    Finset.fold IntOp.addi 0#32 (fun x : Fin 5 => BitVec.setWidth 32 (IntOp.cmpi .sge (BitVec.ofNat 32 q) (BitVec.ofNat 32 (start (x.val + 1))))) Finset.univ
      = BitVec.ofNat 32 (level q) := by
  have e : ∀ x : Fin 5, IntOp.cmpi .sge (BitVec.ofNat 32 q) (BitVec.ofNat 32 (start (x.val + 1))) = BitVec.ofBool (decide (start (x.val + 1) ≤ q)) := fun x =>
    cmpi_sge_ofNat (by omega) (by unfold start; split_ifs <;> omega)
  simp only [e]
  rw [IndicatorCount.fold_addi_setWidth_eq_card (w := 32) (fun x : Fin 5 => BitVec.ofBool (decide (start (x.val + 1) ≤ q)))]
  congr 1
  simp only [ofBool_decide_eq_one_iff]
  rw [Finset.card_filter, Fin.sum_univ_five]
  simp only [start, level, Fin.val_zero, Fin.val_one, Fin.isValue, Fin.reduceFinMk, Nat.reduceAdd, reduceIte, OfNat.ofNat_ne_zero, OfNat.ofNat_ne_one, one_ne_zero, Nat.reduceEqDiff, Fin.val_two, Fin.coe_ofNat_eq_mod, Nat.reduceMod]
  split_ifs <;> omega

section Places

variable (m : (ℓ : Loc nD τ sig) → Buf (Elt Ideal) ℓ) (ρ : Dev nD → PrngReg) (c : Dev nD)

theorem bound_at (x : Fin 5) : W2 m ρ c (Proc.devRef .tc main_c) (ix1 x) = BitVec.ofNat 32 (start (x.val + 1)) :=
  (congrFun ((W2_of_ne m ρ c main_c (by decide)).trans (c_0 (W0 m ρ c))) (ix1 x)).trans (lit_bound x)
theorem start_at (x : Fin 6) : W2 m ρ c (Proc.devRef .tc main_c_4) (ix1 x) = BitVec.ofNat 32 (start x.val) :=
  (congrFun ((W2_of_ne m ρ c main_c_4 (by decide)).trans (c_4 (W0 m ρ c))) (ix1 x)).trans (lit_first x)
theorem planes_at (x : Fin 5) : W2 m ρ c (Proc.devRef .tc main_c_5) (ix1 x) = BitVec.ofNat 32 (plane x.val) :=
  (congrFun ((W2_of_ne m ρ c main_c_5 (by decide)).trans (c_5 (W0 m ρ c))) (ix1 x)).trans (lit_plane x)

/-- The list of scores is the reference's. -/
theorem scores_eq : (W3 m ρ c (Proc.devRef .tc main_v279) : FVec Ideal S261888 .f32) = (args (W0 m ρ c)).scores := by
  funext y
  rw [eq_ix1 y]
  exact scores_at m ρ c (y 0)

/-- The best scores. -/
theorem vals : (W3 m ρ c (Proc.devRef .tc main_values) : FVec Ideal S2000 .f32) = topVals (args (W0 m ρ c)).scores :=
  (values_eq (W2 m ρ c)).trans (congrArg topVals (scores_eq m ρ c))

/-- Their places. -/
theorem inds (i : Fin 2000) : W3 m ρ c (Proc.devRef .tc main_indices) (ix1 i) = BitVec.ofNat 32 ((args (W0 m ρ c)).best i.val) :=
  (congrFun ((indices_eq (W2 m ρ c)).trans (congrArg topInds (scores_eq m ρ c))) (ix1 i)).trans ((args (W0 m ρ c)).best_at i)

theorem level_at (i : Fin 2000) : W3 m ρ c (Proc.devRef .tc main_v286) (ix1 i) = BitVec.ofNat 32 (level ((args (W0 m ρ c)).best i.val)) := by
  refine (level_eq (W2 m ρ c) i).trans ?_
  refine (congrArg (fun f => Finset.fold IntOp.addi 0#32 f Finset.univ) (funext fun x => congrArg (BitVec.setWidth 32)
    (congrArg₂ (IntOp.cmpi .sge) (inds m ρ c i) (bound_at m ρ c x)))).trans ?_
  exact count_level _ ((args (W0 m ρ c)).best_lt i.val)

/-- Where the kernel looks. -/
theorem perm_at (i : Fin 2000) : W7 m ρ c (Proc.devRef .tc main_v306) (ix1 i) = BitVec.ofNat 32 (perm ((args (W0 m ρ c)).best i.val)) := by
  have hi := inds m ρ c i
  have hl := level_at m ρ c i
  have hq := (args (W0 m ρ c)).best_lt i.val
  generalize (args (W0 m ρ c)).best i.val = q at hi hl hq ⊢
  have hlt := level_lt q
  have hs := start_le q
  have h293 : W3 m ρ c (Proc.devRef .tc main_v293) (ix1 i) = BitVec.ofNat 32 (start (level q)) :=
    (first_at (W2 m ρ c) i (level q) (by omega) hl).trans (start_at m ρ c _)
  have h300 : W3 m ρ c (Proc.devRef .tc main_v300) (ix1 i) = BitVec.ofNat 32 (plane (level q)) :=
    (plane_at (W2 m ρ c) i (level q) hlt hl).trans (planes_at m ρ c _)
  have h301 : W3 m ρ c (Proc.devRef .tc main_v301) (ix1 i) = BitVec.ofNat 32 (q - start (level q)) := by
    refine (sub_eq (W2 m ρ c) i).trans ((congrArg₂ IntOp.subi hi h293).trans ?_)
    show BitVec.ofNat 32 q - BitVec.ofNat 32 (start (level q)) = _
    exact BitVec.ofNat_sub_ofNat_of_le q _ (by omega) hs
  have h302 : W4 m ρ c (Proc.devRef .tc main_v302) (ix1 i) = BitVec.ofNat 32 ((q - start (level q)) % 3) :=
    mod_at (W3 m ρ c) i _ (by omega) h301 (three_46 (W2 m ρ c))
  have h304 : W5 m ρ c (Proc.devRef .tc main_v304) (ix1 i) = BitVec.ofNat 32 (start (level q) + (q - start (level q)) % 3 * plane (level q)) := by
    refine (base_at (W4 m ρ c) i).trans ?_
    refine (congrArg₂ IntOp.addi ((congrFun (W4_of m ρ c main_v293 (by decide)) (ix1 i)).trans h293)
      (congrArg₂ IntOp.muli h302 ((congrFun (W4_of m ρ c main_v300 (by decide)) (ix1 i)).trans h300))).trans ?_
    rw [muli_ofNat, addi_ofNat]
  have h305 : W6 m ρ c (Proc.devRef .tc main_v305) (ix1 i) = BitVec.ofNat 32 ((q - start (level q)) / 3) :=
    div_at (W5 m ρ c) i _ (by omega) ((congrFun ((W5_of m ρ c main_v301 (by decide)).trans (W4_of m ρ c main_v301 (by decide))) (ix1 i)).trans h301) (three_47 (W4 m ρ c))
  refine (place_at (W6 m ρ c) i).trans ?_
  refine (congrArg₂ IntOp.addi ((congrFun (W6_of m ρ c main_v304 (by decide)) (ix1 i)).trans h304) h305).trans ?_
  rw [addi_ofNat, perm_eq]

end Places

end Cert.Rpn.Ker
end
-- ==== Proof.KerBoxes.lean ====
/- The boxes of the best scores, as the kernel gathers them, and as the suppression region's inputs hold them. -/
module

public import proofs.«01_k».proof.Proof.KerIndex

@[expose] public section

set_option maxRecDepth 16384

noncomputable section

namespace Cert.Rpn.Ker

open Cert.KernelIdeal Cert.KernelIdeal.Gen
open Idealize.ShloMosaic Idealize.ShloMosaic.TcCoe Idealize.ShloMosaic.StableHlo

section Reads

variable (V : Valuation τ sig (Elt Ideal))

theorem flat0 (p : Fin 261888) : after hostOps1_4 V (Proc.devRef .tc main_v307) (ix1 p)
    = V (Proc.devRef .tc main_v258_0) (ix2 ⟨p.val / 128, by omega⟩ ⟨p.val % 128, by omega⟩) := by
  after_reads_at
theorem take0 : (after hostOps1_4 V (Proc.devRef .tc main_v314) : FVec Ideal S2000 .f32)
    = Host.gather gather_S261888_S2000x1_S2000_n_0_n_n_0_1_1 (after hostOps1_4 V (Proc.devRef .tc main_v307) : FVec Ideal S261888 .f32) (broadcastInDim S2000x1 ![0] bcast_S2000_S2000x1_0
      (select (cmpi .slt (after hostOps1_4 V (Proc.devRef .tc main_v306) : IVec S2000 32) (broadcastInDim S2000 ![] bcast_S_S2000 (constantI S_ 32 0#32)))
        (addi (after hostOps1_4 V (Proc.devRef .tc main_v306) : IVec S2000 32) (broadcastInDim S2000 ![] bcast_S_S2000 (constantI S_ 32 261888#32)))
        (after hostOps1_4 V (Proc.devRef .tc main_v306) : IVec S2000 32))) := by
  after_reads_simp
theorem pad0 (j : Fin 2048) (h : j.val < 2000) : after hostOps1_5 V (Proc.devRef .tc main_v339) (ix1 j) = V (Proc.devRef .tc main_v314) (ix1 ⟨j.val, h⟩) := by
  after_reads_at
  exact dif_pos h
theorem tile0 (r : Fin 16) (b : Fin 128) : after hostOps1_12 V (Proc.devRef .tc main_v343) (ix2 r b)
    = V (Proc.devRef .tc main_v339) (ix1 ⟨r.val * 128 + b.val, by omega⟩) := by
  after_reads_at

theorem flat1 (p : Fin 261888) : after hostOps1_4 V (Proc.devRef .tc main_v315) (ix1 p)
    = V (Proc.devRef .tc main_v258_1) (ix2 ⟨p.val / 128, by omega⟩ ⟨p.val % 128, by omega⟩) := by
  after_reads_at
theorem take1 : (after hostOps1_4 V (Proc.devRef .tc main_v322) : FVec Ideal S2000 .f32)
    = Host.gather gather_S261888_S2000x1_S2000_n_0_n_n_0_1_1 (after hostOps1_4 V (Proc.devRef .tc main_v315) : FVec Ideal S261888 .f32) (broadcastInDim S2000x1 ![0] bcast_S2000_S2000x1_0
      (select (cmpi .slt (after hostOps1_4 V (Proc.devRef .tc main_v306) : IVec S2000 32) (broadcastInDim S2000 ![] bcast_S_S2000 (constantI S_ 32 0#32)))
        (addi (after hostOps1_4 V (Proc.devRef .tc main_v306) : IVec S2000 32) (broadcastInDim S2000 ![] bcast_S_S2000 (constantI S_ 32 261888#32)))
        (after hostOps1_4 V (Proc.devRef .tc main_v306) : IVec S2000 32))) := by
  after_reads_simp
theorem pad1 (j : Fin 2048) (h : j.val < 2000) : after hostOps1_7 V (Proc.devRef .tc main_v340) (ix1 j) = V (Proc.devRef .tc main_v322) (ix1 ⟨j.val, h⟩) := by
  after_reads_at
  exact dif_pos h
theorem tile1 (r : Fin 16) (b : Fin 128) : after hostOps1_12 V (Proc.devRef .tc main_v344) (ix2 r b)
    = V (Proc.devRef .tc main_v340) (ix1 ⟨r.val * 128 + b.val, by omega⟩) := by
  after_reads_at

theorem flat2 (p : Fin 261888) : after hostOps1_4 V (Proc.devRef .tc main_v323) (ix1 p)
    = V (Proc.devRef .tc main_v258_2) (ix2 ⟨p.val / 128, by omega⟩ ⟨p.val % 128, by omega⟩) := by
  after_reads_at
theorem take2 : (after hostOps1_4 V (Proc.devRef .tc main_v330) : FVec Ideal S2000 .f32)
    = Host.gather gather_S261888_S2000x1_S2000_n_0_n_n_0_1_1 (after hostOps1_4 V (Proc.devRef .tc main_v323) : FVec Ideal S261888 .f32) (broadcastInDim S2000x1 ![0] bcast_S2000_S2000x1_0
      (select (cmpi .slt (after hostOps1_4 V (Proc.devRef .tc main_v306) : IVec S2000 32) (broadcastInDim S2000 ![] bcast_S_S2000 (constantI S_ 32 0#32)))
        (addi (after hostOps1_4 V (Proc.devRef .tc main_v306) : IVec S2000 32) (broadcastInDim S2000 ![] bcast_S_S2000 (constantI S_ 32 261888#32)))
        (after hostOps1_4 V (Proc.devRef .tc main_v306) : IVec S2000 32))) := by
  after_reads_simp
theorem pad2 (j : Fin 2048) (h : j.val < 2000) : after hostOps1_9 V (Proc.devRef .tc main_v341) (ix1 j) = V (Proc.devRef .tc main_v330) (ix1 ⟨j.val, h⟩) := by
  after_reads_at
  exact dif_pos h
theorem tile2 (r : Fin 16) (b : Fin 128) : after hostOps1_12 V (Proc.devRef .tc main_v345) (ix2 r b)
    = V (Proc.devRef .tc main_v341) (ix1 ⟨r.val * 128 + b.val, by omega⟩) := by
  after_reads_at

theorem flat3 (p : Fin 261888) : after hostOps1_4 V (Proc.devRef .tc main_v331) (ix1 p)
    = V (Proc.devRef .tc main_v258_3) (ix2 ⟨p.val / 128, by omega⟩ ⟨p.val % 128, by omega⟩) := by
  after_reads_at
theorem take3 : (after hostOps1_4 V (Proc.devRef .tc main_v338) : FVec Ideal S2000 .f32)
    = Host.gather gather_S261888_S2000x1_S2000_n_0_n_n_0_1_1 (after hostOps1_4 V (Proc.devRef .tc main_v331) : FVec Ideal S261888 .f32) (broadcastInDim S2000x1 ![0] bcast_S2000_S2000x1_0
      (select (cmpi .slt (after hostOps1_4 V (Proc.devRef .tc main_v306) : IVec S2000 32) (broadcastInDim S2000 ![] bcast_S_S2000 (constantI S_ 32 0#32)))
        (addi (after hostOps1_4 V (Proc.devRef .tc main_v306) : IVec S2000 32) (broadcastInDim S2000 ![] bcast_S_S2000 (constantI S_ 32 261888#32)))
        (after hostOps1_4 V (Proc.devRef .tc main_v306) : IVec S2000 32))) := by
  after_reads_simp
theorem pad3 (j : Fin 2048) (h : j.val < 2000) : after hostOps1_11 V (Proc.devRef .tc main_v342) (ix1 j) = V (Proc.devRef .tc main_v338) (ix1 ⟨j.val, h⟩) := by
  after_reads_at
  exact dif_pos h
theorem tile3 (r : Fin 16) (b : Fin 128) : after hostOps1_12 V (Proc.devRef .tc main_v346) (ix2 r b)
    = V (Proc.devRef .tc main_v342) (ix1 ⟨r.val * 128 + b.val, by omega⟩) := by
  after_reads_at

end Reads

section Boxes

variable (m : (ℓ : Loc nD τ sig) → Buf (Elt Ideal) ℓ) (ρ : Dev nD → PrngReg) (c : Dev nD)

/-- Edge x1 of each of the 2000 boxes, as gathered. -/
theorem box0 (i : Fin 2000) : W7 m ρ c (Proc.devRef .tc main_v314) (ix1 i) = (args (W0 m ρ c)).boxes.x1 i.val := by
  have hq := (args (W0 m ρ c)).best_lt i.val
  have hp := perm_lt _ hq
  refine (congrFun (take0 (W6 m ρ c)) (ix1 i)).trans ?_
  refine (take_norm (by decide) _ _ _ _ _ _ _ i (perm ((args (W0 m ρ c)).best i.val)) hp (perm_at m ρ c i)).trans ?_
  refine (flat0 (W6 m ρ c) ⟨perm ((args (W0 m ρ c)).best i.val), hp⟩).trans ?_
  refine (congrFun ((((W6_of m ρ c main_v258_0 (by decide)).trans (W5_of m ρ c main_v258_0 (by decide))).trans (W4_of m ρ c main_v258_0 (by decide))).trans (W3_of m ρ c main_v258_0 (by decide))) _).trans ?_
  refine X1_at m ρ c _ _ ((args (W0 m ρ c)).best i.val) hq ?_
  dsimp only
  omega

/-- The same, in the region's list of scalars. -/
theorem list0 (j : Fin 2048) (h : j.val < 2000) : W15 m ρ c (Proc.devRef .tc main_v339) (ix1 j) = (args (W0 m ρ c)).boxes.x1 j.val :=
  (congrFun (((((((W15_of m ρ c main_v339 (by decide)).trans (W14_of m ρ c main_v339 (by decide))).trans (W13_of m ρ c main_v339 (by decide))).trans (W12_of m ρ c main_v339 (by decide))).trans (W11_of m ρ c main_v339 (by decide))).trans (W10_of m ρ c main_v339 (by decide))).trans (W9_of m ρ c main_v339 (by decide))) (ix1 j)).trans ((pad0 (W7 m ρ c) j h).trans
    ((box0 m ρ c ⟨j.val, h⟩)))

/-- The same, in the region's tile. -/
theorem tiled0 (r : Fin 16) (b : Fin 128) (h : r.val * 128 + b.val < 2000) :
    W15 m ρ c (Proc.devRef .tc main_v343) (ix2 r b) = (args (W0 m ρ c)).boxes.x1 (r.val * 128 + b.val) :=
  (tile0 (W14 m ρ c) r b).trans ((congrFun (W15_of m ρ c main_v339 (by decide)) _).symm.trans (list0 m ρ c ⟨r.val * 128 + b.val, by omega⟩ h))

/-- Edge y1 of each of the 2000 boxes, as gathered. -/
theorem box1 (i : Fin 2000) : W7 m ρ c (Proc.devRef .tc main_v322) (ix1 i) = (args (W0 m ρ c)).boxes.y1 i.val := by
  have hq := (args (W0 m ρ c)).best_lt i.val
  have hp := perm_lt _ hq
  refine (congrFun (take1 (W6 m ρ c)) (ix1 i)).trans ?_
  refine (take_norm (by decide) _ _ _ _ _ _ _ i (perm ((args (W0 m ρ c)).best i.val)) hp (perm_at m ρ c i)).trans ?_
  refine (flat1 (W6 m ρ c) ⟨perm ((args (W0 m ρ c)).best i.val), hp⟩).trans ?_
  refine (congrFun ((((W6_of m ρ c main_v258_1 (by decide)).trans (W5_of m ρ c main_v258_1 (by decide))).trans (W4_of m ρ c main_v258_1 (by decide))).trans (W3_of m ρ c main_v258_1 (by decide))) _).trans ?_
  refine Y1_at m ρ c _ _ ((args (W0 m ρ c)).best i.val) hq ?_
  dsimp only
  omega

/-- The same, in the region's list of scalars. -/
theorem list1 (j : Fin 2048) (h : j.val < 2000) : W15 m ρ c (Proc.devRef .tc main_v340) (ix1 j) = (args (W0 m ρ c)).boxes.y1 j.val :=
  (congrFun (((((W15_of m ρ c main_v340 (by decide)).trans (W14_of m ρ c main_v340 (by decide))).trans (W13_of m ρ c main_v340 (by decide))).trans (W12_of m ρ c main_v340 (by decide))).trans (W11_of m ρ c main_v340 (by decide))) (ix1 j)).trans ((pad1 (W9 m ρ c) j h).trans
    ((congrFun ((W9_of m ρ c main_v322 (by decide)).trans (W8_of m ρ c main_v322 (by decide))) _).trans (box1 m ρ c ⟨j.val, h⟩)))

/-- The same, in the region's tile. -/
theorem tiled1 (r : Fin 16) (b : Fin 128) (h : r.val * 128 + b.val < 2000) :
    W15 m ρ c (Proc.devRef .tc main_v344) (ix2 r b) = (args (W0 m ρ c)).boxes.y1 (r.val * 128 + b.val) :=
  (tile1 (W14 m ρ c) r b).trans ((congrFun (W15_of m ρ c main_v340 (by decide)) _).symm.trans (list1 m ρ c ⟨r.val * 128 + b.val, by omega⟩ h))

/-- Edge x2 of each of the 2000 boxes, as gathered. -/
theorem box2 (i : Fin 2000) : W7 m ρ c (Proc.devRef .tc main_v330) (ix1 i) = (args (W0 m ρ c)).boxes.x2 i.val := by
  have hq := (args (W0 m ρ c)).best_lt i.val
  have hp := perm_lt _ hq
  refine (congrFun (take2 (W6 m ρ c)) (ix1 i)).trans ?_
  refine (take_norm (by decide) _ _ _ _ _ _ _ i (perm ((args (W0 m ρ c)).best i.val)) hp (perm_at m ρ c i)).trans ?_
  refine (flat2 (W6 m ρ c) ⟨perm ((args (W0 m ρ c)).best i.val), hp⟩).trans ?_
  refine (congrFun ((((W6_of m ρ c main_v258_2 (by decide)).trans (W5_of m ρ c main_v258_2 (by decide))).trans (W4_of m ρ c main_v258_2 (by decide))).trans (W3_of m ρ c main_v258_2 (by decide))) _).trans ?_
  refine X2_at m ρ c _ _ ((args (W0 m ρ c)).best i.val) hq ?_
  dsimp only
  omega

/-- The same, in the region's list of scalars. -/
theorem list2 (j : Fin 2048) (h : j.val < 2000) : W15 m ρ c (Proc.devRef .tc main_v341) (ix1 j) = (args (W0 m ρ c)).boxes.x2 j.val :=
  (congrFun (((W15_of m ρ c main_v341 (by decide)).trans (W14_of m ρ c main_v341 (by decide))).trans (W13_of m ρ c main_v341 (by decide))) (ix1 j)).trans ((pad2 (W11 m ρ c) j h).trans
    ((congrFun ((((W11_of m ρ c main_v330 (by decide)).trans (W10_of m ρ c main_v330 (by decide))).trans (W9_of m ρ c main_v330 (by decide))).trans (W8_of m ρ c main_v330 (by decide))) _).trans (box2 m ρ c ⟨j.val, h⟩)))

/-- The same, in the region's tile. -/
theorem tiled2 (r : Fin 16) (b : Fin 128) (h : r.val * 128 + b.val < 2000) :
    W15 m ρ c (Proc.devRef .tc main_v345) (ix2 r b) = (args (W0 m ρ c)).boxes.x2 (r.val * 128 + b.val) :=
  (tile2 (W14 m ρ c) r b).trans ((congrFun (W15_of m ρ c main_v341 (by decide)) _).symm.trans (list2 m ρ c ⟨r.val * 128 + b.val, by omega⟩ h))

/-- Edge y2 of each of the 2000 boxes, as gathered. -/
theorem box3 (i : Fin 2000) : W7 m ρ c (Proc.devRef .tc main_v338) (ix1 i) = (args (W0 m ρ c)).boxes.y2 i.val := by
  have hq := (args (W0 m ρ c)).best_lt i.val
  have hp := perm_lt _ hq
  refine (congrFun (take3 (W6 m ρ c)) (ix1 i)).trans ?_
  refine (take_norm (by decide) _ _ _ _ _ _ _ i (perm ((args (W0 m ρ c)).best i.val)) hp (perm_at m ρ c i)).trans ?_
  refine (flat3 (W6 m ρ c) ⟨perm ((args (W0 m ρ c)).best i.val), hp⟩).trans ?_
  refine (congrFun ((((W6_of m ρ c main_v258_3 (by decide)).trans (W5_of m ρ c main_v258_3 (by decide))).trans (W4_of m ρ c main_v258_3 (by decide))).trans (W3_of m ρ c main_v258_3 (by decide))) _).trans ?_
  refine Y2_at m ρ c _ _ ((args (W0 m ρ c)).best i.val) hq ?_
  dsimp only
  omega

/-- The same, in the region's list of scalars. -/
theorem list3 (j : Fin 2048) (h : j.val < 2000) : W15 m ρ c (Proc.devRef .tc main_v342) (ix1 j) = (args (W0 m ρ c)).boxes.y2 j.val :=
  (congrFun (W15_of m ρ c main_v342 (by decide)) (ix1 j)).trans ((pad3 (W13 m ρ c) j h).trans
    ((congrFun ((((((W13_of m ρ c main_v338 (by decide)).trans (W12_of m ρ c main_v338 (by decide))).trans (W11_of m ρ c main_v338 (by decide))).trans (W10_of m ρ c main_v338 (by decide))).trans (W9_of m ρ c main_v338 (by decide))).trans (W8_of m ρ c main_v338 (by decide))) _).trans (box3 m ρ c ⟨j.val, h⟩)))

/-- The same, in the region's tile. -/
theorem tiled3 (r : Fin 16) (b : Fin 128) (h : r.val * 128 + b.val < 2000) :
    W15 m ρ c (Proc.devRef .tc main_v346) (ix2 r b) = (args (W0 m ρ c)).boxes.y2 (r.val * 128 + b.val) :=
  (tile3 (W14 m ρ c) r b).trans ((congrFun (W15_of m ρ c main_v342 (by decide)) _).symm.trans (list3 m ρ c ⟨r.val * 128 + b.val, by omega⟩ h))

end Boxes

end Cert.Rpn.Ker
end
-- ==== Proof.KerTrip.lean ====
/- One trip of the kernel's suppression loop, on words: 1 for a kept box, 0 for the others. -/
module

public import proofs.«01_k».proof.Proof.Nms
public import proofs.«01_k».proof.Proof.Gen.KernelIdeal.Loops
public import Idealize.ShloMosaic.Lib.StableHlo.ReadAt
public import Idealize.ShloMosaic.Lib.DynamicIndex
public import Idealize.ShloMosaic.Lib.WordCmp

@[expose] public section

set_option maxRecDepth 16384

noncomputable section

namespace Cert.Rpn.Ker

open Cert.KernelIdeal Cert.KernelIdeal.Gen
open Idealize.ShloMosaic Idealize.ShloMosaic.TcCoe Idealize.ShloMosaic.StableHlo Idealize.ShloMosaic.WordCmp

/-- A place's number in the list. -/
theorem pay6_at (r : Fin 16) (b : Fin 128) : k1_pay6 (ix2 r b) = BitVec.ofNat 32 (r.val * 128 + b.val) := by
  unfold k1_pay6
  pointwise
  rw [show (128#32 : BitVec 32) = BitVec.ofNat 32 128 from rfl]
  exact ((BitVec.ofNat_add _ _).trans (congrArg (· + BitVec.ofNat 32 b.val) (BitVec.ofNat_mul _ _))).symm

/-- The loop's counter. -/
theorem iv_eq (k : ℕ) : Scf.iv 0#32 1#32 k = BitVec.ofNat 32 k := by
  simp [Scf.iv]

/-- The kept word read at the loop's counter: a sum with one term. -/
theorem pay9_at (t : Fin k1_t1_loop.trips) (hk : t.val < 2000) (acc : FVec Ideal S16x128 .f32) :
    k1_pay9 (F := Ideal) k1_pay6 0#32 1#32 t acc = acc (ix2 ⟨t.val / 128, by omega⟩ ⟨t.val % 128, by omega⟩) := by
  unfold k1_pay9
  pointwise
  have e (r : Fin 16) (b : Fin 128) : Scalar.select (IntOp.cmpi CmpIPredicate.eq (k1_pay6 (ix2 r b)) (Scf.iv 0#32 1#32 t.val)) (acc (ix2 r b)) 0
      = if r.val * 128 + b.val = t.val then acc (ix2 r b) else 0 := by
    rw [pay6_at, iv_eq, cmpi_eq_ofNat (by omega) (by omega)]
    by_cases h : r.val * 128 + b.val = t.val
    · rw [if_pos h, decide_eq_true h]; rfl
    · rw [if_neg h, decide_eq_false h]; rfl
  simp only [e]
  rw [Finset.sum_eq_single (⟨t.val / 128, by omega⟩ : Fin 16), Finset.sum_eq_single (⟨t.val % 128, by omega⟩ : Fin 128), if_pos]
  · show t.val / 128 * 128 + t.val % 128 = t.val; omega
  · intro b _ hb
    rw [if_neg]
    intro h
    refine hb (Fin.ext ?_)
    show b.val = t.val % 128
    have h' : t.val / 128 * 128 + b.val = t.val := h
    omega
  · intro h; exact absurd (Finset.mem_univ _) h
  · intro r _ hr
    refine Finset.sum_eq_zero fun b _ => if_neg ?_
    intro h
    refine hr (Fin.ext ?_)
    show r.val = t.val / 128
    omega
  · intro h; exact absurd (Finset.mem_univ _) h

/-- Whether the trip's box overlaps a later one by more than the limit. -/
theorem pay10_at (v0 v2 v4 v6 : Vec Ideal S16x128 .f32) (t : Fin k1_t1_loop.trips) (ht : t.val < 2000) (s0 s1 s2 s3 : Elt Ideal .f32) (B : Boxes) (r : Fin 16) (b : Fin 128)
    (h0 : v0 (ix2 r b) = B.x1 (r.val * 128 + b.val)) (h2 : v2 (ix2 r b) = B.y1 (r.val * 128 + b.val))
    (h4 : v4 (ix2 r b) = B.x2 (r.val * 128 + b.val)) (h6 : v6 (ix2 r b) = B.y2 (r.val * 128 + b.val))
    (g0 : s0 = B.x1 t.val) (g1 : s1 = B.y1 t.val) (g2 : s2 = B.x2 t.val) (g3 : s3 = B.y2 t.val) :
    k1_pay10 (F := Ideal) (k1_pay1 v0) (k1_pay2 v2) (k1_pay3 v4) (k1_pay4 v6) (k1_pay5 v0 v2 v4 v6) k1_pay6 0#32 1#32 t s0 s1 s2 s3 (ix2 r b)
      = BitVec.ofBool (B.over t.val (r.val * 128 + b.val) && decide (t.val < r.val * 128 + b.val)) := by
  unfold k1_pay10 k1_pay1 k1_pay2 k1_pay3 k1_pay4 k1_pay5 k1_pay1 k1_pay2 k1_pay3 k1_pay4
  pointwise
  rw [h0, h2, h4, h6, g0, g1, g2, g3, pay6_at, iv_eq, cmpi_sgt_ofNat (by omega) (by omega), andi_ofBool]
  rfl

/-- The words the loop starts with: 1 at each of the 2000 boxes, 0 after them. -/
theorem pay7_at (r : Fin 16) (b : Fin 128) : k1_pay7 (F := Ideal) (ix2 r b) = if r.val * 128 + b.val < 2000 then 1 else 0 := by
  unfold k1_pay7
  pointwise
  rw [pay6_at, show (2000#32 : BitVec 32) = BitVec.ofNat 32 2000 from rfl, cmpi_slt_ofNat (by omega) (by omega)]
  by_cases h : r.val * 128 + b.val < 2000
  · rw [if_pos h, decide_eq_true h]; rfl
  · rw [if_neg h, decide_eq_false h]; rfl

/-- One trip: the words of the kept boxes. -/
theorem trip_keep (v0 v2 v4 v6 : Vec Ideal S16x128 .f32) (t : Fin k1_t1_loop.trips) (ht : t.val < 2000) (s0 s1 s2 s3 : Elt Ideal .f32) (B : Boxes)
    (acc : FVec Ideal S16x128 .f32)
    (h0 : ∀ (r : Fin 16) (b : Fin 128), r.val * 128 + b.val < 2000 → v0 (ix2 r b) = B.x1 (r.val * 128 + b.val))
    (h2 : ∀ (r : Fin 16) (b : Fin 128), r.val * 128 + b.val < 2000 → v2 (ix2 r b) = B.y1 (r.val * 128 + b.val))
    (h4 : ∀ (r : Fin 16) (b : Fin 128), r.val * 128 + b.val < 2000 → v4 (ix2 r b) = B.x2 (r.val * 128 + b.val))
    (h6 : ∀ (r : Fin 16) (b : Fin 128), r.val * 128 + b.val < 2000 → v6 (ix2 r b) = B.y2 (r.val * 128 + b.val))
    (g0 : s0 = B.x1 t.val) (g1 : s1 = B.y1 t.val) (g2 : s2 = B.x2 t.val) (g3 : s3 = B.y2 t.val)
    (ha : ∀ (r : Fin 16) (b : Fin 128), acc (ix2 r b) = if r.val * 128 + b.val < 2000 ∧ B.keep t.val (r.val * 128 + b.val) = true then 1 else 0)
    (r : Fin 16) (b : Fin 128) :
    k1_pay8 acc (k1_pay9 (F := Ideal) k1_pay6 0#32 1#32 t acc)
      (k1_pay10 (F := Ideal) (k1_pay1 v0) (k1_pay2 v2) (k1_pay3 v4) (k1_pay4 v6) (k1_pay5 v0 v2 v4 v6) k1_pay6 0#32 1#32 t s0 s1 s2 s3)
      (Scalar.ofBits (F := Ideal) .f32 0x00000000#32) (ix2 r b)
      = if r.val * 128 + b.val < 2000 ∧ B.keep (t.val + 1) (r.val * 128 + b.val) = true then 1 else 0 := by
  unfold k1_pay8
  pointwise
  rw [pay9_at t ht acc, ha, ha]
  have ht' : t.val / 128 * 128 + t.val % 128 = t.val := by omega
  by_cases hj : r.val * 128 + b.val < 2000
  · rw [pay10_at v0 v2 v4 v6 t ht s0 s1 s2 s3 B r b (h0 r b hj) (h2 r b hj) (h4 r b hj) (h6 r b hj) g0 g1 g2 g3]
    simp only [ht', ht, hj, true_and]
    rw [Boxes.keep_succ]
    cases hkk : B.keep t.val t.val <;> cases hkj : B.keep t.val (r.val * 128 + b.val) <;>
      cases (B.over t.val (r.val * 128 + b.val) && decide (t.val < r.val * 128 + b.val)) <;> simp [Scalar.select, IntOp.andi]
  · simp only [hj, false_and, if_false]
    unfold Scalar.select
    exact ite_self _

end Cert.Rpn.Ker
end
-- ==== Proof.KerNms.lean ====
/- The suppression region: its loop carries 1 at the boxes still kept, and its store leaves them. -/
module

public import proofs.«01_k».proof.Proof.KerTrip
public import proofs.«01_k».proof.Proof.Gen.KernelIdeal.Frame
public import Idealize.ShloMosaic.Lib.Pipeline.ValueKit

@[expose] public section

set_option maxRecDepth 16384

noncomputable section

namespace Cert.Rpn.Ker

open Cert.KernelIdeal Cert.KernelIdeal.Gen
open Idealize.ShloMosaic Idealize.ShloMosaic.TcCoe Idealize.ShloMosaic.StableHlo

/-- A scalar read from a list at a counter. -/
theorem ld_at (x : Vec Ideal S2048 .f32) (n k : ℕ) (hk : k < 2048) (hn : n = k) (h) (h' : 0 < (⟨1, ![1]⟩ : Shape).numel) :
    View.ld (Val := Elt Ideal) (e' := .f32) x (Rect.unit ![n] ![1] h) (Shape.Idx.first h') = x (ix1 ⟨k, hk⟩) := by
  subst hn
  refine congrArg x (funext fun a => Fin.ext ?_)
  obtain rfl : a = 0 := Subsingleton.elim _ _
  rfl

theorem off_eq (k : ℕ) (hk : k < 2000) : BitVec.toNat (Scalar.indexCast (Scf.iv 0#32 1#32 k)) = k := by
  rw [iv_eq]
  show (BitVec.ofNat 32 k).toNat = k
  rw [BitVec.toNat_ofNat]
  omega

theorem four_congr {α β : Type} {f : α → α → α → α → β} {a b c d a' b' c' d' : α} (h0 : a = a') (h1 : b = b') (h2 : c = c') (h3 : d = d') :
    f a b c d = f a' b' c' d' := by subst h0 h1 h2 h3; rfl

theorem whole_at (x : Vec Ideal S16x128 .f32) (r : Fin 16) (b : Fin 128) :
    View.ld (Val := Elt Ideal) (e' := .f32) x (Rect.unit ![0, 0] ![16, 128] inb_S16x128_S16x128_0_0) (ix2 r b) = x (ix2 r b) := by
  refine congrArg x (funext fun a => Fin.ext ?_)
  revert a
  rw [Fin.forall_fin_two]
  exact ⟨(Nat.zero_add _).trans (Nat.one_mul _), (Nat.zero_add _).trans (Nat.one_mul _)⟩

/-- What a trip carries on. -/
theorem trip_eq (𝒱 : Variants) (c : Dev nD) (bd : Option 𝒱.V) (arg0 : Memref sig .tc .smem S2048 .f32) (harg0 : arg0.IsWhole) (arg1 : Memref sig .tc .smem S2048 .f32) (harg1 : arg1.IsWhole) (arg2 : Memref sig .tc .smem S2048 .f32) (harg2 : arg2.IsWhole) (arg3 : Memref sig .tc .smem S2048 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole) (v0 : Vec Ideal S16x128 .f32) (v2 : Vec Ideal S16x128 .f32) (v4 : Vec Ideal S16x128 .f32) (v6 : Vec Ideal S16x128 .f32) (x0 : Vec Ideal S2048 .f32) (x1 : Vec Ideal S2048 .f32) (x2 : Vec Ideal S2048 .f32) (x3 : Vec Ideal S2048 .f32) (k : Fin k1_t1_loop.trips)  (acc : FVec Ideal S16x128 .f32) (hk : k.val < 2000) :
    (trip_k1_t1 (F := Ideal) 𝒱 c bd arg0 harg0 arg1 harg1 arg2 harg2 arg3 harg3 arg4 harg4 arg5 harg5 arg6 harg6 arg7 harg7 arg8 harg8 v0 v2 v4 v6 (harg0.unread x0) (harg1.unread x1) (harg2.unread x2) (harg3.unread x3) k).1 acc = k1_pay8 acc (k1_pay9 (F := Ideal) k1_pay6 0#32 1#32 k acc)
      (k1_pay10 (F := Ideal) (k1_pay1 v0) (k1_pay2 v2) (k1_pay3 v4) (k1_pay4 v6) (k1_pay5 v0 v2 v4 v6) k1_pay6 0#32 1#32 k
        (x0 (ix1 ⟨k.val, by omega⟩)) (x1 (ix1 ⟨k.val, by omega⟩)) (x2 (ix1 ⟨k.val, by omega⟩)) (x3 (ix1 ⟨k.val, by omega⟩)))
      (Scalar.ofBits (F := Ideal) .f32 0x00000000#32) := by
  unfold trip_k1_t1
  sl_unfold_words
  simp only [View.readAt_eq_ld, Memref.IsWhole.read_unread]
  exact four_congr (f := fun s0 s1 s2 s3 => k1_pay8 acc (k1_pay9 (F := Ideal) k1_pay6 0#32 1#32 k acc)
      (k1_pay10 (F := Ideal) (k1_pay1 v0) (k1_pay2 v2) (k1_pay3 v4) (k1_pay4 v6) (k1_pay5 v0 v2 v4 v6) k1_pay6 0#32 1#32 k s0 s1 s2 s3)
      (Scalar.ofBits (F := Ideal) .f32 0x00000000#32))
    (ld_at x0 _ k.val (by omega) (off_eq k.val hk) _ _) (ld_at x1 _ k.val (by omega) (off_eq k.val hk) _ _)
    (ld_at x2 _ k.val (by omega) (off_eq k.val hk) _ _) (ld_at x3 _ k.val (by omega) (off_eq k.val hk) _ _)

theorem trips_eq : k1_t1_loop.trips = 2000 := by decide +kernel

/-- What the loop carries before trip `k`: 1 at the boxes still kept. -/
theorem carried (𝒱 : Variants) (c : Dev nD) (bd : Option 𝒱.V) (arg0 : Memref sig .tc .smem S2048 .f32) (harg0 : arg0.IsWhole) (arg1 : Memref sig .tc .smem S2048 .f32) (harg1 : arg1.IsWhole) (arg2 : Memref sig .tc .smem S2048 .f32) (harg2 : arg2.IsWhole) (arg3 : Memref sig .tc .smem S2048 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole) (v0 : Vec Ideal S16x128 .f32) (v2 : Vec Ideal S16x128 .f32) (v4 : Vec Ideal S16x128 .f32) (v6 : Vec Ideal S16x128 .f32) (x0 : Vec Ideal S2048 .f32) (x1 : Vec Ideal S2048 .f32) (x2 : Vec Ideal S2048 .f32) (x3 : Vec Ideal S2048 .f32) (B : Boxes)
    (g0 : ∀ j : Fin 2048, j.val < 2000 → x0 (ix1 j) = B.x1 j.val) (g1 : ∀ j : Fin 2048, j.val < 2000 → x1 (ix1 j) = B.y1 j.val)
    (g2 : ∀ j : Fin 2048, j.val < 2000 → x2 (ix1 j) = B.x2 j.val) (g3 : ∀ j : Fin 2048, j.val < 2000 → x3 (ix1 j) = B.y2 j.val)
    (h0 : ∀ (r : Fin 16) (b : Fin 128), r.val * 128 + b.val < 2000 → v0 (ix2 r b) = B.x1 (r.val * 128 + b.val))
    (h2 : ∀ (r : Fin 16) (b : Fin 128), r.val * 128 + b.val < 2000 → v2 (ix2 r b) = B.y1 (r.val * 128 + b.val))
    (h4 : ∀ (r : Fin 16) (b : Fin 128), r.val * 128 + b.val < 2000 → v4 (ix2 r b) = B.x2 (r.val * 128 + b.val))
    (h6 : ∀ (r : Fin 16) (b : Fin 128), r.val * 128 + b.val < 2000 → v6 (ix2 r b) = B.y2 (r.val * 128 + b.val)) :
    ∀ k ≤ 2000, ∀ (r : Fin 16) (b : Fin 128), st_k1_t1 (F := Ideal) 𝒱 c bd arg0 harg0 arg1 harg1 arg2 harg2 arg3 harg3 arg4 harg4 arg5 harg5 arg6 harg6 arg7 harg7 arg8 harg8 v0 v2 v4 v6 (harg0.unread x0) (harg1.unread x1) (harg2.unread x2) (harg3.unread x3) (k1_pay7 (F := Ideal)) k (ix2 r b)
      = if r.val * 128 + b.val < 2000 ∧ B.keep k (r.val * 128 + b.val) = true then 1 else 0 := by
  intro k
  induction k with
  | zero =>
    intro _ r b
    rw [st_k1_t1_zero, pay7_at]
    refine if_congr ?_ rfl rfl
    exact ⟨fun h => ⟨h, rfl⟩, fun h => h.1⟩
  | succ k ih =>
    intro hk r b
    have hk' : k < 2000 := by omega
    have hkt : k < k1_t1_loop.trips := by rw [trips_eq]; exact hk'
    refine (congrFun (st_k1_t1_succ (F := Ideal) 𝒱 c bd arg0 harg0 arg1 harg1 arg2 harg2 arg3 harg3 arg4 harg4 arg5 harg5 arg6 harg6 arg7 harg7 arg8 harg8 v0 v2 v4 v6 _ _ _ _ _ ⟨k, hkt⟩) (ix2 r b)).trans ?_
    refine (congrFun (trip_eq 𝒱 c bd arg0 harg0 arg1 harg1 arg2 harg2 arg3 harg3 arg4 harg4 arg5 harg5 arg6 harg6 arg7 harg7 arg8 harg8 v0 v2 v4 v6 x0 x1 x2 x3 ⟨k, hkt⟩ _ hk') (ix2 r b)).trans ?_
    exact trip_keep v0 v2 v4 v6 ⟨k, hkt⟩ hk' _ _ _ _ B _ h0 h2 h4 h6 (g0 ⟨k, by omega⟩ hk') (g1 ⟨k, by omega⟩ hk') (g2 ⟨k, by omega⟩ hk') (g3 ⟨k, by omega⟩ hk')
      (ih (by omega)) r b

/-- What the region's store leaves: 1 at the boxes kept after 2000 trips. -/
theorem outKeep (c : Dev nD) (arg0 : Memref sig .tc .smem S2048 .f32) (harg0 : arg0.IsWhole) (arg1 : Memref sig .tc .smem S2048 .f32) (harg1 : arg1.IsWhole) (arg2 : Memref sig .tc .smem S2048 .f32) (harg2 : arg2.IsWhole) (arg3 : Memref sig .tc .smem S2048 .f32) (harg3 : arg3.IsWhole) (arg4 : Memref sig .tc .vmem S16x128 .f32) (harg4 : arg4.IsWhole) (arg5 : Memref sig .tc .vmem S16x128 .f32) (harg5 : arg5.IsWhole) (arg6 : Memref sig .tc .vmem S16x128 .f32) (harg6 : arg6.IsWhole) (arg7 : Memref sig .tc .vmem S16x128 .f32) (harg7 : arg7.IsWhole) (arg8 : Memref sig .tc .vmem S16x128 .f32) (harg8 : arg8.IsWhole)  (x0 x1 x2 x3 : Vec Ideal S2048 .f32) (x4 x5 x6 x7 : Vec Ideal S16x128 .f32) (B : Boxes)
    (g0 : ∀ j : Fin 2048, j.val < 2000 → x0 (ix1 j) = B.x1 j.val) (g1 : ∀ j : Fin 2048, j.val < 2000 → x1 (ix1 j) = B.y1 j.val)
    (g2 : ∀ j : Fin 2048, j.val < 2000 → x2 (ix1 j) = B.x2 j.val) (g3 : ∀ j : Fin 2048, j.val < 2000 → x3 (ix1 j) = B.y2 j.val)
    (h0 : ∀ (r : Fin 16) (b : Fin 128), r.val * 128 + b.val < 2000 → x4 (ix2 r b) = B.x1 (r.val * 128 + b.val))
    (h2 : ∀ (r : Fin 16) (b : Fin 128), r.val * 128 + b.val < 2000 → x5 (ix2 r b) = B.y1 (r.val * 128 + b.val))
    (h4 : ∀ (r : Fin 16) (b : Fin 128), r.val * 128 + b.val < 2000 → x6 (ix2 r b) = B.x2 (r.val * 128 + b.val))
    (h6 : ∀ (r : Fin 16) (b : Fin 128), r.val * 128 + b.val < 2000 → x7 (ix2 r b) = B.y2 (r.val * 128 + b.val))
    (r : Fin 16) (b : Fin 128) :
    out1_A_8 c arg0 harg0 arg1 harg1 arg2 harg2 arg3 harg3 arg4 harg4 arg5 harg5 arg6 harg6 arg7 harg7 arg8 harg8 x0 x1 x2 x3 x4 x5 x6 x7 (ix2 r b) = if r.val * 128 + b.val < 2000 ∧ B.keep 2000 (r.val * 128 + b.val) = true then 1 else 0 := by
  have h : ∀ y : S16x128.Idx, out1_A_8 c arg0 harg0 arg1 harg1 arg2 harg2 arg3 harg3 arg4 harg4 arg5 harg5 arg6 harg6 arg7 harg7 arg8 harg8 x0 x1 x2 x3 x4 x5 x6 x7 y = if (y 0).val * 128 + (y 1).val < 2000 ∧ B.keep 2000 ((y 0).val * 128 + (y 1).val) = true then 1 else 0 := by
    intro y
    unfold out1_A_8
    refine View.read_writes_apply_of_pieces VO1_8 _ (fun y : S16x128.Idx => (if (y 0).val * 128 + (y 1).val < 2000 ∧ B.keep 2000 ((y 0).val * 128 + (y 1).val) = true then 1 else 0 : Ideal .f32)) _ ?_ y (cover1_A_8 c arg0 harg0 arg1 harg1 arg2 harg2 arg3 harg3 arg4 harg4 arg5 harg5 arg6 harg6 arg7 harg7 arg8 harg8 x0 x1 x2 x3 x4 x5 x6 x7 y)
    unfold kernelRun1_A
    dsimp only
    refine List.forall_mem_cons.2 ⟨?_, fun _ h => absurd h List.not_mem_nil⟩
    intro (x : S16x128.Idx)
    obtain ⟨i, b, rfl⟩ : ∃ i b, x = ix2 i b := ⟨x 0, x 1, eq_ix2 x⟩
    sl_unfold_words
    simp only [View.readAt_eq_ld, Memref.IsWhole.read_unread]
    rw [show Scf.trips (0#32) (Scalar.addi 0#32 2000#32) 1#32 = 2000 from trips_eq]
    refine (carried Variants.none c none arg0 harg0 arg1 harg1 arg2 harg2 arg3 harg3 arg4 harg4 arg5 harg5 arg6 harg6 arg7 harg7 arg8 harg8 _ _ _ _ x0 x1 x2 x3 B g0 g1 g2 g3 (fun r b hj => (whole_at x4 r b).trans (h0 r b hj)) (fun r b hj => (whole_at x5 r b).trans (h2 r b hj))
      (fun r b hj => (whole_at x6 r b).trans (h4 r b hj)) (fun r b hj => (whole_at x7 r b).trans (h6 r b hj)) 2000 le_rfl i b).trans ?_
    have e0 : ((Rect.unit (s := S16x128) ![0, 0] ![16, 128] inb_S16x128_S16x128_0_0).emb (ix2 i b) 0).val = i.val := (Nat.zero_add _).trans (Nat.one_mul _)
    have e1 : ((Rect.unit (s := S16x128) ![0, 0] ![16, 128] inb_S16x128_S16x128_0_0).emb (ix2 i b) 1).val = b.val := (Nat.zero_add _).trans (Nat.one_mul _)
    rw [e0, e1]
  exact h _
end Cert.Rpn.Ker
end
-- ==== Proof.Region1.lean ====
/- The array the suppression region leaves: one at each kept box, zero elsewhere. -/
module

public import proofs.«01_k».proof.Proof.KerBoxes
public import proofs.«01_k».proof.Proof.KerNms

@[expose] public section

set_option maxRecDepth 16384

noncomputable section

namespace Cert.Rpn.Ker

open Cert.KernelIdeal Cert.KernelIdeal.Gen
open Idealize.ShloMosaic Idealize.ShloMosaic.TcCoe Idealize.ShloMosaic.StableHlo Idealize.ShloMosaic.Tactic

section Blocks

variable (V : (c : Dev nD) → (b : Ref sig .tc) → Buf (Elt Ideal) ((c : Thread nD τ).loc b)) (c : Dev nD)

/-- The blocks the one grid point reads are the arrays. -/
theorem block1_0 : (iblk1 V c 0 t1_0 : Vec Ideal S2048 .f32) = V c main_v339 := by
  funext j
  unfold iblk1
  blk_simp
  refine congrArg (V c main_v339) (funext fun a => Fin.ext ?_)
  exact Pipeline.Window.rect_emb_val_of_index_zero win1_0 t1_0 a (by revert a; decide +kernel) j

theorem block1_1 : (iblk1 V c 1 t1_0 : Vec Ideal S2048 .f32) = V c main_v340 := by
  funext j
  unfold iblk1
  blk_simp
  refine congrArg (V c main_v340) (funext fun a => Fin.ext ?_)
  exact Pipeline.Window.rect_emb_val_of_index_zero win1_1 t1_0 a (by revert a; decide +kernel) j

theorem block1_2 : (iblk1 V c 2 t1_0 : Vec Ideal S2048 .f32) = V c main_v341 := by
  funext j
  unfold iblk1
  blk_simp
  refine congrArg (V c main_v341) (funext fun a => Fin.ext ?_)
  exact Pipeline.Window.rect_emb_val_of_index_zero win1_2 t1_0 a (by revert a; decide +kernel) j

theorem block1_3 : (iblk1 V c 3 t1_0 : Vec Ideal S2048 .f32) = V c main_v342 := by
  funext j
  unfold iblk1
  blk_simp
  refine congrArg (V c main_v342) (funext fun a => Fin.ext ?_)
  exact Pipeline.Window.rect_emb_val_of_index_zero win1_3 t1_0 a (by revert a; decide +kernel) j

theorem block1_4 : (iblk1 V c 4 t1_0 : Vec Ideal S16x128 .f32) = V c main_v343 := by
  funext j
  unfold iblk1
  blk_simp
  refine congrArg (V c main_v343) (funext fun a => Fin.ext ?_)
  exact Pipeline.Window.rect_emb_val_of_index_zero win1_4 t1_0 a (by revert a; decide +kernel) j

theorem block1_5 : (iblk1 V c 5 t1_0 : Vec Ideal S16x128 .f32) = V c main_v344 := by
  funext j
  unfold iblk1
  blk_simp
  refine congrArg (V c main_v344) (funext fun a => Fin.ext ?_)
  exact Pipeline.Window.rect_emb_val_of_index_zero win1_5 t1_0 a (by revert a; decide +kernel) j

theorem block1_6 : (iblk1 V c 6 t1_0 : Vec Ideal S16x128 .f32) = V c main_v345 := by
  funext j
  unfold iblk1
  blk_simp
  refine congrArg (V c main_v345) (funext fun a => Fin.ext ?_)
  exact Pipeline.Window.rect_emb_val_of_index_zero win1_6 t1_0 a (by revert a; decide +kernel) j

theorem block1_7 : (iblk1 V c 7 t1_0 : Vec Ideal S16x128 .f32) = V c main_v346 := by
  funext j
  unfold iblk1
  blk_simp
  refine congrArg (V c main_v346) (funext fun a => Fin.ext ?_)
  exact Pipeline.Window.rect_emb_val_of_index_zero win1_7 t1_0 a (by revert a; decide +kernel) j

end Blocks

section Region

variable (m : (ℓ : Loc nD τ sig) → Buf (Elt Ideal) ℓ) (ρ : Dev nD → PrngReg) (c : Dev nD)

theorem array_eq (f : Vec Ideal S16x128 .f32) (hf : ∀ (r : Fin 16) (b : Fin 128), outsAt1 (V15 m ρ) c t1_0 (ix2 r b) = f (ix2 r b)) :
    W16 m ρ c (Proc.devRef .tc main_v347) = f := by
  refine (W16_arr m ρ c 8).trans ?_
  refine (dat1 (V15 m ρ) c).arrAt_eq_of_after_last 8 t1_0 (by decide +kernel) _ fun (j : S16x128.Idx) => ?_
  blk_simp
  rw [after1_8]
  obtain ⟨r, b, rfl⟩ : ∃ r b, j = ix2 r b := ⟨j 0, j 1, eq_ix2 j⟩
  exact hf r b

theorem mask_at (r : Fin 16) (b : Fin 128) : W16 m ρ c (Proc.devRef .tc main_v347) (ix2 r b)
    = if r.val * 128 + b.val < 2000 ∧ (args (W0 m ρ c)).boxes.keep 2000 (r.val * 128 + b.val) = true then (1 : Ideal .f32) else 0 := by
  refine congrFun (array_eq m ρ c (fun y => if (y 0).val * 128 + (y 1).val < 2000 ∧ (args (W0 m ρ c)).boxes.keep 2000 ((y 0).val * 128 + (y 1).val) = true then (1 : Ideal .f32) else 0) ?_) (ix2 r b)
  intro r b
  unfold outsAt1
  exact outKeep c (ms1_0 t1_0) (hs1_0 t1_0) (ms1_1 t1_0) (hs1_1 t1_0) (ms1_2 t1_0) (hs1_2 t1_0) (ms1_3 t1_0) (hs1_3 t1_0) (ms1_4 t1_0) (hs1_4 t1_0) (ms1_5 t1_0) (hs1_5 t1_0) (ms1_6 t1_0) (hs1_6 t1_0) (ms1_7 t1_0) (hs1_7 t1_0) (ms1_8 t1_0) (hs1_8 t1_0) (iblk1 (V15 m ρ) c 0 t1_0) (iblk1 (V15 m ρ) c 1 t1_0) (iblk1 (V15 m ρ) c 2 t1_0) (iblk1 (V15 m ρ) c 3 t1_0) (iblk1 (V15 m ρ) c 4 t1_0) (iblk1 (V15 m ρ) c 5 t1_0) (iblk1 (V15 m ρ) c 6 t1_0) (iblk1 (V15 m ρ) c 7 t1_0) (args (W0 m ρ c)).boxes
      (fun j h => (congrFun (block1_0 (V15 m ρ) c) (ix1 j)).trans (list0 m ρ c j h))
      (fun j h => (congrFun (block1_1 (V15 m ρ) c) (ix1 j)).trans (list1 m ρ c j h))
      (fun j h => (congrFun (block1_2 (V15 m ρ) c) (ix1 j)).trans (list2 m ρ c j h))
      (fun j h => (congrFun (block1_3 (V15 m ρ) c) (ix1 j)).trans (list3 m ρ c j h))
      (fun r b h => (congrFun (block1_4 (V15 m ρ) c) (ix2 r b)).trans (tiled0 m ρ c r b h))
      (fun r b h => (congrFun (block1_5 (V15 m ρ) c) (ix2 r b)).trans (tiled1 m ρ c r b h))
      (fun r b h => (congrFun (block1_6 (V15 m ρ) c) (ix2 r b)).trans (tiled2 m ρ c r b h))
      (fun r b h => (congrFun (block1_7 (V15 m ρ) c) (ix2 r b)).trans (tiled3 m ρ c r b h)) r b

end Region

end Cert.Rpn.Ker
end
-- ==== Proof.KerResult.lean ====
/- The kernel's results, over its arguments: the kept scores sorted again, and the boxes they belong to. -/
module

public import proofs.«01_k».proof.Proof.Region1

@[expose] public section

set_option maxRecDepth 16384

noncomputable section

namespace Cert.Rpn.Ker

open Cert.KernelIdeal Cert.KernelIdeal.Gen
open Idealize.ShloMosaic Idealize.ShloMosaic.TcCoe Idealize.ShloMosaic.StableHlo Idealize.ShloMosaic.Tactic

/-- A choice by a flag. -/
theorem three_select {p : Bool} {f : BitVec 1} {a b a' b' : Ideal .f32} (hf : f = BitVec.ofBool p) (ha : a = a') (hb : b = b') :
    Scalar.select f a b = if p = true then a' else b' := by
  subst hf ha hb
  cases p <;> rfl

section Reads

variable (V : Valuation τ sig (Elt Ideal))

theorem positive_at (i : Fin 2000) : after hostOps2 V (Proc.devRef .tc main_v351) (ix1 i)
    = BitVec.ofBool (decide ((0 : Ideal .f32) < V (Proc.devRef .tc main_v347) (ix2 ⟨i.val / 128, by omega⟩ ⟨i.val % 128, by omega⟩))) := by
  after_reads_at
theorem low_at : after hostOps2 V (Proc.devRef .tc main_cst_61) ix0 = Ideal.ofBits .f32 0xCE6E6B28#32 := by
  after_reads_at
theorem kept_at (i : Fin 2000) : after hostOps2_1 V (Proc.devRef .tc main_v352) (ix1 i)
    = Scalar.select (V (Proc.devRef .tc main_v351) (ix1 i)) (V (Proc.devRef .tc main_values) (ix1 i)) (V (Proc.devRef .tc main_cst_61) ix0) := by
  after_reads_at
  rfl
theorem values2_eq : (after hostOps2_2 V (Proc.devRef .tc main_values_62) : FVec Ideal S1000 .f32) = topVals2 (V (Proc.devRef .tc main_v352)) := by
  unfold topVals2
  after_reads_simp
theorem indices2_eq : (after hostOps2_2 V (Proc.devRef .tc main_indices_63) : IVec S1000 32) = topInds2 (V (Proc.devRef .tc main_v352)) := by
  unfold topInds2
  after_reads_simp
theorem pick0 : (after hostOps2_2 V (Proc.devRef .tc main_v360) : FVec Ideal S1000 .f32)
    = Host.gather gather_S2000_S1000x1_S1000_n_0_n_n_0_1_1 (V (Proc.devRef .tc main_v314) : FVec Ideal S2000 .f32) (broadcastInDim S1000x1 ![0] bcast_S1000_S1000x1_0
      (select (cmpi .slt (after hostOps2_2 V (Proc.devRef .tc main_indices_63) : IVec S1000 32) (broadcastInDim S1000 ![] bcast_S_S1000 (constantI S_ 32 0#32)))
        (addi (after hostOps2_2 V (Proc.devRef .tc main_indices_63) : IVec S1000 32) (broadcastInDim S1000 ![] bcast_S_S1000 (constantI S_ 32 2000#32)))
        (after hostOps2_2 V (Proc.devRef .tc main_indices_63) : IVec S1000 32))) := by
  after_reads_simp
theorem pick1 : (after hostOps2_2 V (Proc.devRef .tc main_v367) : FVec Ideal S1000 .f32)
    = Host.gather gather_S2000_S1000x1_S1000_n_0_n_n_0_1_1 (V (Proc.devRef .tc main_v322) : FVec Ideal S2000 .f32) (broadcastInDim S1000x1 ![0] bcast_S1000_S1000x1_0
      (select (cmpi .slt (after hostOps2_2 V (Proc.devRef .tc main_indices_63) : IVec S1000 32) (broadcastInDim S1000 ![] bcast_S_S1000 (constantI S_ 32 0#32)))
        (addi (after hostOps2_2 V (Proc.devRef .tc main_indices_63) : IVec S1000 32) (broadcastInDim S1000 ![] bcast_S_S1000 (constantI S_ 32 2000#32)))
        (after hostOps2_2 V (Proc.devRef .tc main_indices_63) : IVec S1000 32))) := by
  after_reads_simp
theorem pick2 : (after hostOps2_2 V (Proc.devRef .tc main_v374) : FVec Ideal S1000 .f32)
    = Host.gather gather_S2000_S1000x1_S1000_n_0_n_n_0_1_1 (V (Proc.devRef .tc main_v330) : FVec Ideal S2000 .f32) (broadcastInDim S1000x1 ![0] bcast_S1000_S1000x1_0
      (select (cmpi .slt (after hostOps2_2 V (Proc.devRef .tc main_indices_63) : IVec S1000 32) (broadcastInDim S1000 ![] bcast_S_S1000 (constantI S_ 32 0#32)))
        (addi (after hostOps2_2 V (Proc.devRef .tc main_indices_63) : IVec S1000 32) (broadcastInDim S1000 ![] bcast_S_S1000 (constantI S_ 32 2000#32)))
        (after hostOps2_2 V (Proc.devRef .tc main_indices_63) : IVec S1000 32))) := by
  after_reads_simp
theorem pick3 : (after hostOps2_2 V (Proc.devRef .tc main_v381) : FVec Ideal S1000 .f32)
    = Host.gather gather_S2000_S1000x1_S1000_n_0_n_n_0_1_1 (V (Proc.devRef .tc main_v338) : FVec Ideal S2000 .f32) (broadcastInDim S1000x1 ![0] bcast_S1000_S1000x1_0
      (select (cmpi .slt (after hostOps2_2 V (Proc.devRef .tc main_indices_63) : IVec S1000 32) (broadcastInDim S1000 ![] bcast_S_S1000 (constantI S_ 32 0#32)))
        (addi (after hostOps2_2 V (Proc.devRef .tc main_indices_63) : IVec S1000 32) (broadcastInDim S1000 ![] bcast_S_S1000 (constantI S_ 32 2000#32)))
        (after hostOps2_2 V (Proc.devRef .tc main_indices_63) : IVec S1000 32))) := by
  after_reads_simp
theorem cell0 (i : Fin 1000) : after hostOps2_2 V (Proc.devRef .tc main_v387) (ix2 i 0) = (0 : Ideal .f32) := by
  after_reads_at
  after_reads_at
theorem cell1 (i : Fin 1000) (x : Ideal .f32) (h : after hostOps2_2 V (Proc.devRef .tc main_v360) (ix1 i) = x) :
    after hostOps2_2 V (Proc.devRef .tc main_v387) (ix2 i 1) = x := by
  after_reads_at
  after_reads_at
  rw [← h]
  after_reads_at
theorem cell2 (i : Fin 1000) (x : Ideal .f32) (h : after hostOps2_2 V (Proc.devRef .tc main_v367) (ix1 i) = x) :
    after hostOps2_2 V (Proc.devRef .tc main_v387) (ix2 i 2) = x := by
  after_reads_at
  after_reads_at
  rw [← h]
  after_reads_at
theorem cell3 (i : Fin 1000) (x : Ideal .f32) (h : after hostOps2_2 V (Proc.devRef .tc main_v374) (ix1 i) = x) :
    after hostOps2_2 V (Proc.devRef .tc main_v387) (ix2 i 3) = x := by
  after_reads_at
  after_reads_at
  rw [← h]
  after_reads_at
theorem cell4 (i : Fin 1000) (x : Ideal .f32) (h : after hostOps2_2 V (Proc.devRef .tc main_v381) (ix1 i) = x) :
    after hostOps2_2 V (Proc.devRef .tc main_v387) (ix2 i 4) = x := by
  after_reads_at
  after_reads_at
  rw [← h]
  after_reads_at

end Reads

section Results

variable (m : (ℓ : Loc nD τ sig) → Buf (Elt Ideal) ℓ) (ρ : Dev nD → PrngReg) (c : Dev nD)

/-- Whether a box was kept. -/
theorem flag_at (i : Fin 2000) : W17 m ρ c (Proc.devRef .tc main_v351) (ix1 i) = BitVec.ofBool ((args (W0 m ρ c)).boxes.keep 2000 i.val) := by
  refine (positive_at (W16 m ρ c) i).trans (congrArg BitVec.ofBool ?_)
  have e := mask_at m ρ c ⟨i.val / 128, by omega⟩ ⟨i.val % 128, by omega⟩
  have ei : i.val / 128 * 128 + i.val % 128 = i.val := by omega
  dsimp only at e
  rw [ei] at e
  rw [e]
  have hi := i.isLt
  cases (args (W0 m ρ c)).boxes.keep 2000 i.val
  · rw [if_neg (by simp)]
    exact decide_eq_false (lt_irrefl _)
  · rw [if_pos ⟨hi, rfl⟩]
    exact decide_eq_true zero_lt_one

/-- The scores of the kept boxes. -/
theorem kept_eq : (W18 m ρ c (Proc.devRef .tc main_v352) : FVec Ideal S2000 .f32) = (args (W0 m ρ c)).kept := by
  funext y
  obtain ⟨i, rfl⟩ : ∃ i, y = ix1 i := ⟨y 0, eq_ix1 y⟩
  refine (kept_at (W17 m ρ c) i).trans ?_
  have hv : W17 m ρ c (Proc.devRef .tc main_values) (ix1 i) = topVals (args (W0 m ρ c)).scores (ix1 i) :=
    (congrFun ((((((((((((((W17_of m ρ c main_values (by decide)).trans (W16_of_ne m ρ c main_values (by decide))).trans (W15_of m ρ c main_values (by decide))).trans (W14_of m ρ c main_values (by decide))).trans (W13_of m ρ c main_values (by decide))).trans (W12_of m ρ c main_values (by decide))).trans (W11_of m ρ c main_values (by decide))).trans (W10_of m ρ c main_values (by decide))).trans (W9_of m ρ c main_values (by decide))).trans (W8_of m ρ c main_values (by decide))).trans (W7_of m ρ c main_values (by decide))).trans (W6_of m ρ c main_values (by decide))).trans (W5_of m ρ c main_values (by decide))).trans (W4_of m ρ c main_values (by decide))) (ix1 i)).trans (congrFun (vals m ρ c) (ix1 i))
  refine (three_select (flag_at m ρ c i) hv (low_at (W16 m ρ c))).trans ?_
  unfold Args.kept
  rfl

/-- The first result. -/
theorem scores_out : (W19 m ρ c (Proc.devRef .tc main_values_62) : FVec Ideal S1000 .f32) = (args (W0 m ρ c)).resScores :=
  (values2_eq (W18 m ρ c)).trans (congrArg topVals2 (kept_eq m ρ c))

theorem last_at (i : Fin 1000) : W19 m ρ c (Proc.devRef .tc main_indices_63) (ix1 i) = BitVec.ofNat 32 ((args (W0 m ρ c)).last i) :=
  (congrFun ((indices2_eq (W18 m ρ c)).trans (congrArg topInds2 (kept_eq m ρ c))) (ix1 i)).trans ((args (W0 m ρ c)).last_at i)

theorem out0 (i : Fin 1000) : W19 m ρ c (Proc.devRef .tc main_v360) (ix1 i) = (args (W0 m ρ c)).boxes.x1 ((args (W0 m ρ c)).last i) := by
  refine (congrFun (pick0 (W18 m ρ c)) (ix1 i)).trans ?_
  refine (take_norm (by decide) _ _ _ _ _ _ _ i ((args (W0 m ρ c)).last i) ((args (W0 m ρ c)).last_lt i) (last_at m ρ c i)).trans ?_
  exact (congrFun (((((((((((W18_of m ρ c main_v314 (by decide)).trans (W17_of m ρ c main_v314 (by decide))).trans (W16_of_ne m ρ c main_v314 (by decide))).trans (W15_of m ρ c main_v314 (by decide))).trans (W14_of m ρ c main_v314 (by decide))).trans (W13_of m ρ c main_v314 (by decide))).trans (W12_of m ρ c main_v314 (by decide))).trans (W11_of m ρ c main_v314 (by decide))).trans (W10_of m ρ c main_v314 (by decide))).trans (W9_of m ρ c main_v314 (by decide))).trans (W8_of m ρ c main_v314 (by decide))) _).trans (box0 m ρ c ⟨(args (W0 m ρ c)).last i, (args (W0 m ρ c)).last_lt i⟩)
theorem out1 (i : Fin 1000) : W19 m ρ c (Proc.devRef .tc main_v367) (ix1 i) = (args (W0 m ρ c)).boxes.y1 ((args (W0 m ρ c)).last i) := by
  refine (congrFun (pick1 (W18 m ρ c)) (ix1 i)).trans ?_
  refine (take_norm (by decide) _ _ _ _ _ _ _ i ((args (W0 m ρ c)).last i) ((args (W0 m ρ c)).last_lt i) (last_at m ρ c i)).trans ?_
  exact (congrFun (((((((((((W18_of m ρ c main_v322 (by decide)).trans (W17_of m ρ c main_v322 (by decide))).trans (W16_of_ne m ρ c main_v322 (by decide))).trans (W15_of m ρ c main_v322 (by decide))).trans (W14_of m ρ c main_v322 (by decide))).trans (W13_of m ρ c main_v322 (by decide))).trans (W12_of m ρ c main_v322 (by decide))).trans (W11_of m ρ c main_v322 (by decide))).trans (W10_of m ρ c main_v322 (by decide))).trans (W9_of m ρ c main_v322 (by decide))).trans (W8_of m ρ c main_v322 (by decide))) _).trans (box1 m ρ c ⟨(args (W0 m ρ c)).last i, (args (W0 m ρ c)).last_lt i⟩)
theorem out2 (i : Fin 1000) : W19 m ρ c (Proc.devRef .tc main_v374) (ix1 i) = (args (W0 m ρ c)).boxes.x2 ((args (W0 m ρ c)).last i) := by
  refine (congrFun (pick2 (W18 m ρ c)) (ix1 i)).trans ?_
  refine (take_norm (by decide) _ _ _ _ _ _ _ i ((args (W0 m ρ c)).last i) ((args (W0 m ρ c)).last_lt i) (last_at m ρ c i)).trans ?_
  exact (congrFun (((((((((((W18_of m ρ c main_v330 (by decide)).trans (W17_of m ρ c main_v330 (by decide))).trans (W16_of_ne m ρ c main_v330 (by decide))).trans (W15_of m ρ c main_v330 (by decide))).trans (W14_of m ρ c main_v330 (by decide))).trans (W13_of m ρ c main_v330 (by decide))).trans (W12_of m ρ c main_v330 (by decide))).trans (W11_of m ρ c main_v330 (by decide))).trans (W10_of m ρ c main_v330 (by decide))).trans (W9_of m ρ c main_v330 (by decide))).trans (W8_of m ρ c main_v330 (by decide))) _).trans (box2 m ρ c ⟨(args (W0 m ρ c)).last i, (args (W0 m ρ c)).last_lt i⟩)
theorem out3 (i : Fin 1000) : W19 m ρ c (Proc.devRef .tc main_v381) (ix1 i) = (args (W0 m ρ c)).boxes.y2 ((args (W0 m ρ c)).last i) := by
  refine (congrFun (pick3 (W18 m ρ c)) (ix1 i)).trans ?_
  refine (take_norm (by decide) _ _ _ _ _ _ _ i ((args (W0 m ρ c)).last i) ((args (W0 m ρ c)).last_lt i) (last_at m ρ c i)).trans ?_
  exact (congrFun (((((((((((W18_of m ρ c main_v338 (by decide)).trans (W17_of m ρ c main_v338 (by decide))).trans (W16_of_ne m ρ c main_v338 (by decide))).trans (W15_of m ρ c main_v338 (by decide))).trans (W14_of m ρ c main_v338 (by decide))).trans (W13_of m ρ c main_v338 (by decide))).trans (W12_of m ρ c main_v338 (by decide))).trans (W11_of m ρ c main_v338 (by decide))).trans (W10_of m ρ c main_v338 (by decide))).trans (W9_of m ρ c main_v338 (by decide))).trans (W8_of m ρ c main_v338 (by decide))) _).trans (box3 m ρ c ⟨(args (W0 m ρ c)).last i, (args (W0 m ρ c)).last_lt i⟩)

/-- The second result. -/
theorem boxes_out : (W19 m ρ c (Proc.devRef .tc main_v387) : FVec Ideal S1000x5 .f32) = (args (W0 m ρ c)).resBoxes := by
  exact (args (W0 m ρ c)).eq_resBoxes _ (fun i => cell0 (W18 m ρ c) i) (fun i => cell1 (W18 m ρ c) i _ (out0 m ρ c i))
    (fun i => cell2 (W18 m ρ c) i _ (out1 m ρ c i)) (fun i => cell3 (W18 m ρ c) i _ (out2 m ρ c i)) (fun i => cell4 (W18 m ρ c) i _ (out3 m ρ c i))

end Results

end Cert.Rpn.Ker
end
-- ==== Proof.KerRun.lean ====
/- The optimised program's run with its two results: each ends at the contents the operations, the decode region and
   the suppression region leave there, and every argument unchanged. -/
module

public import proofs.«01_k».proof.Defs
public import proofs.«01_k».proof.Proof.Gen.KernelIdeal.Frame

@[expose] public section

set_option maxRecDepth 8192

noncomputable section

namespace Cert.Rpn.Ker

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN of the two regions and the host operations around them. -/
theorem run : θ_run defs (onTc (τ := τ) (main (F := F))) ⟨m, fun _ => 0, ρ⟩ (fun r => ∀ c : Dev nD,
      r.2.mem ((c.tc : Thread nD τ).loc main_v387) = W19 m ρ c (Proc.devRef .tc main_v387)
      ∧ r.2.mem ((c.tc : Thread nD τ).loc main_values_62) = W19 m ρ c (Proc.devRef .tc main_values_62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h hz c =>
      ⟨h c _ (mem_uc main_v387 (by decide)), h c _ (mem_uc main_values_62 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c)⟩)

end Cert.Rpn.Ker

end
-- ==== Proof.RefLevel0.lean ====
/- Level 0 of the plain program, read at one anchor: its decoded boxes and scores are those of Spec.lean. -/
module

public import proofs.«01_k».proof.Proof.Spec
public import proofs.«01_k».proof.Proof.Gen.ReferenceIdeal.Run
public import Idealize.ShloMosaic.Lib.StableHlo.ReadAt

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

variable (V : Valuation τ sig (Elt Ideal)) (p : Fin 196608)

/-- The low x edge of anchor `p`. -/
theorem x1_level0 : afterL preI V (Proc.devRef .tc main_v120) (ix2 p 0)
    = x1 (s := 256) (V (Proc.devRef .tc main_arg5)) (V (Proc.devRef .tc main_arg10)) lit0 1082130432#32 (p.val % 3) (p.val / 768) (p.val / 3 % 256) := by
  simp only [preI, afterL_cons, afterL_nil]
  after_reads_at
  try after_reads_at
  try after_reads_at
  simp only [id_eq]
  pointwise
  simp only [base_eq, px_eq (C := 12) (s := 256), add_comm _ (base _ _ _), Nat.div_div_eq_div_mul, Nat.reduceMul]

  rfl

/-- The low y edge of anchor `p`. -/
theorem y1_level0 : afterL preI V (Proc.devRef .tc main_v120) (ix2 p 1)
    = y1 (s := 256) (V (Proc.devRef .tc main_arg5)) (V (Proc.devRef .tc main_arg10)) lit0 1082130432#32 (p.val % 3) (p.val / 768) (p.val / 3 % 256) := by
  simp only [preI, afterL_cons, afterL_nil]
  after_reads_at
  try after_reads_at
  try after_reads_at
  simp only [id_eq]
  pointwise
  simp only [base_eq, px_eq (C := 12) (s := 256), add_comm _ (base _ _ _), Nat.div_div_eq_div_mul, Nat.reduceMul]

  rfl

/-- The high x edge of anchor `p`. -/
theorem x2_level0 : afterL preI V (Proc.devRef .tc main_v120) (ix2 p 2)
    = x2 (s := 256) (V (Proc.devRef .tc main_arg5)) (V (Proc.devRef .tc main_arg10)) lit0 1082130432#32 (p.val % 3) (p.val / 768) (p.val / 3 % 256) := by
  simp only [preI, afterL_cons, afterL_nil]
  after_reads_at
  try after_reads_at
  try after_reads_at
  simp only [id_eq]
  pointwise
  simp only [base_eq, px_eq (C := 12) (s := 256), add_comm _ (base _ _ _), Nat.div_div_eq_div_mul, Nat.reduceMul]

  rfl

/-- The high y edge of anchor `p`. -/
theorem y2_level0 : afterL preI V (Proc.devRef .tc main_v120) (ix2 p 3)
    = y2 (s := 256) (V (Proc.devRef .tc main_arg5)) (V (Proc.devRef .tc main_arg10)) lit0 1082130432#32 (p.val % 3) (p.val / 768) (p.val / 3 % 256) := by
  simp only [preI, afterL_cons, afterL_nil]
  after_reads_at
  try after_reads_at
  try after_reads_at
  simp only [id_eq]
  pointwise
  simp only [base_eq, px_eq (C := 12) (s := 256), add_comm _ (base _ _ _), Nat.div_div_eq_div_mul, Nat.reduceMul]

  rfl

/-- The score of anchor `p`. -/
theorem sc_level0 : afterL preI V (Proc.devRef .tc main_v132) (ix1 p)
    = sc (s := 256) (V (Proc.devRef .tc main_arg5)) (V (Proc.devRef .tc main_arg0)) (V (Proc.devRef .tc main_arg10)) lit0 1082130432#32 (p.val % 3) (p.val / 768) (p.val / 3 % 256) := by
  simp only [preI, afterL_cons, afterL_nil]
  after_reads_at
  try after_reads_at
  simp only [id_eq]
  pointwise
  simp only [base_eq, px_eq (C := 12) (s := 256), px_eq (C := 6) (s := 256), add_comm _ (base _ _ _), Nat.div_div_eq_div_mul, Nat.reduceMul]

  rfl

end Cert.Rpn.Ref
end
-- ==== Proof.RefLevel1.lean ====
/- Level 1 of the plain program, read at one anchor: its decoded boxes and scores are those of Spec.lean. -/
module

public import proofs.«01_k».proof.Proof.Spec
public import proofs.«01_k».proof.Proof.Gen.ReferenceIdeal.Run
public import Idealize.ShloMosaic.Lib.StableHlo.ReadAt

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

variable (V : Valuation τ sig (Elt Ideal)) (p : Fin 49152)

/-- The low x edge of anchor `p`. -/
theorem x1_level1 : afterL preI V (Proc.devRef .tc main_v244) (ix2 p 0)
    = x1 (s := 128) (V (Proc.devRef .tc main_arg6)) (V (Proc.devRef .tc main_arg10)) lit1 1090519040#32 (p.val % 3) (p.val / 384) (p.val / 3 % 128) := by
  simp only [preI, afterL_cons, afterL_nil]
  after_reads_at
  try after_reads_at
  try after_reads_at
  simp only [id_eq]
  pointwise
  simp only [base_eq, px_eq (C := 12) (s := 128), add_comm _ (base _ _ _), Nat.div_div_eq_div_mul, Nat.reduceMul]

  rfl

/-- The low y edge of anchor `p`. -/
theorem y1_level1 : afterL preI V (Proc.devRef .tc main_v244) (ix2 p 1)
    = y1 (s := 128) (V (Proc.devRef .tc main_arg6)) (V (Proc.devRef .tc main_arg10)) lit1 1090519040#32 (p.val % 3) (p.val / 384) (p.val / 3 % 128) := by
  simp only [preI, afterL_cons, afterL_nil]
  after_reads_at
  try after_reads_at
  try after_reads_at
  simp only [id_eq]
  pointwise
  simp only [base_eq, px_eq (C := 12) (s := 128), add_comm _ (base _ _ _), Nat.div_div_eq_div_mul, Nat.reduceMul]

  rfl

/-- The high x edge of anchor `p`. -/
theorem x2_level1 : afterL preI V (Proc.devRef .tc main_v244) (ix2 p 2)
    = x2 (s := 128) (V (Proc.devRef .tc main_arg6)) (V (Proc.devRef .tc main_arg10)) lit1 1090519040#32 (p.val % 3) (p.val / 384) (p.val / 3 % 128) := by
  simp only [preI, afterL_cons, afterL_nil]
  after_reads_at
  try after_reads_at
  try after_reads_at
  simp only [id_eq]
  pointwise
  simp only [base_eq, px_eq (C := 12) (s := 128), add_comm _ (base _ _ _), Nat.div_div_eq_div_mul, Nat.reduceMul]

  rfl

/-- The high y edge of anchor `p`. -/
theorem y2_level1 : afterL preI V (Proc.devRef .tc main_v244) (ix2 p 3)
    = y2 (s := 128) (V (Proc.devRef .tc main_arg6)) (V (Proc.devRef .tc main_arg10)) lit1 1090519040#32 (p.val % 3) (p.val / 384) (p.val / 3 % 128) := by
  simp only [preI, afterL_cons, afterL_nil]
  after_reads_at
  try after_reads_at
  try after_reads_at
  simp only [id_eq]
  pointwise
  simp only [base_eq, px_eq (C := 12) (s := 128), add_comm _ (base _ _ _), Nat.div_div_eq_div_mul, Nat.reduceMul]

  rfl

/-- The score of anchor `p`. -/
theorem sc_level1 : afterL preI V (Proc.devRef .tc main_v256) (ix1 p)
    = sc (s := 128) (V (Proc.devRef .tc main_arg6)) (V (Proc.devRef .tc main_arg1)) (V (Proc.devRef .tc main_arg10)) lit1 1090519040#32 (p.val % 3) (p.val / 384) (p.val / 3 % 128) := by
  simp only [preI, afterL_cons, afterL_nil]
  after_reads_at
  try after_reads_at
  simp only [id_eq]
  pointwise
  simp only [base_eq, px_eq (C := 12) (s := 128), px_eq (C := 6) (s := 128), add_comm _ (base _ _ _), Nat.div_div_eq_div_mul, Nat.reduceMul]

  rfl

end Cert.Rpn.Ref
end
-- ==== Proof.RefLevel2.lean ====
/- Level 2 of the plain program, read at one anchor: its decoded boxes and scores are those of Spec.lean. -/
module

public import proofs.«01_k».proof.Proof.Spec
public import proofs.«01_k».proof.Proof.Gen.ReferenceIdeal.Run
public import Idealize.ShloMosaic.Lib.StableHlo.ReadAt

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

variable (V : Valuation τ sig (Elt Ideal)) (p : Fin 12288)

/-- The low x edge of anchor `p`. -/
theorem x1_level2 : afterL preI V (Proc.devRef .tc main_v368) (ix2 p 0)
    = x1 (s := 64) (V (Proc.devRef .tc main_arg7)) (V (Proc.devRef .tc main_arg10)) lit2 1098907648#32 (p.val % 3) (p.val / 192) (p.val / 3 % 64) := by
  simp only [preI, afterL_cons, afterL_nil]
  after_reads_at
  try after_reads_at
  try after_reads_at
  simp only [id_eq]
  pointwise
  simp only [base_eq, px_eq (C := 12) (s := 64), add_comm _ (base _ _ _), Nat.div_div_eq_div_mul, Nat.reduceMul]

  rfl

/-- The low y edge of anchor `p`. -/
theorem y1_level2 : afterL preI V (Proc.devRef .tc main_v368) (ix2 p 1)
    = y1 (s := 64) (V (Proc.devRef .tc main_arg7)) (V (Proc.devRef .tc main_arg10)) lit2 1098907648#32 (p.val % 3) (p.val / 192) (p.val / 3 % 64) := by
  simp only [preI, afterL_cons, afterL_nil]
  after_reads_at
  try after_reads_at
  try after_reads_at
  simp only [id_eq]
  pointwise
  simp only [base_eq, px_eq (C := 12) (s := 64), add_comm _ (base _ _ _), Nat.div_div_eq_div_mul, Nat.reduceMul]

  rfl

/-- The high x edge of anchor `p`. -/
theorem x2_level2 : afterL preI V (Proc.devRef .tc main_v368) (ix2 p 2)
    = x2 (s := 64) (V (Proc.devRef .tc main_arg7)) (V (Proc.devRef .tc main_arg10)) lit2 1098907648#32 (p.val % 3) (p.val / 192) (p.val / 3 % 64) := by
  simp only [preI, afterL_cons, afterL_nil]
  after_reads_at
  try after_reads_at
  try after_reads_at
  simp only [id_eq]
  pointwise
  simp only [base_eq, px_eq (C := 12) (s := 64), add_comm _ (base _ _ _), Nat.div_div_eq_div_mul, Nat.reduceMul]

  rfl

/-- The high y edge of anchor `p`. -/
theorem y2_level2 : afterL preI V (Proc.devRef .tc main_v368) (ix2 p 3)
    = y2 (s := 64) (V (Proc.devRef .tc main_arg7)) (V (Proc.devRef .tc main_arg10)) lit2 1098907648#32 (p.val % 3) (p.val / 192) (p.val / 3 % 64) := by
  simp only [preI, afterL_cons, afterL_nil]
  after_reads_at
  try after_reads_at
  try after_reads_at
  simp only [id_eq]
  pointwise
  simp only [base_eq, px_eq (C := 12) (s := 64), add_comm _ (base _ _ _), Nat.div_div_eq_div_mul, Nat.reduceMul]

  rfl

/-- The score of anchor `p`. -/
theorem sc_level2 : afterL preI V (Proc.devRef .tc main_v380) (ix1 p)
    = sc (s := 64) (V (Proc.devRef .tc main_arg7)) (V (Proc.devRef .tc main_arg2)) (V (Proc.devRef .tc main_arg10)) lit2 1098907648#32 (p.val % 3) (p.val / 192) (p.val / 3 % 64) := by
  simp only [preI, afterL_cons, afterL_nil]
  after_reads_at
  try after_reads_at
  simp only [id_eq]
  pointwise
  simp only [base_eq, px_eq (C := 12) (s := 64), px_eq (C := 6) (s := 64), add_comm _ (base _ _ _), Nat.div_div_eq_div_mul, Nat.reduceMul]

  rfl

end Cert.Rpn.Ref
end
-- ==== Proof.RefLevel3.lean ====
/- Level 3 of the plain program, read at one anchor: its decoded boxes and scores are those of Spec.lean. -/
module

public import proofs.«01_k».proof.Proof.Spec
public import proofs.«01_k».proof.Proof.Gen.ReferenceIdeal.Run
public import Idealize.ShloMosaic.Lib.StableHlo.ReadAt

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

variable (V : Valuation τ sig (Elt Ideal)) (p : Fin 3072)

/-- The low x edge of anchor `p`. -/
theorem x1_level3 : afterL preI V (Proc.devRef .tc main_v492) (ix2 p 0)
    = x1 (s := 32) (V (Proc.devRef .tc main_arg8)) (V (Proc.devRef .tc main_arg10)) lit3 1107296256#32 (p.val % 3) (p.val / 96) (p.val / 3 % 32) := by
  simp only [preI, afterL_cons, afterL_nil]
  after_reads_at
  try after_reads_at
  try after_reads_at
  simp only [id_eq]
  pointwise
  simp only [base_eq, px_eq (C := 12) (s := 32), add_comm _ (base _ _ _), Nat.div_div_eq_div_mul, Nat.reduceMul]

  rfl

/-- The low y edge of anchor `p`. -/
theorem y1_level3 : afterL preI V (Proc.devRef .tc main_v492) (ix2 p 1)
    = y1 (s := 32) (V (Proc.devRef .tc main_arg8)) (V (Proc.devRef .tc main_arg10)) lit3 1107296256#32 (p.val % 3) (p.val / 96) (p.val / 3 % 32) := by
  simp only [preI, afterL_cons, afterL_nil]
  after_reads_at
  try after_reads_at
  try after_reads_at
  simp only [id_eq]
  pointwise
  simp only [base_eq, px_eq (C := 12) (s := 32), add_comm _ (base _ _ _), Nat.div_div_eq_div_mul, Nat.reduceMul]

  rfl

/-- The high x edge of anchor `p`. -/
theorem x2_level3 : afterL preI V (Proc.devRef .tc main_v492) (ix2 p 2)
    = x2 (s := 32) (V (Proc.devRef .tc main_arg8)) (V (Proc.devRef .tc main_arg10)) lit3 1107296256#32 (p.val % 3) (p.val / 96) (p.val / 3 % 32) := by
  simp only [preI, afterL_cons, afterL_nil]
  after_reads_at
  try after_reads_at
  try after_reads_at
  simp only [id_eq]
  pointwise
  simp only [base_eq, px_eq (C := 12) (s := 32), add_comm _ (base _ _ _), Nat.div_div_eq_div_mul, Nat.reduceMul]

  rfl

/-- The high y edge of anchor `p`. -/
theorem y2_level3 : afterL preI V (Proc.devRef .tc main_v492) (ix2 p 3)
    = y2 (s := 32) (V (Proc.devRef .tc main_arg8)) (V (Proc.devRef .tc main_arg10)) lit3 1107296256#32 (p.val % 3) (p.val / 96) (p.val / 3 % 32) := by
  simp only [preI, afterL_cons, afterL_nil]
  after_reads_at
  try after_reads_at
  try after_reads_at
  simp only [id_eq]
  pointwise
  simp only [base_eq, px_eq (C := 12) (s := 32), add_comm _ (base _ _ _), Nat.div_div_eq_div_mul, Nat.reduceMul]

  rfl

/-- The score of anchor `p`. -/
theorem sc_level3 : afterL preI V (Proc.devRef .tc main_v504) (ix1 p)
    = sc (s := 32) (V (Proc.devRef .tc main_arg8)) (V (Proc.devRef .tc main_arg3)) (V (Proc.devRef .tc main_arg10)) lit3 1107296256#32 (p.val % 3) (p.val / 96) (p.val / 3 % 32) := by
  simp only [preI, afterL_cons, afterL_nil]
  after_reads_at
  try after_reads_at
  simp only [id_eq]
  pointwise
  simp only [base_eq, px_eq (C := 12) (s := 32), px_eq (C := 6) (s := 32), add_comm _ (base _ _ _), Nat.div_div_eq_div_mul, Nat.reduceMul]

  rfl

end Cert.Rpn.Ref
end
-- ==== Proof.RefLevel4.lean ====
/- Level 4 of the plain program, read at one anchor: its decoded boxes and scores are those of Spec.lean. -/
module

public import proofs.«01_k».proof.Proof.Spec
public import proofs.«01_k».proof.Proof.Gen.ReferenceIdeal.Run
public import Idealize.ShloMosaic.Lib.StableHlo.ReadAt

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

variable (V : Valuation τ sig (Elt Ideal)) (p : Fin 768)

/-- The low x edge of anchor `p`. -/
theorem x1_level4 : afterL preI V (Proc.devRef .tc main_v616) (ix2 p 0)
    = x1 (s := 16) (V (Proc.devRef .tc main_arg9)) (V (Proc.devRef .tc main_arg10)) lit4 1115684864#32 (p.val % 3) (p.val / 48) (p.val / 3 % 16) := by
  simp only [preI, afterL_cons, afterL_nil]
  after_reads_at
  try after_reads_at
  try after_reads_at
  simp only [id_eq]
  pointwise
  simp only [base_eq, px_eq (C := 12) (s := 16), add_comm _ (base _ _ _), Nat.div_div_eq_div_mul, Nat.reduceMul]

  rfl

/-- The low y edge of anchor `p`. -/
theorem y1_level4 : afterL preI V (Proc.devRef .tc main_v616) (ix2 p 1)
    = y1 (s := 16) (V (Proc.devRef .tc main_arg9)) (V (Proc.devRef .tc main_arg10)) lit4 1115684864#32 (p.val % 3) (p.val / 48) (p.val / 3 % 16) := by
  simp only [preI, afterL_cons, afterL_nil]
  after_reads_at
  try after_reads_at
  try after_reads_at
  simp only [id_eq]
  pointwise
  simp only [base_eq, px_eq (C := 12) (s := 16), add_comm _ (base _ _ _), Nat.div_div_eq_div_mul, Nat.reduceMul]

  rfl

/-- The high x edge of anchor `p`. -/
theorem x2_level4 : afterL preI V (Proc.devRef .tc main_v616) (ix2 p 2)
    = x2 (s := 16) (V (Proc.devRef .tc main_arg9)) (V (Proc.devRef .tc main_arg10)) lit4 1115684864#32 (p.val % 3) (p.val / 48) (p.val / 3 % 16) := by
  simp only [preI, afterL_cons, afterL_nil]
  after_reads_at
  try after_reads_at
  try after_reads_at
  simp only [id_eq]
  pointwise
  simp only [base_eq, px_eq (C := 12) (s := 16), add_comm _ (base _ _ _), Nat.div_div_eq_div_mul, Nat.reduceMul]

  rfl

/-- The high y edge of anchor `p`. -/
theorem y2_level4 : afterL preI V (Proc.devRef .tc main_v616) (ix2 p 3)
    = y2 (s := 16) (V (Proc.devRef .tc main_arg9)) (V (Proc.devRef .tc main_arg10)) lit4 1115684864#32 (p.val % 3) (p.val / 48) (p.val / 3 % 16) := by
  simp only [preI, afterL_cons, afterL_nil]
  after_reads_at
  try after_reads_at
  try after_reads_at
  simp only [id_eq]
  pointwise
  simp only [base_eq, px_eq (C := 12) (s := 16), add_comm _ (base _ _ _), Nat.div_div_eq_div_mul, Nat.reduceMul]

  rfl

/-- The score of anchor `p`. -/
theorem sc_level4 : afterL preI V (Proc.devRef .tc main_v628) (ix1 p)
    = sc (s := 16) (V (Proc.devRef .tc main_arg9)) (V (Proc.devRef .tc main_arg4)) (V (Proc.devRef .tc main_arg10)) lit4 1115684864#32 (p.val % 3) (p.val / 48) (p.val / 3 % 16) := by
  simp only [preI, afterL_cons, afterL_nil]
  after_reads_at
  try after_reads_at
  simp only [id_eq]
  pointwise
  simp only [base_eq, px_eq (C := 12) (s := 16), px_eq (C := 6) (s := 16), add_comm _ (base _ _ _), Nat.div_div_eq_div_mul, Nat.reduceMul]

  rfl

end Cert.Rpn.Ref
end
-- ==== Proof.RefOrder.lean ====
/- The plain program's lists of scores and boxes before the selection. -/
module

public import proofs.«01_k».proof.Proof.Order
public import proofs.«01_k».proof.Proof.RefLevel0
public import proofs.«01_k».proof.Proof.RefLevel1
public import proofs.«01_k».proof.Proof.RefLevel2
public import proofs.«01_k».proof.Proof.RefLevel3
public import proofs.«01_k».proof.Proof.RefLevel4

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

/-- The arguments, of contents that hold them. -/
def args (V : Valuation τ sig (Elt Ideal)) : Args where
  s0 := V (Proc.devRef .tc main_arg0)
  s1 := V (Proc.devRef .tc main_arg1)
  s2 := V (Proc.devRef .tc main_arg2)
  s3 := V (Proc.devRef .tc main_arg3)
  s4 := V (Proc.devRef .tc main_arg4)
  b0 := V (Proc.devRef .tc main_arg5)
  b1 := V (Proc.devRef .tc main_arg6)
  b2 := V (Proc.devRef .tc main_arg7)
  b3 := V (Proc.devRef .tc main_arg8)
  b4 := V (Proc.devRef .tc main_arg9)
  im := V (Proc.devRef .tc main_arg10)

variable (V : Valuation τ sig (Elt Ideal)) (p : Fin 261888)

theorem score_of0 (q : Fin 196608) (h : p.val = q.val) : after hostOps0_50 V (Proc.devRef .tc main_v630) (ix1 p)
    = after hostOps0_50 V (Proc.devRef .tc main_v132) (ix1 q) := by
  have hq := q.isLt
  after_reads_at
  rw [dif_pos (by omega)]
  have e : p.val = q.val := by omega
  simp only [e, Fin.eta]

theorem box_of0 (q : Fin 196608) (j : Fin 4) (h : p.val = q.val) : after hostOps0_50 V (Proc.devRef .tc main_v629) (ix2 p j)
    = after hostOps0_50 V (Proc.devRef .tc main_v120) (ix2 q j) := by
  have hq := q.isLt
  after_reads_at
  rw [dif_pos (by omega)]
  have e : p.val = q.val := by omega
  simp only [e, Fin.eta]

theorem score_of1 (q : Fin 49152) (h : p.val = 196608 + q.val) : after hostOps0_50 V (Proc.devRef .tc main_v630) (ix1 p)
    = after hostOps0_50 V (Proc.devRef .tc main_v256) (ix1 q) := by
  have hq := q.isLt
  after_reads_at
  rw [dif_neg (by omega), dif_pos (by omega)]
  have e : p.val - 196608 = q.val := by omega
  simp only [e, Fin.eta]

theorem box_of1 (q : Fin 49152) (j : Fin 4) (h : p.val = 196608 + q.val) : after hostOps0_50 V (Proc.devRef .tc main_v629) (ix2 p j)
    = after hostOps0_50 V (Proc.devRef .tc main_v244) (ix2 q j) := by
  have hq := q.isLt
  after_reads_at
  rw [dif_neg (by omega), dif_pos (by omega)]
  have e : p.val - 196608 = q.val := by omega
  simp only [e, Fin.eta]

theorem score_of2 (q : Fin 12288) (h : p.val = 245760 + q.val) : after hostOps0_50 V (Proc.devRef .tc main_v630) (ix1 p)
    = after hostOps0_50 V (Proc.devRef .tc main_v380) (ix1 q) := by
  have hq := q.isLt
  after_reads_at
  rw [dif_neg (by omega), dif_neg (by omega), dif_pos (by omega)]
  have e : p.val - 196608 - 49152 = q.val := by omega
  simp only [e, Fin.eta]

theorem box_of2 (q : Fin 12288) (j : Fin 4) (h : p.val = 245760 + q.val) : after hostOps0_50 V (Proc.devRef .tc main_v629) (ix2 p j)
    = after hostOps0_50 V (Proc.devRef .tc main_v368) (ix2 q j) := by
  have hq := q.isLt
  after_reads_at
  rw [dif_neg (by omega), dif_neg (by omega), dif_pos (by omega)]
  have e : p.val - 196608 - 49152 = q.val := by omega
  simp only [e, Fin.eta]

theorem score_of3 (q : Fin 3072) (h : p.val = 258048 + q.val) : after hostOps0_50 V (Proc.devRef .tc main_v630) (ix1 p)
    = after hostOps0_50 V (Proc.devRef .tc main_v504) (ix1 q) := by
  have hq := q.isLt
  after_reads_at
  rw [dif_neg (by omega), dif_neg (by omega), dif_neg (by omega), dif_pos (by omega)]
  have e : p.val - 196608 - 49152 - 12288 = q.val := by omega
  simp only [e, Fin.eta]

theorem box_of3 (q : Fin 3072) (j : Fin 4) (h : p.val = 258048 + q.val) : after hostOps0_50 V (Proc.devRef .tc main_v629) (ix2 p j)
    = after hostOps0_50 V (Proc.devRef .tc main_v492) (ix2 q j) := by
  have hq := q.isLt
  after_reads_at
  rw [dif_neg (by omega), dif_neg (by omega), dif_neg (by omega), dif_pos (by omega)]
  have e : p.val - 196608 - 49152 - 12288 = q.val := by omega
  simp only [e, Fin.eta]

theorem score_of4 (q : Fin 768) (h : p.val = 261120 + q.val) : after hostOps0_50 V (Proc.devRef .tc main_v630) (ix1 p)
    = after hostOps0_50 V (Proc.devRef .tc main_v628) (ix1 q) := by
  have hq := q.isLt
  after_reads_at
  rw [dif_neg (by omega), dif_neg (by omega), dif_neg (by omega), dif_neg (by omega)]
  have e : p.val - 196608 - 49152 - 12288 - 3072 = q.val := by omega
  simp only [e, Fin.eta]

theorem box_of4 (q : Fin 768) (j : Fin 4) (h : p.val = 261120 + q.val) : after hostOps0_50 V (Proc.devRef .tc main_v629) (ix2 p j)
    = after hostOps0_50 V (Proc.devRef .tc main_v616) (ix2 q j) := by
  have hq := q.isLt
  after_reads_at
  rw [dif_neg (by omega), dif_neg (by omega), dif_neg (by omega), dif_neg (by omega)]
  have e : p.val - 196608 - 49152 - 12288 - 3072 = q.val := by omega
  simp only [e, Fin.eta]

theorem X1_at : afterL preI V (Proc.devRef .tc main_v629) (ix2 p 0) = (args V).X1 p.val := by
  have hp := p.isLt
  unfold Args.X1 pick
  by_cases h0 : p.val < 196608
  · rw [if_pos h0]
    exact (box_of0 _ p ⟨p.val, by omega⟩ 0 rfl).trans (x1_level0 V ⟨p.val, by omega⟩)
  rw [if_neg h0]
  by_cases h1 : p.val < 245760
  · rw [if_pos h1]
    exact (box_of1 _ p ⟨(p.val - 196608), by omega⟩ 0 (by dsimp only; omega)).trans (x1_level1 V ⟨(p.val - 196608), by omega⟩)
  rw [if_neg h1]
  by_cases h2 : p.val < 258048
  · rw [if_pos h2]
    exact (box_of2 _ p ⟨(p.val - 245760), by omega⟩ 0 (by dsimp only; omega)).trans (x1_level2 V ⟨(p.val - 245760), by omega⟩)
  rw [if_neg h2]
  by_cases h3 : p.val < 261120
  · rw [if_pos h3]
    exact (box_of3 _ p ⟨(p.val - 258048), by omega⟩ 0 (by dsimp only; omega)).trans (x1_level3 V ⟨(p.val - 258048), by omega⟩)
  rw [if_neg h3]
  exact (box_of4 _ p ⟨(p.val - 261120), by omega⟩ 0 (by dsimp only; omega)).trans (x1_level4 V ⟨(p.val - 261120), by omega⟩)

theorem Y1_at : afterL preI V (Proc.devRef .tc main_v629) (ix2 p 1) = (args V).Y1 p.val := by
  have hp := p.isLt
  unfold Args.Y1 pick
  by_cases h0 : p.val < 196608
  · rw [if_pos h0]
    exact (box_of0 _ p ⟨p.val, by omega⟩ 1 rfl).trans (y1_level0 V ⟨p.val, by omega⟩)
  rw [if_neg h0]
  by_cases h1 : p.val < 245760
  · rw [if_pos h1]
    exact (box_of1 _ p ⟨(p.val - 196608), by omega⟩ 1 (by dsimp only; omega)).trans (y1_level1 V ⟨(p.val - 196608), by omega⟩)
  rw [if_neg h1]
  by_cases h2 : p.val < 258048
  · rw [if_pos h2]
    exact (box_of2 _ p ⟨(p.val - 245760), by omega⟩ 1 (by dsimp only; omega)).trans (y1_level2 V ⟨(p.val - 245760), by omega⟩)
  rw [if_neg h2]
  by_cases h3 : p.val < 261120
  · rw [if_pos h3]
    exact (box_of3 _ p ⟨(p.val - 258048), by omega⟩ 1 (by dsimp only; omega)).trans (y1_level3 V ⟨(p.val - 258048), by omega⟩)
  rw [if_neg h3]
  exact (box_of4 _ p ⟨(p.val - 261120), by omega⟩ 1 (by dsimp only; omega)).trans (y1_level4 V ⟨(p.val - 261120), by omega⟩)

theorem X2_at : afterL preI V (Proc.devRef .tc main_v629) (ix2 p 2) = (args V).X2 p.val := by
  have hp := p.isLt
  unfold Args.X2 pick
  by_cases h0 : p.val < 196608
  · rw [if_pos h0]
    exact (box_of0 _ p ⟨p.val, by omega⟩ 2 rfl).trans (x2_level0 V ⟨p.val, by omega⟩)
  rw [if_neg h0]
  by_cases h1 : p.val < 245760
  · rw [if_pos h1]
    exact (box_of1 _ p ⟨(p.val - 196608), by omega⟩ 2 (by dsimp only; omega)).trans (x2_level1 V ⟨(p.val - 196608), by omega⟩)
  rw [if_neg h1]
  by_cases h2 : p.val < 258048
  · rw [if_pos h2]
    exact (box_of2 _ p ⟨(p.val - 245760), by omega⟩ 2 (by dsimp only; omega)).trans (x2_level2 V ⟨(p.val - 245760), by omega⟩)
  rw [if_neg h2]
  by_cases h3 : p.val < 261120
  · rw [if_pos h3]
    exact (box_of3 _ p ⟨(p.val - 258048), by omega⟩ 2 (by dsimp only; omega)).trans (x2_level3 V ⟨(p.val - 258048), by omega⟩)
  rw [if_neg h3]
  exact (box_of4 _ p ⟨(p.val - 261120), by omega⟩ 2 (by dsimp only; omega)).trans (x2_level4 V ⟨(p.val - 261120), by omega⟩)

theorem Y2_at : afterL preI V (Proc.devRef .tc main_v629) (ix2 p 3) = (args V).Y2 p.val := by
  have hp := p.isLt
  unfold Args.Y2 pick
  by_cases h0 : p.val < 196608
  · rw [if_pos h0]
    exact (box_of0 _ p ⟨p.val, by omega⟩ 3 rfl).trans (y2_level0 V ⟨p.val, by omega⟩)
  rw [if_neg h0]
  by_cases h1 : p.val < 245760
  · rw [if_pos h1]
    exact (box_of1 _ p ⟨(p.val - 196608), by omega⟩ 3 (by dsimp only; omega)).trans (y2_level1 V ⟨(p.val - 196608), by omega⟩)
  rw [if_neg h1]
  by_cases h2 : p.val < 258048
  · rw [if_pos h2]
    exact (box_of2 _ p ⟨(p.val - 245760), by omega⟩ 3 (by dsimp only; omega)).trans (y2_level2 V ⟨(p.val - 245760), by omega⟩)
  rw [if_neg h2]
  by_cases h3 : p.val < 261120
  · rw [if_pos h3]
    exact (box_of3 _ p ⟨(p.val - 258048), by omega⟩ 3 (by dsimp only; omega)).trans (y2_level3 V ⟨(p.val - 258048), by omega⟩)
  rw [if_neg h3]
  exact (box_of4 _ p ⟨(p.val - 261120), by omega⟩ 3 (by dsimp only; omega)).trans (y2_level4 V ⟨(p.val - 261120), by omega⟩)

theorem SC_at : afterL preI V (Proc.devRef .tc main_v630) (ix1 p) = (args V).SC p.val := by
  have hp := p.isLt
  unfold Args.SC pick
  by_cases h0 : p.val < 196608
  · rw [if_pos h0]
    exact (score_of0 _ p ⟨p.val, by omega⟩ rfl).trans (sc_level0 V ⟨p.val, by omega⟩)
  rw [if_neg h0]
  by_cases h1 : p.val < 245760
  · rw [if_pos h1]
    exact (score_of1 _ p ⟨(p.val - 196608), by omega⟩ (by dsimp only; omega)).trans (sc_level1 V ⟨(p.val - 196608), by omega⟩)
  rw [if_neg h1]
  by_cases h2 : p.val < 258048
  · rw [if_pos h2]
    exact (score_of2 _ p ⟨(p.val - 245760), by omega⟩ (by dsimp only; omega)).trans (sc_level2 V ⟨(p.val - 245760), by omega⟩)
  rw [if_neg h2]
  by_cases h3 : p.val < 261120
  · rw [if_pos h3]
    exact (score_of3 _ p ⟨(p.val - 258048), by omega⟩ (by dsimp only; omega)).trans (sc_level3 V ⟨(p.val - 258048), by omega⟩)
  rw [if_neg h3]
  exact (score_of4 _ p ⟨(p.val - 261120), by omega⟩ (by dsimp only; omega)).trans (sc_level4 V ⟨(p.val - 261120), by omega⟩)

end Cert.Rpn.Ref
end
-- ==== Proof.RefNms.lean ====
/- The reference's suppression loop carries the kept bits of the box lists. -/
module

public import proofs.«01_k».proof.Proof.Nms
public import proofs.«01_k».proof.Proof.Gen.ReferenceIdeal.Run
public import Idealize.ShloMosaic.Lib.StableHlo.ReadAt
public import Idealize.ShloMosaic.Lib.DynamicIndex
public import Idealize.ShloMosaic.Lib.WordCmp

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo Idealize.ShloMosaic.WordCmp

/-- An entry read at the loop's counter. -/
theorem entry_at {α : Type} (x : S2000.Idx → α) (w d : IVec S_ 32) (k : ℕ) (hk : k < 2000) (hw : w = constantI S_ 32 (BitVec.ofNat 32 k)) :
    shapeCast S_ (Host.dynamicSlice S1 x (fun a => (((![select (cmpi .slt w (constantI S_ 32 0#32)) (addi (id w) d) w]
      : Fin 1 → (⟨S_, .i32⟩ : BufTy).Contents (Elt Ideal))) a (Shape.Idx.first h_S_)).toInt) sliceFits_S2000_S1) shapeCasts_S1_S_
      = fun _ => x (ix1 ⟨k, hk⟩) := by
  subst hw
  rw [Host.dynamicSlice_eq_extractStridedSlice S1 x _ (fun _ => k) sliceFits_S2000_S1 ⟨rfl, fun a => by
    obtain rfl : a = 0 := Subsingleton.elim _ _
    show k + 1 ≤ 2000; omega⟩ (fun a => by
    obtain rfl : a = 0 := Subsingleton.elim _ _
    exact toInt_wrap_ofNat k (by omega))]
  funext y
  refine congrArg x (funext fun a => Fin.ext ?_)
  obtain rfl : a = 0 := Subsingleton.elim _ _
  show k + _ = k
  have : ∀ z : Fin 1, z.val = 0 := fun z => by omega
  exact congrArg (k + ·) (this _)

/-- One trip's kept bits, from those before it. -/
theorem body_keep (x1 y1 x2 y2 ar : FVec Ideal S2000 .f32) (io : IVec S2000 32) (w : IVec S_ 32) (kp : IVec S2000 1) (B : Boxes) (k : ℕ) (hk : k < 2000)
    (h0 : ∀ j : Fin 2000, x1 (ix1 j) = B.x1 j.val) (h1 : ∀ j : Fin 2000, y1 (ix1 j) = B.y1 j.val)
    (h2 : ∀ j : Fin 2000, x2 (ix1 j) = B.x2 j.val) (h3 : ∀ j : Fin 2000, y2 (ix1 j) = B.y2 j.val)
    (h4 : ∀ j : Fin 2000, ar (ix1 j) = B.area j.val) (h5 : ∀ j : Fin 2000, io (ix1 j) = BitVec.ofNat 32 j.val)
    (h7 : w = constantI S_ 32 (BitVec.ofNat 32 k)) (h8 : ∀ j : Fin 2000, kp (ix1 j) = BitVec.ofBool (B.keep k j.val)) (j : Fin 2000) :
    (id (andi kp (noti (andi (andi (cmpf .ogt (Host.divf (mulf (maximumf (broadcastInDim S2000 ![] bcast_S_S2000 (constant S_ .f32 0x00000000#32)) (addf (subf (minimumf (broadcastInDim S2000 ![] bcast_S_S2000 (shapeCast S_ (Host.dynamicSlice S1 x2 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) x2) (maximumf (broadcastInDim S2000 ![] bcast_S_S2000 (shapeCast S_ (Host.dynamicSlice S1 x1 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) x1)) (broadcastInDim S2000 ![] bcast_S_S2000 (constant S_ .f32 0x3F800000#32)))) (maximumf (broadcastInDim S2000 ![] bcast_S_S2000 (constant S_ .f32 0x00000000#32)) (addf (subf (minimumf (broadcastInDim S2000 ![] bcast_S_S2000 (shapeCast S_ (Host.dynamicSlice S1 y2 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) y2) (maximumf (broadcastInDim S2000 ![] bcast_S_S2000 (shapeCast S_ (Host.dynamicSlice S1 y1 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) y1)) (broadcastInDim S2000 ![] bcast_S_S2000 (constant S_ .f32 0x3F800000#32))))) (subf (addf (broadcastInDim S2000 ![] bcast_S_S2000 (shapeCast S_ (Host.dynamicSlice S1 ar (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) ar) (mulf (maximumf (broadcastInDim S2000 ![] bcast_S_S2000 (constant S_ .f32 0x00000000#32)) (addf (subf (minimumf (broadcastInDim S2000 ![] bcast_S_S2000 (shapeCast S_ (Host.dynamicSlice S1 x2 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) x2) (maximumf (broadcastInDim S2000 ![] bcast_S_S2000 (shapeCast S_ (Host.dynamicSlice S1 x1 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) x1)) (broadcastInDim S2000 ![] bcast_S_S2000 (constant S_ .f32 0x3F800000#32)))) (maximumf (broadcastInDim S2000 ![] bcast_S_S2000 (constant S_ .f32 0x00000000#32)) (addf (subf (minimumf (broadcastInDim S2000 ![] bcast_S_S2000 (shapeCast S_ (Host.dynamicSlice S1 y2 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) y2) (maximumf (broadcastInDim S2000 ![] bcast_S_S2000 (shapeCast S_ (Host.dynamicSlice S1 y1 (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)) y1)) (broadcastInDim S2000 ![] bcast_S_S2000 (constant S_ .f32 0x3F800000#32))))))) (broadcastInDim S2000 ![] bcast_S_S2000 (constant S_ .f32 0x3F333333#32))) (cmpi .sgt io (broadcastInDim S2000 ![] bcast_S_S2000 (id w)))) (broadcastInDim S2000 ![] bcast_S_S2000 (shapeCast S_ (Host.dynamicSlice S1 kp (fun k => (((![select (cmpi .slt w (constantI S_ 32 0#32)) (addi (id w) (constantI S_ 32 2000#32)) w] : Fin 1 → (⟨S_, .i32⟩ : BufTy).Contents (Elt Ideal))) k (Shape.Idx.first h_S_)).toInt) sliceFits_S2000_S1) shapeCasts_S1_S_)))))) (ix1 j) = BitVec.ofBool (B.keep (k + 1) j.val) := by
  rw [entry_at x1 _ _ k hk h7, entry_at y1 _ _ k hk h7, entry_at x2 _ _ k hk h7, entry_at y2 _ _ k hk h7, entry_at ar _ _ k hk h7, entry_at kp _ _ k hk h7, h7]
  simp only [id_eq]
  pointwise
  simp only [h0, h1, h2, h3, h4, h5, h8]
  rw [cmpi_sgt_ofNat (by omega) (by omega), andi_ofBool, andi_ofBool, show ∀ b : Bool, ~~~ BitVec.ofBool b = BitVec.ofBool !b from by decide, andi_ofBool]
  rfl

/-- What the loop carries before trip `k`, from what it starts with. -/
theorem trips_keep (E : Valuation τ sig (Elt Ideal)) (B : Boxes)
    (h0 : ∀ j : Fin 2000, E (Proc.devRef .tc main_v655_0) (ix1 j) = B.x1 j.val)
    (h1 : ∀ j : Fin 2000, E (Proc.devRef .tc main_v655_1) (ix1 j) = B.y1 j.val)
    (h2 : ∀ j : Fin 2000, E (Proc.devRef .tc main_v655_2) (ix1 j) = B.x2 j.val)
    (h3 : ∀ j : Fin 2000, E (Proc.devRef .tc main_v655_3) (ix1 j) = B.y2 j.val)
    (h4 : ∀ j : Fin 2000, E (Proc.devRef .tc main_v655_4) (ix1 j) = B.area j.val)
    (h5 : ∀ j : Fin 2000, E (Proc.devRef .tc main_v655_5) (ix1 j) = BitVec.ofNat 32 j.val)
    (h7 : E (Proc.devRef .tc main_v655_7) = constantI S_ 32 (BitVec.ofNat 32 0))
    (h8 : ∀ j : Fin 2000, E (Proc.devRef .tc main_v655_8) (ix1 j) = BitVec.ofBool true) :
    ∀ k ≤ 2000, (∀ j : Fin 2000, STEP^[k] E (Proc.devRef .tc main_v655_0) (ix1 j) = B.x1 j.val)
      ∧ (∀ j : Fin 2000, STEP^[k] E (Proc.devRef .tc main_v655_1) (ix1 j) = B.y1 j.val)
      ∧ (∀ j : Fin 2000, STEP^[k] E (Proc.devRef .tc main_v655_2) (ix1 j) = B.x2 j.val)
      ∧ (∀ j : Fin 2000, STEP^[k] E (Proc.devRef .tc main_v655_3) (ix1 j) = B.y2 j.val)
      ∧ (∀ j : Fin 2000, STEP^[k] E (Proc.devRef .tc main_v655_4) (ix1 j) = B.area j.val)
      ∧ (∀ j : Fin 2000, STEP^[k] E (Proc.devRef .tc main_v655_5) (ix1 j) = BitVec.ofNat 32 j.val)
      ∧ STEP^[k] E (Proc.devRef .tc main_v655_7) = constantI S_ 32 (BitVec.ofNat 32 k)
      ∧ (∀ j : Fin 2000, STEP^[k] E (Proc.devRef .tc main_v655_8) (ix1 j) = BitVec.ofBool (B.keep k j.val)) := by
  intro k
  induction k with
  | zero => exact fun _ => ⟨h0, h1, h2, h3, h4, h5, h7, h8⟩
  | succ k ih =>
    intro hk
    obtain ⟨i0, i1, i2, i3, i4, i5, i7, i8⟩ := ih (by omega)
    rw [Function.iterate_succ_apply']
    refine ⟨?_, ?_, ?_, ?_, ?_, ?_, ?_, ?_⟩
    · rw [STEP_main_v655_0]; exact i0
    · rw [STEP_main_v655_1]; exact i1
    · rw [STEP_main_v655_2]; exact i2
    · rw [STEP_main_v655_3]; exact i3
    · rw [STEP_main_v655_4]; exact i4
    · rw [STEP_main_v655_5]; exact i5
    · rw [STEP_main_v655_7]
      unfold step_main_v655_7
      rw [i7]
      funext y
      exact (BitVec.ofNat_add k 1).symm
    · intro j
      rw [STEP_main_v655_8]
      exact body_keep _ _ _ _ _ _ _ _ B k (by omega) i0 i1 i2 i3 i4 i5 i7 i8 j

end Cert.Rpn.Ref
end
-- ==== Proof.RefSelect.lean ====
/- What the plain program's loop starts with: the boxes of the best scores, their areas, and every box kept. -/
module

public import proofs.«01_k».proof.Proof.RefOrder
public import proofs.«01_k».proof.Proof.RefNms
public import proofs.«01_k».proof.Proof.Select

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

/-- The last of the operations before the loop: from the rows of the best boxes on. -/
abbrev tail50 {F : FTy → Type} [FloatOps F] : List (HloOp τ sig (Elt F)) :=
  ( StableHlo.unary main_v637 main_v638 ((extractStridedSlice S2000x1 ![0, 0] · slices_S2000x4_S2000x1_0_0) : (⟨S2000x4, .f32⟩ : BufTy).Contents (Elt F) → (⟨S2000x1, .f32⟩ : BufTy).Contents (Elt F))
  :: StableHlo.reshape main_v638 main_v639 (rfl : (.f32 : EltTy) = .f32) shapeCasts_S2000x1_S2000
  :: StableHlo.unary main_v637 main_v640 ((extractStridedSlice S2000x1 ![0, 1] · slices_S2000x4_S2000x1_0_1) : (⟨S2000x4, .f32⟩ : BufTy).Contents (Elt F) → (⟨S2000x1, .f32⟩ : BufTy).Contents (Elt F))
  :: StableHlo.reshape main_v640 main_v641 (rfl : (.f32 : EltTy) = .f32) shapeCasts_S2000x1_S2000
  :: StableHlo.unary main_v637 main_v642 ((extractStridedSlice S2000x1 ![0, 2] · slices_S2000x4_S2000x1_0_2) : (⟨S2000x4, .f32⟩ : BufTy).Contents (Elt F) → (⟨S2000x1, .f32⟩ : BufTy).Contents (Elt F))
  :: StableHlo.reshape main_v642 main_v643 (rfl : (.f32 : EltTy) = .f32) shapeCasts_S2000x1_S2000
  :: StableHlo.unary main_v637 main_v644 ((extractStridedSlice S2000x1 ![0, 3] · slices_S2000x4_S2000x1_0_3) : (⟨S2000x4, .f32⟩ : BufTy).Contents (Elt F) → (⟨S2000x1, .f32⟩ : BufTy).Contents (Elt F))
  :: StableHlo.reshape main_v644 main_v645 (rfl : (.f32 : EltTy) = .f32) shapeCasts_S2000x1_S2000
  :: StableHlo.binary main_v643 main_v639 main_v646 (subf : (⟨S2000, .f32⟩ : BufTy).Contents (Elt F) → (⟨S2000, .f32⟩ : BufTy).Contents (Elt F) → (⟨S2000, .f32⟩ : BufTy).Contents (Elt F))
  :: StableHlo.nullary main_cst_160 (constant S_ .f32 0x3F800000#32)
  :: StableHlo.unary main_cst_160 main_v647 (broadcastInDim S2000 ![] bcast_S_S2000 : (⟨S_, .f32⟩ : BufTy).Contents (Elt F) → (⟨S2000, .f32⟩ : BufTy).Contents (Elt F))
  :: StableHlo.binary main_v646 main_v647 main_v648 (addf : (⟨S2000, .f32⟩ : BufTy).Contents (Elt F) → (⟨S2000, .f32⟩ : BufTy).Contents (Elt F) → (⟨S2000, .f32⟩ : BufTy).Contents (Elt F))
  :: StableHlo.binary main_v645 main_v641 main_v649 (subf : (⟨S2000, .f32⟩ : BufTy).Contents (Elt F) → (⟨S2000, .f32⟩ : BufTy).Contents (Elt F) → (⟨S2000, .f32⟩ : BufTy).Contents (Elt F))
  :: StableHlo.nullary main_cst_161 (constant S_ .f32 0x3F800000#32)
  :: StableHlo.unary main_cst_161 main_v650 (broadcastInDim S2000 ![] bcast_S_S2000 : (⟨S_, .f32⟩ : BufTy).Contents (Elt F) → (⟨S2000, .f32⟩ : BufTy).Contents (Elt F))
  :: StableHlo.binary main_v649 main_v650 main_v651 (addf : (⟨S2000, .f32⟩ : BufTy).Contents (Elt F) → (⟨S2000, .f32⟩ : BufTy).Contents (Elt F) → (⟨S2000, .f32⟩ : BufTy).Contents (Elt F))
  :: StableHlo.binary main_v648 main_v651 main_v652 (mulf : (⟨S2000, .f32⟩ : BufTy).Contents (Elt F) → (⟨S2000, .f32⟩ : BufTy).Contents (Elt F) → (⟨S2000, .f32⟩ : BufTy).Contents (Elt F))
  :: StableHlo.nullary main_v653 (iotaInDim S2000 32 0)
  :: StableHlo.nullary main_c_162 (constantI S_ 1 1#1)
  :: StableHlo.unary main_c_162 main_v654 (broadcastInDim S2000 ![] bcast_S_S2000 : (⟨S_, .i1⟩ : BufTy).Contents (Elt F) → (⟨S2000, .i1⟩ : BufTy).Contents (Elt F))
  :: StableHlo.nullary main_c_163 (constantI S_ 32 0#32)
  :: StableHlo.nullary main_c_164 (constantI S_ 32 0#32)
  :: StableHlo.unary main_v639 main_v655_0 id
  :: StableHlo.unary main_v641 main_v655_1 id
  :: StableHlo.unary main_v643 main_v655_2 id
  :: StableHlo.unary main_v645 main_v655_3 id
  :: StableHlo.unary main_v652 main_v655_4 id
  :: StableHlo.unary main_v653 main_v655_5 id
  :: StableHlo.unary main_c_164 main_v655_6 id
  :: StableHlo.unary main_c_163 main_v655_7 id
  :: StableHlo.unary main_v654 main_v655_8 id
  :: [] )

section Reads

variable (V : Valuation τ sig (Elt Ideal))

theorem values_eq : (after hostOps0_50 V (Proc.devRef .tc main_values) : FVec Ideal S2000 .f32)
    = topVals (after hostOps0_50 V (Proc.devRef .tc main_v630)) := by
  unfold topVals
  after_reads_simp
theorem indices_eq : (after hostOps0_50 V (Proc.devRef .tc main_indices) : IVec S2000 32)
    = topInds (after hostOps0_50 V (Proc.devRef .tc main_v630)) := by
  unfold topInds
  after_reads_simp
theorem rows_eq : (after hostOps0_50 V (Proc.devRef .tc main_v637) : FVec Ideal S2000x4 .f32)
    = Host.gather gather_S261888x4_S2000x1_S2000x4_1_0_n_n_0_1_14 (after hostOps0_50 V (Proc.devRef .tc main_v629) : FVec Ideal S261888x4 .f32) (broadcastInDim S2000x1 ![0] bcast_S2000_S2000x1_0
      (select (cmpi .slt (after hostOps0_50 V (Proc.devRef .tc main_indices) : IVec S2000 32) (broadcastInDim S2000 ![] bcast_S_S2000 (constantI S_ 32 0#32)))
        (addi (after hostOps0_50 V (Proc.devRef .tc main_indices) : IVec S2000 32) (broadcastInDim S2000 ![] bcast_S_S2000 (constantI S_ 32 261888#32)))
        (after hostOps0_50 V (Proc.devRef .tc main_indices) : IVec S2000 32))) := by
  after_reads_simp
theorem edge_0 (j : Fin 2000) : after tail50 V (Proc.devRef .tc main_v655_0) (ix1 j) = V (Proc.devRef .tc main_v637) (ix2 j 0) := by
  after_reads_at
  rfl
theorem edge_1 (j : Fin 2000) : after tail50 V (Proc.devRef .tc main_v655_1) (ix1 j) = V (Proc.devRef .tc main_v637) (ix2 j 1) := by
  after_reads_at
  rfl
theorem edge_2 (j : Fin 2000) : after tail50 V (Proc.devRef .tc main_v655_2) (ix1 j) = V (Proc.devRef .tc main_v637) (ix2 j 2) := by
  after_reads_at
  rfl
theorem edge_3 (j : Fin 2000) : after tail50 V (Proc.devRef .tc main_v655_3) (ix1 j) = V (Proc.devRef .tc main_v637) (ix2 j 3) := by
  after_reads_at
  rfl
theorem area_edges (j : Fin 2000) (a b c d : Ideal .f32) (ha : V (Proc.devRef .tc main_v637) (ix2 j 0) = a) (hb : V (Proc.devRef .tc main_v637) (ix2 j 1) = b)
    (hc : V (Proc.devRef .tc main_v637) (ix2 j 2) = c) (hd : V (Proc.devRef .tc main_v637) (ix2 j 3) = d) :
    after tail50 V (Proc.devRef .tc main_v655_4) (ix1 j) = (c - a + 1) * (d - b + 1) := by
  after_reads_at
  subst ha hb hc hd
  simp only [id_eq]
  pointwise
theorem rows_keep : after tail50 V (Proc.devRef .tc main_v637) = V (Proc.devRef .tc main_v637) := by
  after_reads_simp
theorem split50 : ∃ V', after hostOps0_50 V = after tail50 V' := ⟨_, rfl⟩
theorem start_5 (j : Fin 2000) : after tail50 V (Proc.devRef .tc main_v655_5) (ix1 j) = BitVec.ofNat 32 j.val := by
  after_reads_at
  rfl
theorem start_7 : (after tail50 V (Proc.devRef .tc main_v655_7) : IVec S_ 32) = constantI S_ 32 (BitVec.ofNat 32 0) := by
  after_reads_simp
  rfl
theorem start_8 (j : Fin 2000) : after tail50 V (Proc.devRef .tc main_v655_8) (ix1 j) = BitVec.ofBool true := by
  after_reads_at
  rfl

end Reads

section Start

variable (V : Valuation τ sig (Elt Ideal))

theorem split_entry : ∃ U, afterL preI V = after hostOps0_50 U := ⟨_, rfl⟩

/-- The list of scores. -/
theorem scores_eq : (afterL preI V (Proc.devRef .tc main_v630) : FVec Ideal S261888 .f32) = (args V).scores := by
  funext y
  obtain ⟨p, rfl⟩ : ∃ p, y = ix1 p := ⟨y 0, eq_ix1 y⟩
  exact SC_at V p

/-- The best scores. -/
theorem vals : (afterL preI V (Proc.devRef .tc main_values) : FVec Ideal S2000 .f32) = topVals (args V).scores := by
  obtain ⟨U, hU⟩ := split_entry V
  have h := scores_eq V
  rw [hU] at h ⊢
  exact (values_eq U).trans (congrArg topVals h)

/-- Their places. -/
theorem inds (i : Fin 2000) : afterL preI V (Proc.devRef .tc main_indices) (ix1 i) = BitVec.ofNat 32 ((args V).best i.val) := by
  obtain ⟨U, hU⟩ := split_entry V
  have h := scores_eq V
  rw [hU] at h ⊢
  exact (congrFun ((indices_eq U).trans (congrArg topInds h)) (ix1 i)).trans ((args V).best_at i)

/-- The rows of the best boxes. -/
theorem rows_at (i : Fin 2000) (j : Fin 4) : afterL preI V (Proc.devRef .tc main_v637) (ix2 i j)
    = afterL preI V (Proc.devRef .tc main_v629) (ix2 ⟨(args V).best i.val, (args V).best_lt i.val⟩ j) := by
  have h := inds V i
  obtain ⟨U, hU⟩ := split_entry V
  rw [hU] at h ⊢
  exact (congrFun (rows_eq U) (ix2 i j)).trans (takeRows_norm (by decide) _ _ _ _ _ _ _ i j _ ((args V).best_lt i.val) h)

theorem row_0 (i : Fin 2000) : afterL preI V (Proc.devRef .tc main_v637) (ix2 i 0) = (args V).boxes.x1 i.val := (rows_at V i 0).trans (X1_at V _)
theorem row_1 (i : Fin 2000) : afterL preI V (Proc.devRef .tc main_v637) (ix2 i 1) = (args V).boxes.y1 i.val := (rows_at V i 1).trans (Y1_at V _)
theorem row_2 (i : Fin 2000) : afterL preI V (Proc.devRef .tc main_v637) (ix2 i 2) = (args V).boxes.x2 i.val := (rows_at V i 2).trans (X2_at V _)
theorem row_3 (i : Fin 2000) : afterL preI V (Proc.devRef .tc main_v637) (ix2 i 3) = (args V).boxes.y2 i.val := (rows_at V i 3).trans (Y2_at V _)

/-- Whether each box is kept before trip `k`. -/
theorem keeps (k : ℕ) (hk : k ≤ 2000) (j : Fin 2000) : STEP^[k] (afterL preI V) (Proc.devRef .tc main_v655_8) (ix1 j) = BitVec.ofBool ((args V).boxes.keep k j.val) := by
  have r0 := row_0 V
  have r1 := row_1 V
  have r2 := row_2 V
  have r3 := row_3 V
  obtain ⟨U, hU⟩ := split_entry V
  obtain ⟨T, hT⟩ := split50 U
  have e : afterL preI V = after tail50 T := hU.trans hT
  rw [e] at r0 r1 r2 r3 ⊢
  have k0 := fun i => (congrFun (rows_keep T) (ix2 i 0)).symm.trans (r0 i)
  have k1 := fun i => (congrFun (rows_keep T) (ix2 i 1)).symm.trans (r1 i)
  have k2 := fun i => (congrFun (rows_keep T) (ix2 i 2)).symm.trans (r2 i)
  have k3 := fun i => (congrFun (rows_keep T) (ix2 i 3)).symm.trans (r3 i)
  exact (trips_keep (after tail50 T) (args V).boxes (fun j => (edge_0 T j).trans (k0 j)) (fun j => (edge_1 T j).trans (k1 j))
    (fun j => (edge_2 T j).trans (k2 j)) (fun j => (edge_3 T j).trans (k3 j)) (fun j => area_edges T j _ _ _ _ (k0 j) (k1 j) (k2 j) (k3 j))
    (fun j => start_5 T j) (start_7 T) (fun j => start_8 T j) k hk).2.2.2.2.2.2.2 j

end Start

end Cert.Rpn.Ref
end
-- ==== Proof.RefResult.lean ====
/- The plain program's results, over its arguments. -/
module

public import proofs.«01_k».proof.Proof.RefSelect

@[expose] public section

set_option maxRecDepth 16384

noncomputable section

namespace Cert.Rpn.Ref

open Cert.ReferenceIdeal Cert.ReferenceIdeal.Gen Cert.ReferenceIdeal.Value
open Idealize.ShloMosaic Idealize.ShloMosaic.TcCoe Idealize.ShloMosaic.StableHlo

/-- A choice by a flag. -/
theorem three_select {p : Bool} {f : BitVec 1} {a b a' b' : Ideal .f32} (hf : f = BitVec.ofBool p) (ha : a = a') (hb : b = b') :
    Scalar.select f a b = if p = true then a' else b' := by
  subst hf ha hb
  cases p <;> rfl

section Reads

variable (V : Valuation τ sig (Elt Ideal))

/-- The loop keeps the best scores and their rows. -/
theorem trip_values : afterL bodyI (after condOps V) (Proc.devRef .tc main_values) = V (Proc.devRef .tc main_values) := by
  simp only [afterL_cons, afterL_nil]
  after_reads_simp
theorem trip_rows : afterL bodyI (after condOps V) (Proc.devRef .tc main_v637) = V (Proc.devRef .tc main_v637) := by
  simp only [afterL_cons, afterL_nil]
  after_reads_simp
theorem cond_values : after condOps V (Proc.devRef .tc main_values) = V (Proc.devRef .tc main_values) := by
  after_reads_simp
theorem cond_rows : after condOps V (Proc.devRef .tc main_v637) = V (Proc.devRef .tc main_v637) := by
  after_reads_simp

theorem low_at : after hostOps0_51 V (Proc.devRef .tc main_cst_165) ix0 = Ideal.ofBits .f32 0xCE6E6B28#32 := by
  after_reads_at
theorem low_values : after hostOps0_51 V (Proc.devRef .tc main_values) = V (Proc.devRef .tc main_values) := by
  after_reads_simp
theorem low_keep : after hostOps0_51 V (Proc.devRef .tc main_v655_8) = V (Proc.devRef .tc main_v655_8) := by
  after_reads_simp
theorem low_rows : after hostOps0_51 V (Proc.devRef .tc main_v637) = V (Proc.devRef .tc main_v637) := by
  after_reads_simp
theorem kept_at (i : Fin 2000) : after hostOps0_52 V (Proc.devRef .tc main_v656) (ix1 i)
    = Scalar.select (V (Proc.devRef .tc main_v655_8) (ix1 i)) (V (Proc.devRef .tc main_values) (ix1 i)) (V (Proc.devRef .tc main_cst_165) ix0) := by
  after_reads_at
  rfl
theorem kept_rows : after hostOps0_52 V (Proc.devRef .tc main_v637) = V (Proc.devRef .tc main_v637) := by
  after_reads_simp
theorem values2_eq : (after hostOps0_53 V (Proc.devRef .tc main_values_166) : FVec Ideal S1000 .f32) = topVals2 (V (Proc.devRef .tc main_v656)) := by
  unfold topVals2
  after_reads_simp
theorem indices2_eq : (after hostOps0_53 V (Proc.devRef .tc main_indices_167) : IVec S1000 32) = topInds2 (V (Proc.devRef .tc main_v656)) := by
  unfold topInds2
  after_reads_simp
theorem pick_eq : (after hostOps0_53 V (Proc.devRef .tc main_v663) : FVec Ideal S1000x4 .f32)
    = Host.gather gather_S2000x4_S1000x1_S1000x4_1_0_n_n_0_1_14 (V (Proc.devRef .tc main_v637) : FVec Ideal S2000x4 .f32) (broadcastInDim S1000x1 ![0] bcast_S1000_S1000x1_0
      (select (cmpi .slt (after hostOps0_53 V (Proc.devRef .tc main_indices_167) : IVec S1000 32) (broadcastInDim S1000 ![] bcast_S_S1000 (constantI S_ 32 0#32)))
        (addi (after hostOps0_53 V (Proc.devRef .tc main_indices_167) : IVec S1000 32) (broadcastInDim S1000 ![] bcast_S_S1000 (constantI S_ 32 2000#32)))
        (after hostOps0_53 V (Proc.devRef .tc main_indices_167) : IVec S1000 32))) := by
  after_reads_simp
theorem cell0 (i : Fin 1000) : after hostOps0_53 V (Proc.devRef .tc main_v665) (ix2 i 0) = (0 : Ideal .f32) := by
  after_reads_at
theorem cell1 (i : Fin 1000) (x : Ideal .f32) (h : after hostOps0_53 V (Proc.devRef .tc main_v663) (ix2 i 0) = x) :
    after hostOps0_53 V (Proc.devRef .tc main_v665) (ix2 i 1) = x := by
  after_reads_at
  rw [← h]
  after_reads_at
theorem cell2 (i : Fin 1000) (x : Ideal .f32) (h : after hostOps0_53 V (Proc.devRef .tc main_v663) (ix2 i 1) = x) :
    after hostOps0_53 V (Proc.devRef .tc main_v665) (ix2 i 2) = x := by
  after_reads_at
  rw [← h]
  after_reads_at
theorem cell3 (i : Fin 1000) (x : Ideal .f32) (h : after hostOps0_53 V (Proc.devRef .tc main_v663) (ix2 i 2) = x) :
    after hostOps0_53 V (Proc.devRef .tc main_v665) (ix2 i 3) = x := by
  after_reads_at
  rw [← h]
  after_reads_at
theorem cell4 (i : Fin 1000) (x : Ideal .f32) (h : after hostOps0_53 V (Proc.devRef .tc main_v663) (ix2 i 3) = x) :
    after hostOps0_53 V (Proc.devRef .tc main_v665) (ix2 i 4) = x := by
  after_reads_at
  rw [← h]
  after_reads_at

end Reads

section Results

variable (m : (ℓ : Loc nD τ sig) → Buf (Elt Ideal) ℓ) (c : Dev nD)

/-- The arguments, of what the memory holds at the start. -/
abbrev argsOf : Args := args fun b => m (c, b)

/-- The contents after the loop. -/
abbrev E0 : Valuation τ sig (Elt Ideal) := after condOps (atTrip condOps bodyI (entryContents preI m) 2000 c)

theorem at_values : ∀ k, atTrip condOps bodyI (entryContents preI m) k c (Proc.devRef .tc main_values) = entryContents preI m c (Proc.devRef .tc main_values)
  | 0 => rfl
  | k + 1 => (trip_values _).trans (at_values k)
theorem at_rows : ∀ k, atTrip condOps bodyI (entryContents preI m) k c (Proc.devRef .tc main_v637) = entryContents preI m c (Proc.devRef .tc main_v637)
  | 0 => rfl
  | k + 1 => (trip_rows _).trans (at_rows k)

theorem end_values : (E0 m c (Proc.devRef .tc main_values) : FVec Ideal S2000 .f32) = topVals (argsOf m c).scores :=
  (cond_values _).trans ((at_values m c 2000).trans (vals _))
theorem end_rows : E0 m c (Proc.devRef .tc main_v637) = entryContents preI m c (Proc.devRef .tc main_v637) :=
  (cond_rows _).trans (at_rows m c 2000)
theorem end_keep (i : Fin 2000) : E0 m c (Proc.devRef .tc main_v655_8) (ix1 i) = BitVec.ofBool ((argsOf m c).boxes.keep 2000 i.val) :=
  (congrFun ((cond_keeps _ main_v655_8 (by decide)).trans (atK_agree m c 2000 main_v655_8 (by decide))) (ix1 i)).trans (keeps _ 2000 le_rfl i)

/-- The contents before the last operations. -/
abbrev E1 : Valuation τ sig (Elt Ideal) := after hostOps0_52 (after hostOps0_51 (E0 m c))

theorem kept_eq : (E1 m c (Proc.devRef .tc main_v656) : FVec Ideal S2000 .f32) = (argsOf m c).kept := by
  funext y
  obtain ⟨i, rfl⟩ : ∃ i, y = ix1 i := ⟨y 0, eq_ix1 y⟩
  refine (kept_at _ i).trans ?_
  refine (three_select ((congrFun (low_keep _) (ix1 i)).trans (end_keep m c i)) (congrFun ((low_values _).trans (end_values m c)) (ix1 i)) (low_at _)).trans ?_
  unfold Args.kept
  rfl

/-- The first result. -/
theorem scores_out : (finalContents condOps preI bodyI postI 2000 m c (Proc.devRef .tc main_values_166) : FVec Ideal S1000 .f32) = (argsOf m c).resScores :=
  (values2_eq (E1 m c)).trans (congrArg topVals2 (kept_eq m c))

theorem last_at (i : Fin 1000) : after hostOps0_53 (E1 m c) (Proc.devRef .tc main_indices_167) (ix1 i) = BitVec.ofNat 32 ((argsOf m c).last i) :=
  (congrFun ((indices2_eq (E1 m c)).trans (congrArg topInds2 (kept_eq m c))) (ix1 i)).trans ((argsOf m c).last_at i)

theorem picked (i : Fin 1000) (j : Fin 4) : after hostOps0_53 (E1 m c) (Proc.devRef .tc main_v663) (ix2 i j)
    = entryContents preI m c (Proc.devRef .tc main_v637) (ix2 ⟨(argsOf m c).last i, (argsOf m c).last_lt i⟩ j) :=
  (congrFun (pick_eq (E1 m c)) (ix2 i j)).trans ((takeRows_norm (by decide) _ _ _ _ _ _ _ i j _ ((argsOf m c).last_lt i) (last_at m c i)).trans
    (congrFun ((kept_rows _).trans ((low_rows _).trans (end_rows m c))) _))

/-- The second result. -/
theorem boxes_out : (finalContents condOps preI bodyI postI 2000 m c (Proc.devRef .tc main_v665) : FVec Ideal S1000x5 .f32) = (argsOf m c).resBoxes :=
  (argsOf m c).eq_resBoxes _ (fun i => cell0 (E1 m c) i) (fun i => cell1 (E1 m c) i _ ((picked m c i 0).trans (row_0 _ _)))
    (fun i => cell2 (E1 m c) i _ ((picked m c i 1).trans (row_1 _ _))) (fun i => cell3 (E1 m c) i _ ((picked m c i 2).trans (row_2 _ _)))
    (fun i => cell4 (E1 m c) i _ ((picked m c i 3).trans (row_3 _ _)))

end Results

end Cert.Rpn.Ref
end
-- ==== Proof.Results.lean ====
/- The two programs' results are the same function of equal arguments. -/
module

public import proofs.«01_k».proof.Proof.KerResult
public import proofs.«01_k».proof.Proof.KerRun
public import proofs.«01_k».proof.Proof.RefResult
public import proofs.«01_k».proof.Proof.RefRun

@[expose] public section

noncomputable section

namespace Cert.Rpn

open Idealize.ShloMosaic Idealize.SL.Sem

/-- Equal arrays make equal arguments. -/
theorem args_congr {A B : Args} (h0 : B.s0 = A.s0) (h1 : B.s1 = A.s1) (h2 : B.s2 = A.s2) (h3 : B.s3 = A.s3) (h4 : B.s4 = A.s4)
    (h5 : B.b0 = A.b0) (h6 : B.b1 = A.b1) (h7 : B.b2 = A.b2) (h8 : B.b3 = A.b3) (h9 : B.b4 = A.b4) (h10 : B.im = A.im) : B = A := by
  cases A
  cases B
  cases h0
  cases h1
  cases h2
  cases h3
  cases h4
  cases h5
  cases h6
  cases h7
  cases h8
  cases h9
  cases h10
  rfl

/-- Over the extended reals, the optimised program and the plain one return equal arrays. -/
theorem algebraic : Cert.algebraic_KernelIdeal_ReferenceIdeal := by
  intro m g m' g' _ hargs
  have e : ∀ c, Ref.argsOf m' c = Ker.args (Cert.KernelIdeal.Gen.W0 m g c) := fun c => by
    obtain ⟨h0, h1, h2, h3, h4, h5, h6, h7, h8, h9, h10⟩ := hargs c
    exact args_congr h0 h1 h2 h3 h4 h5 h6 h7 h8 h9 h10
  refine ⟨fun c => (Ker.args (Cert.KernelIdeal.Gen.W0 m g c)).resBoxes, fun c => (Ker.args (Cert.KernelIdeal.Gen.W0 m g c)).resScores, ?_, ?_⟩
  · exact (θ_run Cert.KernelIdeal.defs _ _).mono (fun r h c => ⟨(h c).1.trans (Ker.boxes_out m g c), (h c).2.1.trans (Ker.scores_out m g c), (h c).2.2⟩)
      (Ker.run m g)
  · exact (θ_run Cert.ReferenceIdeal.defs _ _).mono (fun r h c => ⟨(h c).1.trans ((Ref.boxes_out m' c).trans (congrArg Args.resBoxes (e c))),
      (h c).2.1.trans ((Ref.scores_out m' c).trans (congrArg Args.resScores (e c))), (h c).2.2⟩) (Ref.run g' m')

end Cert.Rpn
end
-- ==== Proof.lean ====
/- The five claims, assembled: the frames of the kernel and of its idealisation are the generated ones, the frame of
   the reference follows its host loop (RefRun), the idealisation rewrites nothing, and the two programs return equal
   arrays over the extended reals (Results). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.Results
public import Idealize.ShloMosaic.Adequacy
public import Idealize.ShloMosaic.Init

@[expose] public section

noncomputable section

namespace Cert.Proof

open Idealize.ShloMosaic Idealize.SL.Sem Cert.Kernel

/-- Every claim about the three programs holds. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.Rpn.Ref.frame ρ m,
  trivial, Cert.Rpn.algebraic⟩

end Cert.Proof

end
